-- ==== Defs.lean ====
def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixRefIdeal (m : (ℓ : Loc Cert.MixRefIdeal.nD Cert.MixRefIdeal.τ Cert.MixRefIdeal.sig) → Buf (Elt Ideal) ℓ) : Prop :=
  True

def Pre_InRows (m : (ℓ : Loc Cert.InRows.nD Cert.InRows.τ Cert.InRows.sig) → Buf (Elt Bits) ℓ) : Prop :=
  True

def Pre_InRowsIdeal (m : (ℓ : Loc Cert.InRowsIdeal.nD Cert.InRowsIdeal.τ Cert.InRowsIdeal.sig) → Buf (Elt Ideal) ℓ) : Prop :=
  True

def Pre_InRowsRefIdeal (m : (ℓ : Loc Cert.InRowsRefIdeal.nD Cert.InRowsRefIdeal.τ Cert.InRowsRefIdeal.sig) → Buf (Elt Ideal) ℓ) : Prop :=
  True

def Pre_MixS (m : (ℓ : Loc Cert.MixS.nD Cert.MixS.τ Cert.MixS.sig) → Buf (Elt Bits) ℓ) : Prop :=
  True

def Pre_MixSIdeal (m : (ℓ : Loc Cert.MixSIdeal.nD Cert.MixSIdeal.τ Cert.MixSIdeal.sig) → Buf (Elt Ideal) ℓ) : Prop :=
  True

def Pre_MixSRefIdeal (m : (ℓ : Loc Cert.MixSRefIdeal.nD Cert.MixSRefIdeal.τ Cert.MixSRefIdeal.sig) → Buf (Elt Ideal) ℓ) : Prop :=
  True

def Pre_FfnS (m : (ℓ : Loc Cert.FfnS.nD Cert.FfnS.τ Cert.FfnS.sig) → Buf (Elt Bits) ℓ) : Prop :=
  True

def Pre_FfnSIdeal (m : (ℓ : Loc Cert.FfnSIdeal.nD Cert.FfnSIdeal.τ Cert.FfnSIdeal.sig) → Buf (Elt Ideal) ℓ) : Prop :=
  True

def Pre_FfnSRefIdeal (m : (ℓ : Loc Cert.FfnSRefIdeal.nD Cert.FfnSRefIdeal.τ Cert.FfnSRefIdeal.sig) → Buf (Elt Ideal) ℓ) : Prop :=
  True

def Pre_CmpS (m : (ℓ : Loc Cert.CmpS.nD Cert.CmpS.τ Cert.CmpS.sig) → Buf (Elt Bits) ℓ) : Prop :=
  True

def Pre_CmpSIdeal (m : (ℓ : Loc Cert.CmpSIdeal.nD Cert.CmpSIdeal.τ Cert.CmpSIdeal.sig) → Buf (Elt Ideal) ℓ) : Prop :=
  True

def Pre_CmpSIdeal_finite_scores [hPre_finite_scores : Cert.Pre_finite_scores.Facts] (m : (ℓ : Loc Cert.CmpSIdeal.nD Cert.CmpSIdeal.τ Cert.CmpSIdeal.sig) → Buf (Elt Ideal) ℓ) : Prop :=
  ∀ c : Dev Cert.CmpSIdeal.nD,
    (Cert.Pre_finite_scores.fn (F := Ideal) (m ((c.tc : Thread Cert.CmpSIdeal.nD Cert.CmpSIdeal.τ).loc Cert.CmpSIdeal.main_arg0)) (m ((c.tc : Thread Cert.CmpSIdeal.nD Cert.CmpSIdeal.τ).loc Cert.CmpSIdeal.main_arg1)) (m ((c.tc : Thread Cert.CmpSIdeal.nD Cert.CmpSIdeal.τ).loc Cert.CmpSIdeal.main_arg2))).1 = (fun _ => 1#1)
    ∧ (Cert.Pre_finite_scores.fn (F := Ideal) (m ((c.tc : Thread Cert.CmpSIdeal.nD Cert.CmpSIdeal.τ).loc Cert.CmpSIdeal.main_arg0)) (m ((c.tc : Thread Cert.CmpSIdeal.nD Cert.CmpSIdeal.τ).loc Cert.CmpSIdeal.main_arg1)) (m ((c.tc : Thread Cert.CmpSIdeal.nD Cert.CmpSIdeal.τ).loc Cert.CmpSIdeal.main_arg2))).2.1 = (fun _ => 1#1)
    ∧ (Cert.Pre_finite_scores.fn (F := Ideal) (m ((c.tc : Thread Cert.CmpSIdeal.nD Cert.CmpSIdeal.τ).loc Cert.CmpSIdeal.main_arg0)) (m ((c.tc : Thread Cert.CmpSIdeal.nD Cert.CmpSIdeal.τ).loc Cert.CmpSIdeal.main_arg1)) (m ((c.tc : Thread Cert.CmpSIdeal.nD Cert.CmpSIdeal.τ).loc Cert.CmpSIdeal.main_arg2))).2.2 = (fun _ => 1#1)

def Pre_CmpSRefIdeal (m : (ℓ : Loc Cert.CmpSRefIdeal.nD Cert.CmpSRefIdeal.τ Cert.CmpSRefIdeal.sig) → Buf (Elt Ideal) ℓ) : Prop :=
  True

def Pre_CmpSRefIdeal_finite_scores [hPre_finite_scores : Cert.Pre_finite_scores.Facts] (m : (ℓ : Loc Cert.CmpSRefIdeal.nD Cert.CmpSRefIdeal.τ Cert.CmpSRefIdeal.sig) → Buf (Elt Ideal) ℓ) : Prop :=
  ∀ c : Dev Cert.CmpSRefIdeal.nD,
    (Cert.Pre_finite_scores.fn (F := Ideal) (m ((c.tc : Thread Cert.CmpSRefIdeal.nD Cert.CmpSRefIdeal.τ).loc Cert.CmpSRefIdeal.main_arg0)) (m ((c.tc : Thread Cert.CmpSRefIdeal.nD Cert.CmpSRefIdeal.τ).loc Cert.CmpSRefIdeal.main_arg1)) (m ((c.tc : Thread Cert.CmpSRefIdeal.nD Cert.CmpSRefIdeal.τ).loc Cert.CmpSRefIdeal.main_arg2))).1 = (fun _ => 1#1)
    ∧ (Cert.Pre_finite_scores.fn (F := Ideal) (m ((c.tc : Thread Cert.CmpSRefIdeal.nD Cert.CmpSRefIdeal.τ).loc Cert.CmpSRefIdeal.main_arg0)) (m ((c.tc : Thread Cert.CmpSRefIdeal.nD Cert.CmpSRefIdeal.τ).loc Cert.CmpSRefIdeal.main_arg1)) (m ((c.tc : Thread Cert.CmpSRefIdeal.nD Cert.CmpSRefIdeal.τ).loc Cert.CmpSRefIdeal.main_arg2))).2.1 = (fun _ => 1#1)
    ∧ (Cert.Pre_finite_scores.fn (F := Ideal) (m ((c.tc : Thread Cert.CmpSRefIdeal.nD Cert.CmpSRefIdeal.τ).loc Cert.CmpSRefIdeal.main_arg0)) (m ((c.tc : Thread Cert.CmpSRefIdeal.nD Cert.CmpSRefIdeal.τ).loc Cert.CmpSRefIdeal.main_arg1)) (m ((c.tc : Thread Cert.CmpSRefIdeal.nD Cert.CmpSRefIdeal.τ).loc Cert.CmpSRefIdeal.main_arg2))).2.2 = (fun _ => 1#1)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6)
      ∧ r.2.mem ((c.tc : Thread Cert.Ffn.nD Cert.Ffn.τ).loc Cert.Ffn.main_arg7) = m ((c.tc : Thread Cert.Ffn.nD Cert.Ffn.τ).loc Cert.Ffn.main_arg7)
      ∧ r.2.mem ((c.tc : Thread Cert.Ffn.nD Cert.Ffn.τ).loc Cert.Ffn.main_arg8) = m ((c.tc : Thread Cert.Ffn.nD Cert.Ffn.τ).loc Cert.Ffn.main_arg8)
      ∧ r.2.mem ((c.tc : Thread Cert.Ffn.nD Cert.Ffn.τ).loc Cert.Ffn.main_arg9) = m ((c.tc : Thread Cert.Ffn.nD Cert.Ffn.τ).loc Cert.Ffn.main_arg9))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
      ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7)
      ∧ r.2.mem ((c.tc : Thread Cert.FfnIdeal.nD Cert.FfnIdeal.τ).loc Cert.FfnIdeal.main_arg8) = m ((c.tc : Thread Cert.FfnIdeal.nD Cert.FfnIdeal.τ).loc Cert.FfnIdeal.main_arg8)
      ∧ r.2.mem ((c.tc : Thread Cert.FfnIdeal.nD Cert.FfnIdeal.τ).loc Cert.FfnIdeal.main_arg9) = m ((c.tc : Thread Cert.FfnIdeal.nD Cert.FfnIdeal.τ).loc Cert.FfnIdeal.main_arg9))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5)
      ∧ r.2.mem ((c.tc : Thread Cert.FfnRefIdeal.nD Cert.FfnRefIdeal.τ).loc Cert.FfnRefIdeal.main_arg6) = m ((c.tc : Thread Cert.FfnRefIdeal.nD Cert.FfnRefIdeal.τ).loc Cert.FfnRefIdeal.main_arg6)
      ∧ r.2.mem ((c.tc : Thread Cert.FfnRefIdeal.nD Cert.FfnRefIdeal.τ).loc Cert.FfnRefIdeal.main_arg7) = m ((c.tc : Thread Cert.FfnRefIdeal.nD Cert.FfnRefIdeal.τ).loc Cert.FfnRefIdeal.main_arg7)
      ∧ r.2.mem ((c.tc : Thread Cert.FfnRefIdeal.nD Cert.FfnRefIdeal.τ).loc Cert.FfnRefIdeal.main_arg8) = m ((c.tc : Thread Cert.FfnRefIdeal.nD Cert.FfnRefIdeal.τ).loc Cert.FfnRefIdeal.main_arg8)
      ∧ r.2.mem ((c.tc : Thread Cert.FfnRefIdeal.nD Cert.FfnRefIdeal.τ).loc Cert.FfnRefIdeal.main_arg9) = m ((c.tc : Thread Cert.FfnRefIdeal.nD Cert.FfnRefIdeal.τ).loc Cert.FfnRefIdeal.main_arg9))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2)
      ∧ r.2.mem ((c.tc : Thread Cert.InProj.nD Cert.InProj.τ).loc Cert.InProj.main_arg3) = m ((c.tc : Thread Cert.InProj.nD Cert.InProj.τ).loc Cert.InProj.main_arg3)
      ∧ r.2.mem ((c.tc : Thread Cert.InProj.nD Cert.InProj.τ).loc Cert.InProj.main_arg4) = m ((c.tc : Thread Cert.InProj.nD Cert.InProj.τ).loc Cert.InProj.main_arg4)
      ∧ r.2.mem ((c.tc : Thread Cert.InProj.nD Cert.InProj.τ).loc Cert.InProj.main_arg5) = m ((c.tc : Thread Cert.InProj.nD Cert.InProj.τ).loc Cert.InProj.main_arg5))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
      ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4)
      ∧ r.2.mem ((c.tc : Thread Cert.InProjIdeal.nD Cert.InProjIdeal.τ).loc Cert.InProjIdeal.main_arg5) = m ((c.tc : Thread Cert.InProjIdeal.nD Cert.InProjIdeal.τ).loc Cert.InProjIdeal.main_arg5))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2)
      ∧ r.2.mem ((c.tc : Thread Cert.InProjRefIdeal.nD Cert.InProjRefIdeal.τ).loc Cert.InProjRefIdeal.main_arg3) = m ((c.tc : Thread Cert.InProjRefIdeal.nD Cert.InProjRefIdeal.τ).loc Cert.InProjRefIdeal.main_arg3)
      ∧ r.2.mem ((c.tc : Thread Cert.InProjRefIdeal.nD Cert.InProjRefIdeal.τ).loc Cert.InProjRefIdeal.main_arg4) = m ((c.tc : Thread Cert.InProjRefIdeal.nD Cert.InProjRefIdeal.τ).loc Cert.InProjRefIdeal.main_arg4)
      ∧ r.2.mem ((c.tc : Thread Cert.InProjRefIdeal.nD Cert.InProjRefIdeal.τ).loc Cert.InProjRefIdeal.main_arg5) = m ((c.tc : Thread Cert.InProjRefIdeal.nD Cert.InProjRefIdeal.τ).loc Cert.InProjRefIdeal.main_arg5))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5)
      ∧ r.2.mem ((c.tc : Thread Cert.Mix.nD Cert.Mix.τ).loc Cert.Mix.main_arg6) = m ((c.tc : Thread Cert.Mix.nD Cert.Mix.τ).loc Cert.Mix.main_arg6)
      ∧ r.2.mem ((c.tc : Thread Cert.Mix.nD Cert.Mix.τ).loc Cert.Mix.main_arg7) = m ((c.tc : Thread Cert.Mix.nD Cert.Mix.τ).loc Cert.Mix.main_arg7)
      ∧ r.2.mem ((c.tc : Thread Cert.Mix.nD Cert.Mix.τ).loc Cert.Mix.main_arg8) = m ((c.tc : Thread Cert.Mix.nD Cert.Mix.τ).loc Cert.Mix.main_arg8)
      ∧ r.2.mem ((c.tc : Thread Cert.Mix.nD Cert.Mix.τ).loc Cert.Mix.main_arg9) = m ((c.tc : Thread Cert.Mix.nD Cert.Mix.τ).loc Cert.Mix.main_arg9)
      ∧ r.2.mem ((c.tc : Thread Cert.Mix.nD Cert.Mix.τ).loc Cert.Mix.main_arg10) = m ((c.tc : Thread Cert.Mix.nD Cert.Mix.τ).loc Cert.Mix.main_arg10)
      ∧ r.2.mem ((c.tc : Thread Cert.Mix.nD Cert.Mix.τ).loc Cert.Mix.main_arg11) = m ((c.tc : Thread Cert.Mix.nD Cert.Mix.τ).loc Cert.Mix.main_arg11))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
      ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
      ∧ r.2.mem ((c.tc : Thread Cert.MixIdeal.nD Cert.MixIdeal.τ).loc Cert.MixIdeal.main_arg9) = m ((c.tc : Thread Cert.MixIdeal.nD Cert.MixIdeal.τ).loc Cert.MixIdeal.main_arg9)
      ∧ r.2.mem ((c.tc : Thread Cert.MixIdeal.nD Cert.MixIdeal.τ).loc Cert.MixIdeal.main_arg10) = m ((c.tc : Thread Cert.MixIdeal.nD Cert.MixIdeal.τ).loc Cert.MixIdeal.main_arg10)
      ∧ r.2.mem ((c.tc : Thread Cert.MixIdeal.nD Cert.MixIdeal.τ).loc Cert.MixIdeal.main_arg11) = m ((c.tc : Thread Cert.MixIdeal.nD Cert.MixIdeal.τ).loc Cert.MixIdeal.main_arg11))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5)
      ∧ r.2.mem ((c.tc : Thread Cert.MixRefIdeal.nD Cert.MixRefIdeal.τ).loc Cert.MixRefIdeal.main_arg6) = m ((c.tc : Thread Cert.MixRefIdeal.nD Cert.MixRefIdeal.τ).loc Cert.MixRefIdeal.main_arg6)
      ∧ r.2.mem ((c.tc : Thread Cert.MixRefIdeal.nD Cert.MixRefIdeal.τ).loc Cert.MixRefIdeal.main_arg7) = m ((c.tc : Thread Cert.MixRefIdeal.nD Cert.MixRefIdeal.τ).loc Cert.MixRefIdeal.main_arg7)
      ∧ r.2.mem ((c.tc : Thread Cert.MixRefIdeal.nD Cert.MixRefIdeal.τ).loc Cert.MixRefIdeal.main_arg8) = m ((c.tc : Thread Cert.MixRefIdeal.nD Cert.MixRefIdeal.τ).loc Cert.MixRefIdeal.main_arg8)
      ∧ r.2.mem ((c.tc : Thread Cert.MixRefIdeal.nD Cert.MixRefIdeal.τ).loc Cert.MixRefIdeal.main_arg9) = m ((c.tc : Thread Cert.MixRefIdeal.nD Cert.MixRefIdeal.τ).loc Cert.MixRefIdeal.main_arg9)
      ∧ r.2.mem ((c.tc : Thread Cert.MixRefIdeal.nD Cert.MixRefIdeal.τ).loc Cert.MixRefIdeal.main_arg10) = m ((c.tc : Thread Cert.MixRefIdeal.nD Cert.MixRefIdeal.τ).loc Cert.MixRefIdeal.main_arg10)
      ∧ r.2.mem ((c.tc : Thread Cert.MixRefIdeal.nD Cert.MixRefIdeal.τ).loc Cert.MixRefIdeal.main_arg11) = m ((c.tc : Thread Cert.MixRefIdeal.nD Cert.MixRefIdeal.τ).loc Cert.MixRefIdeal.main_arg11))
      ∧ r.2.sem = fun _ => 0)

def quiescent_InRows [hInRows : Cert.InRows.Facts] : Prop :=
  ∀ (m : (ℓ : Loc Cert.InRows.nD Cert.InRows.τ Cert.InRows.sig) → Buf (Elt Bits) ℓ) (g : Dev Cert.InRows.nD → PrngReg), Pre_InRows m →
    θ_run (Cert.InRows.defs (F := Bits)) (onTc (τ := Cert.InRows.τ) (Cert.InRows.main (F := Bits))) ⟨m, fun _ => 0, g⟩ (fun r => (∀ c : Dev Cert.InRows.nD,
      r.2.mem ((c.tc : Thread Cert.InRows.nD Cert.InRows.τ).loc Cert.InRows.main_arg0) = m ((c.tc : Thread Cert.InRows.nD Cert.InRows.τ).loc Cert.InRows.main_arg0)
      ∧ r.2.mem ((c.tc : Thread Cert.InRows.nD Cert.InRows.τ).loc Cert.InRows.main_arg1) = m ((c.tc : Thread Cert.InRows.nD Cert.InRows.τ).loc Cert.InRows.main_arg1)
      ∧ r.2.mem ((c.tc : Thread Cert.InRows.nD Cert.InRows.τ).loc Cert.InRows.main_arg2) = m ((c.tc : Thread Cert.InRows.nD Cert.InRows.τ).loc Cert.InRows.main_arg2)
      ∧ r.2.mem ((c.tc : Thread Cert.InRows.nD Cert.InRows.τ).loc Cert.InRows.main_arg3) = m ((c.tc : Thread Cert.InRows.nD Cert.InRows.τ).loc Cert.InRows.main_arg3))
      ∧ r.2.sem = fun _ => 0)

def quiescent_InRowsIdeal [hInRowsIdeal : Cert.InRowsIdeal.Facts] : Prop :=
  ∀ (m : (ℓ : Loc Cert.InRowsIdeal.nD Cert.InRowsIdeal.τ Cert.InRowsIdeal.sig) → Buf (Elt Ideal) ℓ) (g : Dev Cert.InRowsIdeal.nD → PrngReg), Pre_InRowsIdeal m →
    θ_run (Cert.InRowsIdeal.defs (F := Ideal)) (onTc (τ := Cert.InRowsIdeal.τ) (Cert.InRowsIdeal.main (F := Ideal))) ⟨m, fun _ => 0, g⟩ (fun r => (∀ c : Dev Cert.InRowsIdeal.nD,
      r.2.mem ((c.tc : Thread Cert.InRowsIdeal.nD Cert.InRowsIdeal.τ).loc Cert.InRowsIdeal.main_arg0) = m ((c.tc : Thread Cert.InRowsIdeal.nD Cert.InRowsIdeal.τ).loc Cert.InRowsIdeal.main_arg0)
      ∧ r.2.mem ((c.tc : Thread Cert.InRowsIdeal.nD Cert.InRowsIdeal.τ).loc Cert.InRowsIdeal.main_arg1) = m ((c.tc : Thread Cert.InRowsIdeal.nD Cert.InRowsIdeal.τ).loc Cert.InRowsIdeal.main_arg1)
      ∧ r.2.mem ((c.tc : Thread Cert.InRowsIdeal.nD Cert.InRowsIdeal.τ).loc Cert.InRowsIdeal.main_arg2) = m ((c.tc : Thread Cert.InRowsIdeal.nD Cert.InRowsIdeal.τ).loc Cert.InRowsIdeal.main_arg2)
      ∧ r.2.mem ((c.tc : Thread Cert.InRowsIdeal.nD Cert.InRowsIdeal.τ).loc Cert.InRowsIdeal.main_arg3) = m ((c.tc : Thread Cert.InRowsIdeal.nD Cert.InRowsIdeal.τ).loc Cert.InRowsIdeal.main_arg3))
      ∧ r.2.sem = fun _ => 0)

def quiescent_InRowsRefIdeal [hInRowsRefIdeal : Cert.InRowsRefIdeal.Facts] : Prop :=
  ∀ (m : (ℓ : Loc Cert.InRowsRefIdeal.nD Cert.InRowsRefIdeal.τ Cert.InRowsRefIdeal.sig) → Buf (Elt Ideal) ℓ) (g : Dev Cert.InRowsRefIdeal.nD → PrngReg), Pre_InRowsRefIdeal m →
    θ_run (Cert.InRowsRefIdeal.defs (F := Ideal)) (onTc (τ := Cert.InRowsRefIdeal.τ) (Cert.InRowsRefIdeal.main (F := Ideal))) ⟨m, fun _ => 0, g⟩ (fun r => (∀ c : Dev Cert.InRowsRefIdeal.nD,
      r.2.mem ((c.tc : Thread Cert.InRowsRefIdeal.nD Cert.InRowsRefIdeal.τ).loc Cert.InRowsRefIdeal.main_arg0) = m ((c.tc : Thread Cert.InRowsRefIdeal.nD Cert.InRowsRefIdeal.τ).loc Cert.InRowsRefIdeal.main_arg0)
      ∧ r.2.mem ((c.tc : Thread Cert.InRowsRefIdeal.nD Cert.InRowsRefIdeal.τ).loc Cert.InRowsRefIdeal.main_arg1) = m ((c.tc : Thread Cert.InRowsRefIdeal.nD Cert.InRowsRefIdeal.τ).loc Cert.InRowsRefIdeal.main_arg1)
      ∧ r.2.mem ((c.tc : Thread Cert.InRowsRefIdeal.nD Cert.InRowsRefIdeal.τ).loc Cert.InRowsRefIdeal.main_arg2) = m ((c.tc : Thread Cert.InRowsRefIdeal.nD Cert.InRowsRefIdeal.τ).loc Cert.InRowsRefIdeal.main_arg2)
      ∧ r.2.mem ((c.tc : Thread Cert.InRowsRefIdeal.nD Cert.InRowsRefIdeal.τ).loc Cert.InRowsRefIdeal.main_arg3) = m ((c.tc : Thread Cert.InRowsRefIdeal.nD Cert.InRowsRefIdeal.τ).loc Cert.InRowsRefIdeal.main_arg3))
      ∧ r.2.sem = fun _ => 0)

def quiescent_MixS [hMixS : Cert.MixS.Facts] : Prop :=
  ∀ (m : (ℓ : Loc Cert.MixS.nD Cert.MixS.τ Cert.MixS.sig) → Buf (Elt Bits) ℓ) (g : Dev Cert.MixS.nD → PrngReg), Pre_MixS m →
    θ_run (Cert.MixS.defs (F := Bits)) (onTc (τ := Cert.MixS.τ) (Cert.MixS.main (F := Bits))) ⟨m, fun _ => 0, g⟩ (fun r => (∀ c : Dev Cert.MixS.nD,
      r.2.mem ((c.tc : Thread Cert.MixS.nD Cert.MixS.τ).loc Cert.MixS.main_arg0) = m ((c.tc : Thread Cert.MixS.nD Cert.MixS.τ).loc Cert.MixS.main_arg0)
      ∧ r.2.mem ((c.tc : Thread Cert.MixS.nD Cert.MixS.τ).loc Cert.MixS.main_arg1) = m ((c.tc : Thread Cert.MixS.nD Cert.MixS.τ).loc Cert.MixS.main_arg1)
      ∧ r.2.mem ((c.tc : Thread Cert.MixS.nD Cert.MixS.τ).loc Cert.MixS.main_arg2) = m ((c.tc : Thread Cert.MixS.nD Cert.MixS.τ).loc Cert.MixS.main_arg2)
      ∧ r.2.mem ((c.tc : Thread Cert.MixS.nD Cert.MixS.τ).loc Cert.MixS.main_arg3) = m ((c.tc : Thread Cert.MixS.nD Cert.MixS.τ).loc Cert.MixS.main_arg3)
      ∧ r.2.mem ((c.tc : Thread Cert.MixS.nD Cert.MixS.τ).loc Cert.MixS.main_arg4) = m ((c.tc : Thread Cert.MixS.nD Cert.MixS.τ).loc Cert.MixS.main_arg4)
      ∧ r.2.mem ((c.tc : Thread Cert.MixS.nD Cert.MixS.τ).loc Cert.MixS.main_arg5) = m ((c.tc : Thread Cert.MixS.nD Cert.MixS.τ).loc Cert.MixS.main_arg5)
      ∧ r.2.mem ((c.tc : Thread Cert.MixS.nD Cert.MixS.τ).loc Cert.MixS.main_arg6) = m ((c.tc : Thread Cert.MixS.nD Cert.MixS.τ).loc Cert.MixS.main_arg6)
      ∧ r.2.mem ((c.tc : Thread Cert.MixS.nD Cert.MixS.τ).loc Cert.MixS.main_arg7) = m ((c.tc : Thread Cert.MixS.nD Cert.MixS.τ).loc Cert.MixS.main_arg7)
      ∧ r.2.mem ((c.tc : Thread Cert.MixS.nD Cert.MixS.τ).loc Cert.MixS.main_arg8) = m ((c.tc : Thread Cert.MixS.nD Cert.MixS.τ).loc Cert.MixS.main_arg8)
      ∧ r.2.mem ((c.tc : Thread Cert.MixS.nD Cert.MixS.τ).loc Cert.MixS.main_arg9) = m ((c.tc : Thread Cert.MixS.nD Cert.MixS.τ).loc Cert.MixS.main_arg9)
      ∧ r.2.mem ((c.tc : Thread Cert.MixS.nD Cert.MixS.τ).loc Cert.MixS.main_arg10) = m ((c.tc : Thread Cert.MixS.nD Cert.MixS.τ).loc Cert.MixS.main_arg10)
      ∧ r.2.mem ((c.tc : Thread Cert.MixS.nD Cert.MixS.τ).loc Cert.MixS.main_arg11) = m ((c.tc : Thread Cert.MixS.nD Cert.MixS.τ).loc Cert.MixS.main_arg11))
      ∧ r.2.sem = fun _ => 0)

def quiescent_MixSIdeal [hMixSIdeal : Cert.MixSIdeal.Facts] : Prop :=
  ∀ (m : (ℓ : Loc Cert.MixSIdeal.nD Cert.MixSIdeal.τ Cert.MixSIdeal.sig) → Buf (Elt Ideal) ℓ) (g : Dev Cert.MixSIdeal.nD → PrngReg), Pre_MixSIdeal m →
    θ_run (Cert.MixSIdeal.defs (F := Ideal)) (onTc (τ := Cert.MixSIdeal.τ) (Cert.MixSIdeal.main (F := Ideal))) ⟨m, fun _ => 0, g⟩ (fun r => (∀ c : Dev Cert.MixSIdeal.nD,
      r.2.mem ((c.tc : Thread Cert.MixSIdeal.nD Cert.MixSIdeal.τ).loc Cert.MixSIdeal.main_arg0) = m ((c.tc : Thread Cert.MixSIdeal.nD Cert.MixSIdeal.τ).loc Cert.MixSIdeal.main_arg0)
      ∧ r.2.mem ((c.tc : Thread Cert.MixSIdeal.nD Cert.MixSIdeal.τ).loc Cert.MixSIdeal.main_arg1) = m ((c.tc : Thread Cert.MixSIdeal.nD Cert.MixSIdeal.τ).loc Cert.MixSIdeal.main_arg1)
      ∧ r.2.mem ((c.tc : Thread Cert.MixSIdeal.nD Cert.MixSIdeal.τ).loc Cert.MixSIdeal.main_arg2) = m ((c.tc : Thread Cert.MixSIdeal.nD Cert.MixSIdeal.τ).loc Cert.MixSIdeal.main_arg2)
      ∧ r.2.mem ((c.tc : Thread Cert.MixSIdeal.nD Cert.MixSIdeal.τ).loc Cert.MixSIdeal.main_arg3) = m ((c.tc : Thread Cert.MixSIdeal.nD Cert.MixSIdeal.τ).loc Cert.MixSIdeal.main_arg3)
      ∧ r.2.mem ((c.tc : Thread Cert.MixSIdeal.nD Cert.MixSIdeal.τ).loc Cert.MixSIdeal.main_arg4) = m ((c.tc : Thread Cert.MixSIdeal.nD Cert.MixSIdeal.τ).loc Cert.MixSIdeal.main_arg4)
      ∧ r.2.mem ((c.tc : Thread Cert.MixSIdeal.nD Cert.MixSIdeal.τ).loc Cert.MixSIdeal.main_arg5) = m ((c.tc : Thread Cert.MixSIdeal.nD Cert.MixSIdeal.τ).loc Cert.MixSIdeal.main_arg5)
      ∧ r.2.mem ((c.tc : Thread Cert.MixSIdeal.nD Cert.MixSIdeal.τ).loc Cert.MixSIdeal.main_arg6) = m ((c.tc : Thread Cert.MixSIdeal.nD Cert.MixSIdeal.τ).loc Cert.MixSIdeal.main_arg6)
      ∧ r.2.mem ((c.tc : Thread Cert.MixSIdeal.nD Cert.MixSIdeal.τ).loc Cert.MixSIdeal.main_arg7) = m ((c.tc : Thread Cert.MixSIdeal.nD Cert.MixSIdeal.τ).loc Cert.MixSIdeal.main_arg7)
      ∧ r.2.mem ((c.tc : Thread Cert.MixSIdeal.nD Cert.MixSIdeal.τ).loc Cert.MixSIdeal.main_arg8) = m ((c.tc : Thread Cert.MixSIdeal.nD Cert.MixSIdeal.τ).loc Cert.MixSIdeal.main_arg8)
      ∧ r.2.mem ((c.tc : Thread Cert.MixSIdeal.nD Cert.MixSIdeal.τ).loc Cert.MixSIdeal.main_arg9) = m ((c.tc : Thread Cert.MixSIdeal.nD Cert.MixSIdeal.τ).loc Cert.MixSIdeal.main_arg9)
      ∧ r.2.mem ((c.tc : Thread Cert.MixSIdeal.nD Cert.MixSIdeal.τ).loc Cert.MixSIdeal.main_arg10) = m ((c.tc : Thread Cert.MixSIdeal.nD Cert.MixSIdeal.τ).loc Cert.MixSIdeal.main_arg10)
      ∧ r.2.mem ((c.tc : Thread Cert.MixSIdeal.nD Cert.MixSIdeal.τ).loc Cert.MixSIdeal.main_arg11) = m ((c.tc : Thread Cert.MixSIdeal.nD Cert.MixSIdeal.τ).loc Cert.MixSIdeal.main_arg11))
      ∧ r.2.sem = fun _ => 0)

def quiescent_MixSRefIdeal [hMixSRefIdeal : Cert.MixSRefIdeal.Facts] : Prop :=
  ∀ (m : (ℓ : Loc Cert.MixSRefIdeal.nD Cert.MixSRefIdeal.τ Cert.MixSRefIdeal.sig) → Buf (Elt Ideal) ℓ) (g : Dev Cert.MixSRefIdeal.nD → PrngReg), Pre_MixSRefIdeal m →
    θ_run (Cert.MixSRefIdeal.defs (F := Ideal)) (onTc (τ := Cert.MixSRefIdeal.τ) (Cert.MixSRefIdeal.main (F := Ideal))) ⟨m, fun _ => 0, g⟩ (fun r => (∀ c : Dev Cert.MixSRefIdeal.nD,
      r.2.mem ((c.tc : Thread Cert.MixSRefIdeal.nD Cert.MixSRefIdeal.τ).loc Cert.MixSRefIdeal.main_arg0) = m ((c.tc : Thread Cert.MixSRefIdeal.nD Cert.MixSRefIdeal.τ).loc Cert.MixSRefIdeal.main_arg0)
      ∧ r.2.mem ((c.tc : Thread Cert.MixSRefIdeal.nD Cert.MixSRefIdeal.τ).loc Cert.MixSRefIdeal.main_arg1) = m ((c.tc : Thread Cert.MixSRefIdeal.nD Cert.MixSRefIdeal.τ).loc Cert.MixSRefIdeal.main_arg1)
      ∧ r.2.mem ((c.tc : Thread Cert.MixSRefIdeal.nD Cert.MixSRefIdeal.τ).loc Cert.MixSRefIdeal.main_arg2) = m ((c.tc : Thread Cert.MixSRefIdeal.nD Cert.MixSRefIdeal.τ).loc Cert.MixSRefIdeal.main_arg2)
      ∧ r.2.mem ((c.tc : Thread Cert.MixSRefIdeal.nD Cert.MixSRefIdeal.τ).loc Cert.MixSRefIdeal.main_arg3) = m ((c.tc : Thread Cert.MixSRefIdeal.nD Cert.MixSRefIdeal.τ).loc Cert.MixSRefIdeal.main_arg3)
      ∧ r.2.mem ((c.tc : Thread Cert.MixSRefIdeal.nD Cert.MixSRefIdeal.τ).loc Cert.MixSRefIdeal.main_arg4) = m ((c.tc : Thread Cert.MixSRefIdeal.nD Cert.MixSRefIdeal.τ).loc Cert.MixSRefIdeal.main_arg4)
      ∧ r.2.mem ((c.tc : Thread Cert.MixSRefIdeal.nD Cert.MixSRefIdeal.τ).loc Cert.MixSRefIdeal.main_arg5) = m ((c.tc : Thread Cert.MixSRefIdeal.nD Cert.MixSRefIdeal.τ).loc Cert.MixSRefIdeal.main_arg5)
      ∧ r.2.mem ((c.tc : Thread Cert.MixSRefIdeal.nD Cert.MixSRefIdeal.τ).loc Cert.MixSRefIdeal.main_arg6) = m ((c.tc : Thread Cert.MixSRefIdeal.nD Cert.MixSRefIdeal.τ).loc Cert.MixSRefIdeal.main_arg6)
      ∧ r.2.mem ((c.tc : Thread Cert.MixSRefIdeal.nD Cert.MixSRefIdeal.τ).loc Cert.MixSRefIdeal.main_arg7) = m ((c.tc : Thread Cert.MixSRefIdeal.nD Cert.MixSRefIdeal.τ).loc Cert.MixSRefIdeal.main_arg7)
      ∧ r.2.mem ((c.tc : Thread Cert.MixSRefIdeal.nD Cert.MixSRefIdeal.τ).loc Cert.MixSRefIdeal.main_arg8) = m ((c.tc : Thread Cert.MixSRefIdeal.nD Cert.MixSRefIdeal.τ).loc Cert.MixSRefIdeal.main_arg8)
      ∧ r.2.mem ((c.tc : Thread Cert.MixSRefIdeal.nD Cert.MixSRefIdeal.τ).loc Cert.MixSRefIdeal.main_arg9) = m ((c.tc : Thread Cert.MixSRefIdeal.nD Cert.MixSRefIdeal.τ).loc Cert.MixSRefIdeal.main_arg9)
      ∧ r.2.mem ((c.tc : Thread Cert.MixSRefIdeal.nD Cert.MixSRefIdeal.τ).loc Cert.MixSRefIdeal.main_arg10) = m ((c.tc : Thread Cert.MixSRefIdeal.nD Cert.MixSRefIdeal.τ).loc Cert.MixSRefIdeal.main_arg10)
      ∧ r.2.mem ((c.tc : Thread Cert.MixSRefIdeal.nD Cert.MixSRefIdeal.τ).loc Cert.MixSRefIdeal.main_arg11) = m ((c.tc : Thread Cert.MixSRefIdeal.nD Cert.MixSRefIdeal.τ).loc Cert.MixSRefIdeal.main_arg11))
      ∧ r.2.sem = fun _ => 0)

def quiescent_FfnS [hFfnS : Cert.FfnS.Facts] : Prop :=
  ∀ (m : (ℓ : Loc Cert.FfnS.nD Cert.FfnS.τ Cert.FfnS.sig) → Buf (Elt Bits) ℓ) (g : Dev Cert.FfnS.nD → PrngReg), Pre_FfnS m →
    θ_run (Cert.FfnS.defs (F := Bits)) (onTc (τ := Cert.FfnS.τ) (Cert.FfnS.main (F := Bits))) ⟨m, fun _ => 0, g⟩ (fun r => (∀ c : Dev Cert.FfnS.nD,
      r.2.mem ((c.tc : Thread Cert.FfnS.nD Cert.FfnS.τ).loc Cert.FfnS.main_arg0) = m ((c.tc : Thread Cert.FfnS.nD Cert.FfnS.τ).loc Cert.FfnS.main_arg0)
      ∧ r.2.mem ((c.tc : Thread Cert.FfnS.nD Cert.FfnS.τ).loc Cert.FfnS.main_arg1) = m ((c.tc : Thread Cert.FfnS.nD Cert.FfnS.τ).loc Cert.FfnS.main_arg1)
      ∧ r.2.mem ((c.tc : Thread Cert.FfnS.nD Cert.FfnS.τ).loc Cert.FfnS.main_arg2) = m ((c.tc : Thread Cert.FfnS.nD Cert.FfnS.τ).loc Cert.FfnS.main_arg2)
      ∧ r.2.mem ((c.tc : Thread Cert.FfnS.nD Cert.FfnS.τ).loc Cert.FfnS.main_arg3) = m ((c.tc : Thread Cert.FfnS.nD Cert.FfnS.τ).loc Cert.FfnS.main_arg3)
      ∧ r.2.mem ((c.tc : Thread Cert.FfnS.nD Cert.FfnS.τ).loc Cert.FfnS.main_arg4) = m ((c.tc : Thread Cert.FfnS.nD Cert.FfnS.τ).loc Cert.FfnS.main_arg4)
      ∧ r.2.mem ((c.tc : Thread Cert.FfnS.nD Cert.FfnS.τ).loc Cert.FfnS.main_arg5) = m ((c.tc : Thread Cert.FfnS.nD Cert.FfnS.τ).loc Cert.FfnS.main_arg5)
      ∧ r.2.mem ((c.tc : Thread Cert.FfnS.nD Cert.FfnS.τ).loc Cert.FfnS.main_arg6) = m ((c.tc : Thread Cert.FfnS.nD Cert.FfnS.τ).loc Cert.FfnS.main_arg6)
      ∧ r.2.mem ((c.tc : Thread Cert.FfnS.nD Cert.FfnS.τ).loc Cert.FfnS.main_arg7) = m ((c.tc : Thread Cert.FfnS.nD Cert.FfnS.τ).loc Cert.FfnS.main_arg7)
      ∧ r.2.mem ((c.tc : Thread Cert.FfnS.nD Cert.FfnS.τ).loc Cert.FfnS.main_arg8) = m ((c.tc : Thread Cert.FfnS.nD Cert.FfnS.τ).loc Cert.FfnS.main_arg8)
      ∧ r.2.mem ((c.tc : Thread Cert.FfnS.nD Cert.FfnS.τ).loc Cert.FfnS.main_arg9) = m ((c.tc : Thread Cert.FfnS.nD Cert.FfnS.τ).loc Cert.FfnS.main_arg9))
      ∧ r.2.sem = fun _ => 0)

def quiescent_FfnSIdeal [hFfnSIdeal : Cert.FfnSIdeal.Facts] : Prop :=
  ∀ (m : (ℓ : Loc Cert.FfnSIdeal.nD Cert.FfnSIdeal.τ Cert.FfnSIdeal.sig) → Buf (Elt Ideal) ℓ) (g : Dev Cert.FfnSIdeal.nD → PrngReg), Pre_FfnSIdeal m →
    θ_run (Cert.FfnSIdeal.defs (F := Ideal)) (onTc (τ := Cert.FfnSIdeal.τ) (Cert.FfnSIdeal.main (F := Ideal))) ⟨m, fun _ => 0, g⟩ (fun r => (∀ c : Dev Cert.FfnSIdeal.nD,
      r.2.mem ((c.tc : Thread Cert.FfnSIdeal.nD Cert.FfnSIdeal.τ).loc Cert.FfnSIdeal.main_arg0) = m ((c.tc : Thread Cert.FfnSIdeal.nD Cert.FfnSIdeal.τ).loc Cert.FfnSIdeal.main_arg0)
      ∧ r.2.mem ((c.tc : Thread Cert.FfnSIdeal.nD Cert.FfnSIdeal.τ).loc Cert.FfnSIdeal.main_arg1) = m ((c.tc : Thread Cert.FfnSIdeal.nD Cert.FfnSIdeal.τ).loc Cert.FfnSIdeal.main_arg1)
      ∧ r.2.mem ((c.tc : Thread Cert.FfnSIdeal.nD Cert.FfnSIdeal.τ).loc Cert.FfnSIdeal.main_arg2) = m ((c.tc : Thread Cert.FfnSIdeal.nD Cert.FfnSIdeal.τ).loc Cert.FfnSIdeal.main_arg2)
      ∧ r.2.mem ((c.tc : Thread Cert.FfnSIdeal.nD Cert.FfnSIdeal.τ).loc Cert.FfnSIdeal.main_arg3) = m ((c.tc : Thread Cert.FfnSIdeal.nD Cert.FfnSIdeal.τ).loc Cert.FfnSIdeal.main_arg3)
      ∧ r.2.mem ((c.tc : Thread Cert.FfnSIdeal.nD Cert.FfnSIdeal.τ).loc Cert.FfnSIdeal.main_arg4) = m ((c.tc : Thread Cert.FfnSIdeal.nD Cert.FfnSIdeal.τ).loc Cert.FfnSIdeal.main_arg4)
      ∧ r.2.mem ((c.tc : Thread Cert.FfnSIdeal.nD Cert.FfnSIdeal.τ).loc Cert.FfnSIdeal.main_arg5) = m ((c.tc : Thread Cert.FfnSIdeal.nD Cert.FfnSIdeal.τ).loc Cert.FfnSIdeal.main_arg5)
      ∧ r.2.mem ((c.tc : Thread Cert.FfnSIdeal.nD Cert.FfnSIdeal.τ).loc Cert.FfnSIdeal.main_arg6) = m ((c.tc : Thread Cert.FfnSIdeal.nD Cert.FfnSIdeal.τ).loc Cert.FfnSIdeal.main_arg6)
      ∧ r.2.mem ((c.tc : Thread Cert.FfnSIdeal.nD Cert.FfnSIdeal.τ).loc Cert.FfnSIdeal.main_arg7) = m ((c.tc : Thread Cert.FfnSIdeal.nD Cert.FfnSIdeal.τ).loc Cert.FfnSIdeal.main_arg7)
      ∧ r.2.mem ((c.tc : Thread Cert.FfnSIdeal.nD Cert.FfnSIdeal.τ).loc Cert.FfnSIdeal.main_arg8) = m ((c.tc : Thread Cert.FfnSIdeal.nD Cert.FfnSIdeal.τ).loc Cert.FfnSIdeal.main_arg8)
      ∧ r.2.mem ((c.tc : Thread Cert.FfnSIdeal.nD Cert.FfnSIdeal.τ).loc Cert.FfnSIdeal.main_arg9) = m ((c.tc : Thread Cert.FfnSIdeal.nD Cert.FfnSIdeal.τ).loc Cert.FfnSIdeal.main_arg9))
      ∧ r.2.sem = fun _ => 0)

def quiescent_FfnSRefIdeal [hFfnSRefIdeal : Cert.FfnSRefIdeal.Facts] : Prop :=
  ∀ (m : (ℓ : Loc Cert.FfnSRefIdeal.nD Cert.FfnSRefIdeal.τ Cert.FfnSRefIdeal.sig) → Buf (Elt Ideal) ℓ) (g : Dev Cert.FfnSRefIdeal.nD → PrngReg), Pre_FfnSRefIdeal m →
    θ_run (Cert.FfnSRefIdeal.defs (F := Ideal)) (onTc (τ := Cert.FfnSRefIdeal.τ) (Cert.FfnSRefIdeal.main (F := Ideal))) ⟨m, fun _ => 0, g⟩ (fun r => (∀ c : Dev Cert.FfnSRefIdeal.nD,
      r.2.mem ((c.tc : Thread Cert.FfnSRefIdeal.nD Cert.FfnSRefIdeal.τ).loc Cert.FfnSRefIdeal.main_arg0) = m ((c.tc : Thread Cert.FfnSRefIdeal.nD Cert.FfnSRefIdeal.τ).loc Cert.FfnSRefIdeal.main_arg0)
      ∧ r.2.mem ((c.tc : Thread Cert.FfnSRefIdeal.nD Cert.FfnSRefIdeal.τ).loc Cert.FfnSRefIdeal.main_arg1) = m ((c.tc : Thread Cert.FfnSRefIdeal.nD Cert.FfnSRefIdeal.τ).loc Cert.FfnSRefIdeal.main_arg1)
      ∧ r.2.mem ((c.tc : Thread Cert.FfnSRefIdeal.nD Cert.FfnSRefIdeal.τ).loc Cert.FfnSRefIdeal.main_arg2) = m ((c.tc : Thread Cert.FfnSRefIdeal.nD Cert.FfnSRefIdeal.τ).loc Cert.FfnSRefIdeal.main_arg2)
      ∧ r.2.mem ((c.tc : Thread Cert.FfnSRefIdeal.nD Cert.FfnSRefIdeal.τ).loc Cert.FfnSRefIdeal.main_arg3) = m ((c.tc : Thread Cert.FfnSRefIdeal.nD Cert.FfnSRefIdeal.τ).loc Cert.FfnSRefIdeal.main_arg3)
      ∧ r.2.mem ((c.tc : Thread Cert.FfnSRefIdeal.nD Cert.FfnSRefIdeal.τ).loc Cert.FfnSRefIdeal.main_arg4) = m ((c.tc : Thread Cert.FfnSRefIdeal.nD Cert.FfnSRefIdeal.τ).loc Cert.FfnSRefIdeal.main_arg4)
      ∧ r.2.mem ((c.tc : Thread Cert.FfnSRefIdeal.nD Cert.FfnSRefIdeal.τ).loc Cert.FfnSRefIdeal.main_arg5) = m ((c.tc : Thread Cert.FfnSRefIdeal.nD Cert.FfnSRefIdeal.τ).loc Cert.FfnSRefIdeal.main_arg5)
      ∧ r.2.mem ((c.tc : Thread Cert.FfnSRefIdeal.nD Cert.FfnSRefIdeal.τ).loc Cert.FfnSRefIdeal.main_arg6) = m ((c.tc : Thread Cert.FfnSRefIdeal.nD Cert.FfnSRefIdeal.τ).loc Cert.FfnSRefIdeal.main_arg6)
      ∧ r.2.mem ((c.tc : Thread Cert.FfnSRefIdeal.nD Cert.FfnSRefIdeal.τ).loc Cert.FfnSRefIdeal.main_arg7) = m ((c.tc : Thread Cert.FfnSRefIdeal.nD Cert.FfnSRefIdeal.τ).loc Cert.FfnSRefIdeal.main_arg7)
      ∧ r.2.mem ((c.tc : Thread Cert.FfnSRefIdeal.nD Cert.FfnSRefIdeal.τ).loc Cert.FfnSRefIdeal.main_arg8) = m ((c.tc : Thread Cert.FfnSRefIdeal.nD Cert.FfnSRefIdeal.τ).loc Cert.FfnSRefIdeal.main_arg8)
      ∧ r.2.mem ((c.tc : Thread Cert.FfnSRefIdeal.nD Cert.FfnSRefIdeal.τ).loc Cert.FfnSRefIdeal.main_arg9) = m ((c.tc : Thread Cert.FfnSRefIdeal.nD Cert.FfnSRefIdeal.τ).loc Cert.FfnSRefIdeal.main_arg9))
      ∧ r.2.sem = fun _ => 0)

def quiescent_CmpS [hCmpS : Cert.CmpS.Facts] : Prop :=
  ∀ (m : (ℓ : Loc Cert.CmpS.nD Cert.CmpS.τ Cert.CmpS.sig) → Buf (Elt Bits) ℓ) (g : Dev Cert.CmpS.nD → PrngReg), Pre_CmpS m →
    θ_run (Cert.CmpS.defs (F := Bits)) (onTc (τ := Cert.CmpS.τ) (Cert.CmpS.main (F := Bits))) ⟨m, fun _ => 0, g⟩ (fun r => (∀ c : Dev Cert.CmpS.nD,
      r.2.mem ((c.tc : Thread Cert.CmpS.nD Cert.CmpS.τ).loc Cert.CmpS.main_arg0) = m ((c.tc : Thread Cert.CmpS.nD Cert.CmpS.τ).loc Cert.CmpS.main_arg0)
      ∧ r.2.mem ((c.tc : Thread Cert.CmpS.nD Cert.CmpS.τ).loc Cert.CmpS.main_arg1) = m ((c.tc : Thread Cert.CmpS.nD Cert.CmpS.τ).loc Cert.CmpS.main_arg1)
      ∧ r.2.mem ((c.tc : Thread Cert.CmpS.nD Cert.CmpS.τ).loc Cert.CmpS.main_arg2) = m ((c.tc : Thread Cert.CmpS.nD Cert.CmpS.τ).loc Cert.CmpS.main_arg2))
      ∧ r.2.sem = fun _ => 0)

def quiescent_CmpSIdeal [hCmpSIdeal : Cert.CmpSIdeal.Facts] : Prop :=
  ∀ (m : (ℓ : Loc Cert.CmpSIdeal.nD Cert.CmpSIdeal.τ Cert.CmpSIdeal.sig) → Buf (Elt Ideal) ℓ) (g : Dev Cert.CmpSIdeal.nD → PrngReg), Pre_CmpSIdeal m →
    θ_run (Cert.CmpSIdeal.defs (F := Ideal)) (onTc (τ := Cert.CmpSIdeal.τ) (Cert.CmpSIdeal.main (F := Ideal))) ⟨m, fun _ => 0, g⟩ (fun r => (∀ c : Dev Cert.CmpSIdeal.nD,
      r.2.mem ((c.tc : Thread Cert.CmpSIdeal.nD Cert.CmpSIdeal.τ).loc Cert.CmpSIdeal.main_arg0) = m ((c.tc : Thread Cert.CmpSIdeal.nD Cert.CmpSIdeal.τ).loc Cert.CmpSIdeal.main_arg0)
      ∧ r.2.mem ((c.tc : Thread Cert.CmpSIdeal.nD Cert.CmpSIdeal.τ).loc Cert.CmpSIdeal.main_arg1) = m ((c.tc : Thread Cert.CmpSIdeal.nD Cert.CmpSIdeal.τ).loc Cert.CmpSIdeal.main_arg1)
      ∧ r.2.mem ((c.tc : Thread Cert.CmpSIdeal.nD Cert.CmpSIdeal.τ).loc Cert.CmpSIdeal.main_arg2) = m ((c.tc : Thread Cert.CmpSIdeal.nD Cert.CmpSIdeal.τ).loc Cert.CmpSIdeal.main_arg2))
      ∧ r.2.sem = fun _ => 0)

def quiescent_CmpSIdeal_pre_finite_scores [hCmpSIdeal : Cert.CmpSIdeal.Facts] [hPre_finite_scores : Cert.Pre_finite_scores.Facts] : Prop :=
  ∀ (m : (ℓ : Loc Cert.CmpSIdeal.nD Cert.CmpSIdeal.τ Cert.CmpSIdeal.sig) → Buf (Elt Ideal) ℓ) (g : Dev Cert.CmpSIdeal.nD → PrngReg), Pre_CmpSIdeal_finite_scores m →
    θ_run (Cert.CmpSIdeal.defs (F := Ideal)) (onTc (τ := Cert.CmpSIdeal.τ) (Cert.CmpSIdeal.main (F := Ideal))) ⟨m, fun _ => 0, g⟩ (fun r => (∀ c : Dev Cert.CmpSIdeal.nD,
      r.2.mem ((c.tc : Thread Cert.CmpSIdeal.nD Cert.CmpSIdeal.τ).loc Cert.CmpSIdeal.main_arg0) = m ((c.tc : Thread Cert.CmpSIdeal.nD Cert.CmpSIdeal.τ).loc Cert.CmpSIdeal.main_arg0)
      ∧ r.2.mem ((c.tc : Thread Cert.CmpSIdeal.nD Cert.CmpSIdeal.τ).loc Cert.CmpSIdeal.main_arg1) = m ((c.tc : Thread Cert.CmpSIdeal.nD Cert.CmpSIdeal.τ).loc Cert.CmpSIdeal.main_arg1)
      ∧ r.2.mem ((c.tc : Thread Cert.CmpSIdeal.nD Cert.CmpSIdeal.τ).loc Cert.CmpSIdeal.main_arg2) = m ((c.tc : Thread Cert.CmpSIdeal.nD Cert.CmpSIdeal.τ).loc Cert.CmpSIdeal.main_arg2))
      ∧ r.2.sem = fun _ => 0)

def quiescent_CmpSRefIdeal [hCmpSRefIdeal : Cert.CmpSRefIdeal.Facts] : Prop :=
  ∀ (m : (ℓ : Loc Cert.CmpSRefIdeal.nD Cert.CmpSRefIdeal.τ Cert.CmpSRefIdeal.sig) → Buf (Elt Ideal) ℓ) (g : Dev Cert.CmpSRefIdeal.nD → PrngReg), Pre_CmpSRefIdeal m →
    θ_run (Cert.CmpSRefIdeal.defs (F := Ideal)) (onTc (τ := Cert.CmpSRefIdeal.τ) (Cert.CmpSRefIdeal.main (F := Ideal))) ⟨m, fun _ => 0, g⟩ (fun r => (∀ c : Dev Cert.CmpSRefIdeal.nD,
      r.2.mem ((c.tc : Thread Cert.CmpSRefIdeal.nD Cert.CmpSRefIdeal.τ).loc Cert.CmpSRefIdeal.main_arg0) = m ((c.tc : Thread Cert.CmpSRefIdeal.nD Cert.CmpSRefIdeal.τ).loc Cert.CmpSRefIdeal.main_arg0)
      ∧ r.2.mem ((c.tc : Thread Cert.CmpSRefIdeal.nD Cert.CmpSRefIdeal.τ).loc Cert.CmpSRefIdeal.main_arg1) = m ((c.tc : Thread Cert.CmpSRefIdeal.nD Cert.CmpSRefIdeal.τ).loc Cert.CmpSRefIdeal.main_arg1)
      ∧ r.2.mem ((c.tc : Thread Cert.CmpSRefIdeal.nD Cert.CmpSRefIdeal.τ).loc Cert.CmpSRefIdeal.main_arg2) = m ((c.tc : Thread Cert.CmpSRefIdeal.nD Cert.CmpSRefIdeal.τ).loc Cert.CmpSRefIdeal.main_arg2))
      ∧ r.2.sem = fun _ => 0)

def quiescent_CmpSRefIdeal_pre_finite_scores [hCmpSRefIdeal : Cert.CmpSRefIdeal.Facts] [hPre_finite_scores : Cert.Pre_finite_scores.Facts] : Prop :=
  ∀ (m : (ℓ : Loc Cert.CmpSRefIdeal.nD Cert.CmpSRefIdeal.τ Cert.CmpSRefIdeal.sig) → Buf (Elt Ideal) ℓ) (g : Dev Cert.CmpSRefIdeal.nD → PrngReg), Pre_CmpSRefIdeal_finite_scores m →
    θ_run (Cert.CmpSRefIdeal.defs (F := Ideal)) (onTc (τ := Cert.CmpSRefIdeal.τ) (Cert.CmpSRefIdeal.main (F := Ideal))) ⟨m, fun _ => 0, g⟩ (fun r => (∀ c : Dev Cert.CmpSRefIdeal.nD,
      r.2.mem ((c.tc : Thread Cert.CmpSRefIdeal.nD Cert.CmpSRefIdeal.τ).loc Cert.CmpSRefIdeal.main_arg0) = m ((c.tc : Thread Cert.CmpSRefIdeal.nD Cert.CmpSRefIdeal.τ).loc Cert.CmpSRefIdeal.main_arg0)
      ∧ r.2.mem ((c.tc : Thread Cert.CmpSRefIdeal.nD Cert.CmpSRefIdeal.τ).loc Cert.CmpSRefIdeal.main_arg1) = m ((c.tc : Thread Cert.CmpSRefIdeal.nD Cert.CmpSRefIdeal.τ).loc Cert.CmpSRefIdeal.main_arg1)
      ∧ r.2.mem ((c.tc : Thread Cert.CmpSRefIdeal.nD Cert.CmpSRefIdeal.τ).loc Cert.CmpSRefIdeal.main_arg2) = m ((c.tc : Thread Cert.CmpSRefIdeal.nD Cert.CmpSRefIdeal.τ).loc Cert.CmpSRefIdeal.main_arg2))
      ∧ r.2.sem = fun _ => 0)

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)
      ∧ m' ((c.tc : Thread Cert.FfnRefIdeal.nD Cert.FfnRefIdeal.τ).loc Cert.FfnRefIdeal.main_arg6) = m ((c.tc : Thread Cert.FfnIdeal.nD Cert.FfnIdeal.τ).loc Cert.FfnIdeal.main_arg6)
      ∧ m' ((c.tc : Thread Cert.FfnRefIdeal.nD Cert.FfnRefIdeal.τ).loc Cert.FfnRefIdeal.main_arg7) = m ((c.tc : Thread Cert.FfnIdeal.nD Cert.FfnIdeal.τ).loc Cert.FfnIdeal.main_arg7)
      ∧ m' ((c.tc : Thread Cert.FfnRefIdeal.nD Cert.FfnRefIdeal.τ).loc Cert.FfnRefIdeal.main_arg8) = m ((c.tc : Thread Cert.FfnIdeal.nD Cert.FfnIdeal.τ).loc Cert.FfnIdeal.main_arg8)
      ∧ m' ((c.tc : Thread Cert.FfnRefIdeal.nD Cert.FfnRefIdeal.τ).loc Cert.FfnRefIdeal.main_arg9) = m ((c.tc : Thread Cert.FfnIdeal.nD Cert.FfnIdeal.τ).loc Cert.FfnIdeal.main_arg9)) →
    ∃ (v0 : (c : Dev Cert.FfnIdeal.nD) → Buf (Elt Ideal) ((c.tc : Thread Cert.FfnIdeal.nD Cert.FfnIdeal.τ).loc Cert.FfnIdeal.main_v18)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v18) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
          ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7)
          ∧ r.2.mem ((c.tc : Thread Cert.FfnIdeal.nD Cert.FfnIdeal.τ).loc Cert.FfnIdeal.main_arg8) = m ((c.tc : Thread Cert.FfnIdeal.nD Cert.FfnIdeal.τ).loc Cert.FfnIdeal.main_arg8)
          ∧ r.2.mem ((c.tc : Thread Cert.FfnIdeal.nD Cert.FfnIdeal.τ).loc Cert.FfnIdeal.main_arg9) = m ((c.tc : Thread Cert.FfnIdeal.nD Cert.FfnIdeal.τ).loc Cert.FfnIdeal.main_arg9))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v64) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5)
          ∧ r.2.mem ((c.tc : Thread Cert.FfnRefIdeal.nD Cert.FfnRefIdeal.τ).loc Cert.FfnRefIdeal.main_arg6) = m' ((c.tc : Thread Cert.FfnRefIdeal.nD Cert.FfnRefIdeal.τ).loc Cert.FfnRefIdeal.main_arg6)
          ∧ r.2.mem ((c.tc : Thread Cert.FfnRefIdeal.nD Cert.FfnRefIdeal.τ).loc Cert.FfnRefIdeal.main_arg7) = m' ((c.tc : Thread Cert.FfnRefIdeal.nD Cert.FfnRefIdeal.τ).loc Cert.FfnRefIdeal.main_arg7)
          ∧ r.2.mem ((c.tc : Thread Cert.FfnRefIdeal.nD Cert.FfnRefIdeal.τ).loc Cert.FfnRefIdeal.main_arg8) = m' ((c.tc : Thread Cert.FfnRefIdeal.nD Cert.FfnRefIdeal.τ).loc Cert.FfnRefIdeal.main_arg8)
          ∧ r.2.mem ((c.tc : Thread Cert.FfnRefIdeal.nD Cert.FfnRefIdeal.τ).loc Cert.FfnRefIdeal.main_arg9) = m' ((c.tc : Thread Cert.FfnRefIdeal.nD Cert.FfnRefIdeal.τ).loc Cert.FfnRefIdeal.main_arg9))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)
      ∧ m' ((c.tc : Thread Cert.InProjRefIdeal.nD Cert.InProjRefIdeal.τ).loc Cert.InProjRefIdeal.main_arg3) = m ((c.tc : Thread Cert.InProjIdeal.nD Cert.InProjIdeal.τ).loc Cert.InProjIdeal.main_arg3)
      ∧ m' ((c.tc : Thread Cert.InProjRefIdeal.nD Cert.InProjRefIdeal.τ).loc Cert.InProjRefIdeal.main_arg4) = m ((c.tc : Thread Cert.InProjIdeal.nD Cert.InProjIdeal.τ).loc Cert.InProjIdeal.main_arg4)
      ∧ m' ((c.tc : Thread Cert.InProjRefIdeal.nD Cert.InProjRefIdeal.τ).loc Cert.InProjRefIdeal.main_arg5) = m ((c.tc : Thread Cert.InProjIdeal.nD Cert.InProjIdeal.τ).loc Cert.InProjIdeal.main_arg5)) →
    ∃ (v0 : (c : Dev Cert.InProjIdeal.nD) → Buf (Elt Ideal) ((c.tc : Thread Cert.InProjIdeal.nD Cert.InProjIdeal.τ).loc Cert.InProjIdeal.main_v30_1)) (v1 : (c : Dev Cert.InProjIdeal.nD) → Buf (Elt Ideal) ((c.tc : Thread Cert.InProjIdeal.nD Cert.InProjIdeal.τ).loc Cert.InProjIdeal.main_v30_2)) (v2 : (c : Dev Cert.InProjIdeal.nD) → Buf (Elt Ideal) ((c.tc : Thread Cert.InProjIdeal.nD Cert.InProjIdeal.τ).loc Cert.InProjIdeal.main_v30_3)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v30_1) = v0 c
          ∧ r.2.mem ((c.tc : Thread Cert.InProjIdeal.nD Cert.InProjIdeal.τ).loc Cert.InProjIdeal.main_v30_2) = v1 c
          ∧ r.2.mem ((c.tc : Thread Cert.InProjIdeal.nD Cert.InProjIdeal.τ).loc Cert.InProjIdeal.main_v30_3) = v2 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
          ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
          ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4)
          ∧ r.2.mem ((c.tc : Thread Cert.InProjIdeal.nD Cert.InProjIdeal.τ).loc Cert.InProjIdeal.main_arg5) = m ((c.tc : Thread Cert.InProjIdeal.nD Cert.InProjIdeal.τ).loc Cert.InProjIdeal.main_arg5))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v19) = v0 c
          ∧ r.2.mem ((c.tc : Thread Cert.InProjRefIdeal.nD Cert.InProjRefIdeal.τ).loc Cert.InProjRefIdeal.main_v20) = v1 c
          ∧ r.2.mem ((c.tc : Thread Cert.InProjRefIdeal.nD Cert.InProjRefIdeal.τ).loc Cert.InProjRefIdeal.main_v21) = v2 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2)
          ∧ r.2.mem ((c.tc : Thread Cert.InProjRefIdeal.nD Cert.InProjRefIdeal.τ).loc Cert.InProjRefIdeal.main_arg3) = m' ((c.tc : Thread Cert.InProjRefIdeal.nD Cert.InProjRefIdeal.τ).loc Cert.InProjRefIdeal.main_arg3)
          ∧ r.2.mem ((c.tc : Thread Cert.InProjRefIdeal.nD Cert.InProjRefIdeal.τ).loc Cert.InProjRefIdeal.main_arg4) = m' ((c.tc : Thread Cert.InProjRefIdeal.nD Cert.InProjRefIdeal.τ).loc Cert.InProjRefIdeal.main_arg4)
          ∧ r.2.mem ((c.tc : Thread Cert.InProjRefIdeal.nD Cert.InProjRefIdeal.τ).loc Cert.InProjRefIdeal.main_arg5) = m' ((c.tc : Thread Cert.InProjRefIdeal.nD Cert.InProjRefIdeal.τ).loc Cert.InProjRefIdeal.main_arg5))

def preserves_Mix_MixIdeal : Prop :=
  True

def algebraic_MixIdeal_MixRefIdeal [hMixIdeal : Cert.MixIdeal.Facts] [hMixRefIdeal : Cert.MixRefIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)
      ∧ m' ((c.tc : Thread Cert.MixRefIdeal.nD Cert.MixRefIdeal.τ).loc Cert.MixRefIdeal.main_arg2) = m ((c.tc : Thread Cert.MixIdeal.nD Cert.MixIdeal.τ).loc Cert.MixIdeal.main_arg2)
      ∧ m' ((c.tc : Thread Cert.MixRefIdeal.nD Cert.MixRefIdeal.τ).loc Cert.MixRefIdeal.main_arg3) = m ((c.tc : Thread Cert.MixIdeal.nD Cert.MixIdeal.τ).loc Cert.MixIdeal.main_arg3)
      ∧ m' ((c.tc : Thread Cert.MixRefIdeal.nD Cert.MixRefIdeal.τ).loc Cert.MixRefIdeal.main_arg4) = m ((c.tc : Thread Cert.MixIdeal.nD Cert.MixIdeal.τ).loc Cert.MixIdeal.main_arg4)
      ∧ m' ((c.tc : Thread Cert.MixRefIdeal.nD Cert.MixRefIdeal.τ).loc Cert.MixRefIdeal.main_arg5) = m ((c.tc : Thread Cert.MixIdeal.nD Cert.MixIdeal.τ).loc Cert.MixIdeal.main_arg5)
      ∧ m' ((c.tc : Thread Cert.MixRefIdeal.nD Cert.MixRefIdeal.τ).loc Cert.MixRefIdeal.main_arg6) = m ((c.tc : Thread Cert.MixIdeal.nD Cert.MixIdeal.τ).loc Cert.MixIdeal.main_arg6)
      ∧ m' ((c.tc : Thread Cert.MixRefIdeal.nD Cert.MixRefIdeal.τ).loc Cert.MixRefIdeal.main_arg7) = m ((c.tc : Thread Cert.MixIdeal.nD Cert.MixIdeal.τ).loc Cert.MixIdeal.main_arg7)
      ∧ m' ((c.tc : Thread Cert.MixRefIdeal.nD Cert.MixRefIdeal.τ).loc Cert.MixRefIdeal.main_arg8) = m ((c.tc : Thread Cert.MixIdeal.nD Cert.MixIdeal.τ).loc Cert.MixIdeal.main_arg8)
      ∧ m' ((c.tc : Thread Cert.MixRefIdeal.nD Cert.MixRefIdeal.τ).loc Cert.MixRefIdeal.main_arg9) = m ((c.tc : Thread Cert.MixIdeal.nD Cert.MixIdeal.τ).loc Cert.MixIdeal.main_arg9)
      ∧ m' ((c.tc : Thread Cert.MixRefIdeal.nD Cert.MixRefIdeal.τ).loc Cert.MixRefIdeal.main_arg10) = m ((c.tc : Thread Cert.MixIdeal.nD Cert.MixIdeal.τ).loc Cert.MixIdeal.main_arg10)
      ∧ m' ((c.tc : Thread Cert.MixRefIdeal.nD Cert.MixRefIdeal.τ).loc Cert.MixRefIdeal.main_arg11) = m ((c.tc : Thread Cert.MixIdeal.nD Cert.MixIdeal.τ).loc Cert.MixIdeal.main_arg11)) →
    ∃ (v0 : (c : Dev Cert.MixIdeal.nD) → Buf (Elt Ideal) ((c.tc : Thread Cert.MixIdeal.nD Cert.MixIdeal.τ).loc Cert.MixIdeal.main_v28)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v28) = v0 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
          ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
          ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
          ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
          ∧ r.2.mem ((c.tc : Thread Cert.MixIdeal.nD Cert.MixIdeal.τ).loc Cert.MixIdeal.main_arg9) = m ((c.tc : Thread Cert.MixIdeal.nD Cert.MixIdeal.τ).loc Cert.MixIdeal.main_arg9)
          ∧ r.2.mem ((c.tc : Thread Cert.MixIdeal.nD Cert.MixIdeal.τ).loc Cert.MixIdeal.main_arg10) = m ((c.tc : Thread Cert.MixIdeal.nD Cert.MixIdeal.τ).loc Cert.MixIdeal.main_arg10)
          ∧ r.2.mem ((c.tc : Thread Cert.MixIdeal.nD Cert.MixIdeal.τ).loc Cert.MixIdeal.main_arg11) = m ((c.tc : Thread Cert.MixIdeal.nD Cert.MixIdeal.τ).loc Cert.MixIdeal.main_arg11))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v110) = v0 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2)
          ∧ r.2.mem ((c.tc : Thread Cert.MixRefIdeal.nD Cert.MixRefIdeal.τ).loc Cert.MixRefIdeal.main_arg3) = m' ((c.tc : Thread Cert.MixRefIdeal.nD Cert.MixRefIdeal.τ).loc Cert.MixRefIdeal.main_arg3)
          ∧ r.2.mem ((c.tc : Thread Cert.MixRefIdeal.nD Cert.MixRefIdeal.τ).loc Cert.MixRefIdeal.main_arg4) = m' ((c.tc : Thread Cert.MixRefIdeal.nD Cert.MixRefIdeal.τ).loc Cert.MixRefIdeal.main_arg4)
          ∧ r.2.mem ((c.tc : Thread Cert.MixRefIdeal.nD Cert.MixRefIdeal.τ).loc Cert.MixRefIdeal.main_arg5) = m' ((c.tc : Thread Cert.MixRefIdeal.nD Cert.MixRefIdeal.τ).loc Cert.MixRefIdeal.main_arg5)
          ∧ r.2.mem ((c.tc : Thread Cert.MixRefIdeal.nD Cert.MixRefIdeal.τ).loc Cert.MixRefIdeal.main_arg6) = m' ((c.tc : Thread Cert.MixRefIdeal.nD Cert.MixRefIdeal.τ).loc Cert.MixRefIdeal.main_arg6)
          ∧ r.2.mem ((c.tc : Thread Cert.MixRefIdeal.nD Cert.MixRefIdeal.τ).loc Cert.MixRefIdeal.main_arg7) = m' ((c.tc : Thread Cert.MixRefIdeal.nD Cert.MixRefIdeal.τ).loc Cert.MixRefIdeal.main_arg7)
          ∧ r.2.mem ((c.tc : Thread Cert.MixRefIdeal.nD Cert.MixRefIdeal.τ).loc Cert.MixRefIdeal.main_arg8) = m' ((c.tc : Thread Cert.MixRefIdeal.nD Cert.MixRefIdeal.τ).loc Cert.MixRefIdeal.main_arg8)
          ∧ r.2.mem ((c.tc : Thread Cert.MixRefIdeal.nD Cert.MixRefIdeal.τ).loc Cert.MixRefIdeal.main_arg9) = m' ((c.tc : Thread Cert.MixRefIdeal.nD Cert.MixRefIdeal.τ).loc Cert.MixRefIdeal.main_arg9)
          ∧ r.2.mem ((c.tc : Thread Cert.MixRefIdeal.nD Cert.MixRefIdeal.τ).loc Cert.MixRefIdeal.main_arg10) = m' ((c.tc : Thread Cert.MixRefIdeal.nD Cert.MixRefIdeal.τ).loc Cert.MixRefIdeal.main_arg10)
          ∧ r.2.mem ((c.tc : Thread Cert.MixRefIdeal.nD Cert.MixRefIdeal.τ).loc Cert.MixRefIdeal.main_arg11) = m' ((c.tc : Thread Cert.MixRefIdeal.nD Cert.MixRefIdeal.τ).loc Cert.MixRefIdeal.main_arg11))

def preserves_InRows_InRowsIdeal : Prop :=
  True

def algebraic_InRowsIdeal_InRowsRefIdeal [hInRowsIdeal : Cert.InRowsIdeal.Facts] [hInRowsRefIdeal : Cert.InRowsRefIdeal.Facts] : Prop :=
  ∀ (m : (ℓ : Loc Cert.InRowsIdeal.nD Cert.InRowsIdeal.τ Cert.InRowsIdeal.sig) → Buf (Elt Ideal) ℓ) (g : Dev Cert.InRowsIdeal.nD → PrngReg)
    (m' : (ℓ : Loc Cert.InRowsRefIdeal.nD Cert.InRowsRefIdeal.τ Cert.InRowsRefIdeal.sig) → Buf (Elt Ideal) ℓ) (g' : Dev Cert.InRowsRefIdeal.nD → PrngReg), Pre_InRowsIdeal m →
    (∀ c : Dev Cert.InRowsIdeal.nD,
      m' ((c.tc : Thread Cert.InRowsRefIdeal.nD Cert.InRowsRefIdeal.τ).loc Cert.InRowsRefIdeal.main_arg0) = m ((c.tc : Thread Cert.InRowsIdeal.nD Cert.InRowsIdeal.τ).loc Cert.InRowsIdeal.main_arg0)
      ∧ m' ((c.tc : Thread Cert.InRowsRefIdeal.nD Cert.InRowsRefIdeal.τ).loc Cert.InRowsRefIdeal.main_arg1) = m ((c.tc : Thread Cert.InRowsIdeal.nD Cert.InRowsIdeal.τ).loc Cert.InRowsIdeal.main_arg1)
      ∧ m' ((c.tc : Thread Cert.InRowsRefIdeal.nD Cert.InRowsRefIdeal.τ).loc Cert.InRowsRefIdeal.main_arg2) = m ((c.tc : Thread Cert.InRowsIdeal.nD Cert.InRowsIdeal.τ).loc Cert.InRowsIdeal.main_arg2)
      ∧ m' ((c.tc : Thread Cert.InRowsRefIdeal.nD Cert.InRowsRefIdeal.τ).loc Cert.InRowsRefIdeal.main_arg3) = m ((c.tc : Thread Cert.InRowsIdeal.nD Cert.InRowsIdeal.τ).loc Cert.InRowsIdeal.main_arg3)) →
    ∃ (v0 : (c : Dev Cert.InRowsIdeal.nD) → Buf (Elt Ideal) ((c.tc : Thread Cert.InRowsIdeal.nD Cert.InRowsIdeal.τ).loc Cert.InRowsIdeal.main_v19)) (v1 : (c : Dev Cert.InRowsIdeal.nD) → Buf (Elt Ideal) ((c.tc : Thread Cert.InRowsIdeal.nD Cert.InRowsIdeal.τ).loc Cert.InRowsIdeal.main_v21)) (v2 : (c : Dev Cert.InRowsIdeal.nD) → Buf (Elt Ideal) ((c.tc : Thread Cert.InRowsIdeal.nD Cert.InRowsIdeal.τ).loc Cert.InRowsIdeal.main_v23)),
      θ_run (Cert.InRowsIdeal.defs (F := Ideal)) (onTc (τ := Cert.InRowsIdeal.τ) (Cert.InRowsIdeal.main (F := Ideal))) ⟨m, fun _ => 0, g⟩ (fun r => ∀ c : Dev Cert.InRowsIdeal.nD,
          r.2.mem ((c.tc : Thread Cert.InRowsIdeal.nD Cert.InRowsIdeal.τ).loc Cert.InRowsIdeal.main_v19) = v0 c
          ∧ r.2.mem ((c.tc : Thread Cert.InRowsIdeal.nD Cert.InRowsIdeal.τ).loc Cert.InRowsIdeal.main_v21) = v1 c
          ∧ r.2.mem ((c.tc : Thread Cert.InRowsIdeal.nD Cert.InRowsIdeal.τ).loc Cert.InRowsIdeal.main_v23) = v2 c
          ∧ r.2.mem ((c.tc : Thread Cert.InRowsIdeal.nD Cert.InRowsIdeal.τ).loc Cert.InRowsIdeal.main_arg0) = m ((c.tc : Thread Cert.InRowsIdeal.nD Cert.InRowsIdeal.τ).loc Cert.InRowsIdeal.main_arg0)
          ∧ r.2.mem ((c.tc : Thread Cert.InRowsIdeal.nD Cert.InRowsIdeal.τ).loc Cert.InRowsIdeal.main_arg1) = m ((c.tc : Thread Cert.InRowsIdeal.nD Cert.InRowsIdeal.τ).loc Cert.InRowsIdeal.main_arg1)
          ∧ r.2.mem ((c.tc : Thread Cert.InRowsIdeal.nD Cert.InRowsIdeal.τ).loc Cert.InRowsIdeal.main_arg2) = m ((c.tc : Thread Cert.InRowsIdeal.nD Cert.InRowsIdeal.τ).loc Cert.InRowsIdeal.main_arg2)
          ∧ r.2.mem ((c.tc : Thread Cert.InRowsIdeal.nD Cert.InRowsIdeal.τ).loc Cert.InRowsIdeal.main_arg3) = m ((c.tc : Thread Cert.InRowsIdeal.nD Cert.InRowsIdeal.τ).loc Cert.InRowsIdeal.main_arg3))
      ∧ θ_run (Cert.InRowsRefIdeal.defs (F := Ideal)) (onTc (τ := Cert.InRowsRefIdeal.τ) (Cert.InRowsRefIdeal.main (F := Ideal))) ⟨m', fun _ => 0, g'⟩ (fun r => ∀ c : Dev Cert.InRowsRefIdeal.nD,
          r.2.mem ((c.tc : Thread Cert.InRowsRefIdeal.nD Cert.InRowsRefIdeal.τ).loc Cert.InRowsRefIdeal.main_v24) = v0 c
          ∧ r.2.mem ((c.tc : Thread Cert.InRowsRefIdeal.nD Cert.InRowsRefIdeal.τ).loc Cert.InRowsRefIdeal.main_v25) = v1 c
          ∧ r.2.mem ((c.tc : Thread Cert.InRowsRefIdeal.nD Cert.InRowsRefIdeal.τ).loc Cert.InRowsRefIdeal.main_v27) = v2 c
          ∧ r.2.mem ((c.tc : Thread Cert.InRowsRefIdeal.nD Cert.InRowsRefIdeal.τ).loc Cert.InRowsRefIdeal.main_arg0) = m' ((c.tc : Thread Cert.InRowsRefIdeal.nD Cert.InRowsRefIdeal.τ).loc Cert.InRowsRefIdeal.main_arg0)
          ∧ r.2.mem ((c.tc : Thread Cert.InRowsRefIdeal.nD Cert.InRowsRefIdeal.τ).loc Cert.InRowsRefIdeal.main_arg1) = m' ((c.tc : Thread Cert.InRowsRefIdeal.nD Cert.InRowsRefIdeal.τ).loc Cert.InRowsRefIdeal.main_arg1)
          ∧ r.2.mem ((c.tc : Thread Cert.InRowsRefIdeal.nD Cert.InRowsRefIdeal.τ).loc Cert.InRowsRefIdeal.main_arg2) = m' ((c.tc : Thread Cert.InRowsRefIdeal.nD Cert.InRowsRefIdeal.τ).loc Cert.InRowsRefIdeal.main_arg2)
          ∧ r.2.mem ((c.tc : Thread Cert.InRowsRefIdeal.nD Cert.InRowsRefIdeal.τ).loc Cert.InRowsRefIdeal.main_arg3) = m' ((c.tc : Thread Cert.InRowsRefIdeal.nD Cert.InRowsRefIdeal.τ).loc Cert.InRowsRefIdeal.main_arg3))

def preserves_MixS_MixSIdeal : Prop :=
  True

def algebraic_MixSIdeal_MixSRefIdeal [hMixSIdeal : Cert.MixSIdeal.Facts] [hMixSRefIdeal : Cert.MixSRefIdeal.Facts] : Prop :=
  ∀ (m : (ℓ : Loc Cert.MixSIdeal.nD Cert.MixSIdeal.τ Cert.MixSIdeal.sig) → Buf (Elt Ideal) ℓ) (g : Dev Cert.MixSIdeal.nD → PrngReg)
    (m' : (ℓ : Loc Cert.MixSRefIdeal.nD Cert.MixSRefIdeal.τ Cert.MixSRefIdeal.sig) → Buf (Elt Ideal) ℓ) (g' : Dev Cert.MixSRefIdeal.nD → PrngReg), Pre_MixSIdeal m →
    (∀ c : Dev Cert.MixSIdeal.nD,
      m' ((c.tc : Thread Cert.MixSRefIdeal.nD Cert.MixSRefIdeal.τ).loc Cert.MixSRefIdeal.main_arg0) = m ((c.tc : Thread Cert.MixSIdeal.nD Cert.MixSIdeal.τ).loc Cert.MixSIdeal.main_arg0)
      ∧ m' ((c.tc : Thread Cert.MixSRefIdeal.nD Cert.MixSRefIdeal.τ).loc Cert.MixSRefIdeal.main_arg1) = m ((c.tc : Thread Cert.MixSIdeal.nD Cert.MixSIdeal.τ).loc Cert.MixSIdeal.main_arg1)
      ∧ m' ((c.tc : Thread Cert.MixSRefIdeal.nD Cert.MixSRefIdeal.τ).loc Cert.MixSRefIdeal.main_arg2) = m ((c.tc : Thread Cert.MixSIdeal.nD Cert.MixSIdeal.τ).loc Cert.MixSIdeal.main_arg2)
      ∧ m' ((c.tc : Thread Cert.MixSRefIdeal.nD Cert.MixSRefIdeal.τ).loc Cert.MixSRefIdeal.main_arg3) = m ((c.tc : Thread Cert.MixSIdeal.nD Cert.MixSIdeal.τ).loc Cert.MixSIdeal.main_arg3)
      ∧ m' ((c.tc : Thread Cert.MixSRefIdeal.nD Cert.MixSRefIdeal.τ).loc Cert.MixSRefIdeal.main_arg4) = m ((c.tc : Thread Cert.MixSIdeal.nD Cert.MixSIdeal.τ).loc Cert.MixSIdeal.main_arg4)
      ∧ m' ((c.tc : Thread Cert.MixSRefIdeal.nD Cert.MixSRefIdeal.τ).loc Cert.MixSRefIdeal.main_arg5) = m ((c.tc : Thread Cert.MixSIdeal.nD Cert.MixSIdeal.τ).loc Cert.MixSIdeal.main_arg5)
      ∧ m' ((c.tc : Thread Cert.MixSRefIdeal.nD Cert.MixSRefIdeal.τ).loc Cert.MixSRefIdeal.main_arg6) = m ((c.tc : Thread Cert.MixSIdeal.nD Cert.MixSIdeal.τ).loc Cert.MixSIdeal.main_arg6)
      ∧ m' ((c.tc : Thread Cert.MixSRefIdeal.nD Cert.MixSRefIdeal.τ).loc Cert.MixSRefIdeal.main_arg7) = m ((c.tc : Thread Cert.MixSIdeal.nD Cert.MixSIdeal.τ).loc Cert.MixSIdeal.main_arg7)
      ∧ m' ((c.tc : Thread Cert.MixSRefIdeal.nD Cert.MixSRefIdeal.τ).loc Cert.MixSRefIdeal.main_arg8) = m ((c.tc : Thread Cert.MixSIdeal.nD Cert.MixSIdeal.τ).loc Cert.MixSIdeal.main_arg8)
      ∧ m' ((c.tc : Thread Cert.MixSRefIdeal.nD Cert.MixSRefIdeal.τ).loc Cert.MixSRefIdeal.main_arg9) = m ((c.tc : Thread Cert.MixSIdeal.nD Cert.MixSIdeal.τ).loc Cert.MixSIdeal.main_arg9)
      ∧ m' ((c.tc : Thread Cert.MixSRefIdeal.nD Cert.MixSRefIdeal.τ).loc Cert.MixSRefIdeal.main_arg10) = m ((c.tc : Thread Cert.MixSIdeal.nD Cert.MixSIdeal.τ).loc Cert.MixSIdeal.main_arg10)
      ∧ m' ((c.tc : Thread Cert.MixSRefIdeal.nD Cert.MixSRefIdeal.τ).loc Cert.MixSRefIdeal.main_arg11) = m ((c.tc : Thread Cert.MixSIdeal.nD Cert.MixSIdeal.τ).loc Cert.MixSIdeal.main_arg11)) →
    ∃ (v0 : (c : Dev Cert.MixSIdeal.nD) → Buf (Elt Ideal) ((c.tc : Thread Cert.MixSIdeal.nD Cert.MixSIdeal.τ).loc Cert.MixSIdeal.main_v34_0)) (v1 : (c : Dev Cert.MixSIdeal.nD) → Buf (Elt Ideal) ((c.tc : Thread Cert.MixSIdeal.nD Cert.MixSIdeal.τ).loc Cert.MixSIdeal.main_v34_1)),
      θ_run (Cert.MixSIdeal.defs (F := Ideal)) (onTc (τ := Cert.MixSIdeal.τ) (Cert.MixSIdeal.main (F := Ideal))) ⟨m, fun _ => 0, g⟩ (fun r => ∀ c : Dev Cert.MixSIdeal.nD,
          r.2.mem ((c.tc : Thread Cert.MixSIdeal.nD Cert.MixSIdeal.τ).loc Cert.MixSIdeal.main_v34_0) = v0 c
          ∧ r.2.mem ((c.tc : Thread Cert.MixSIdeal.nD Cert.MixSIdeal.τ).loc Cert.MixSIdeal.main_v34_1) = v1 c
          ∧ r.2.mem ((c.tc : Thread Cert.MixSIdeal.nD Cert.MixSIdeal.τ).loc Cert.MixSIdeal.main_arg0) = m ((c.tc : Thread Cert.MixSIdeal.nD Cert.MixSIdeal.τ).loc Cert.MixSIdeal.main_arg0)
          ∧ r.2.mem ((c.tc : Thread Cert.MixSIdeal.nD Cert.MixSIdeal.τ).loc Cert.MixSIdeal.main_arg1) = m ((c.tc : Thread Cert.MixSIdeal.nD Cert.MixSIdeal.τ).loc Cert.MixSIdeal.main_arg1)
          ∧ r.2.mem ((c.tc : Thread Cert.MixSIdeal.nD Cert.MixSIdeal.τ).loc Cert.MixSIdeal.main_arg2) = m ((c.tc : Thread Cert.MixSIdeal.nD Cert.MixSIdeal.τ).loc Cert.MixSIdeal.main_arg2)
          ∧ r.2.mem ((c.tc : Thread Cert.MixSIdeal.nD Cert.MixSIdeal.τ).loc Cert.MixSIdeal.main_arg3) = m ((c.tc : Thread Cert.MixSIdeal.nD Cert.MixSIdeal.τ).loc Cert.MixSIdeal.main_arg3)
          ∧ r.2.mem ((c.tc : Thread Cert.MixSIdeal.nD Cert.MixSIdeal.τ).loc Cert.MixSIdeal.main_arg4) = m ((c.tc : Thread Cert.MixSIdeal.nD Cert.MixSIdeal.τ).loc Cert.MixSIdeal.main_arg4)
          ∧ r.2.mem ((c.tc : Thread Cert.MixSIdeal.nD Cert.MixSIdeal.τ).loc Cert.MixSIdeal.main_arg5) = m ((c.tc : Thread Cert.MixSIdeal.nD Cert.MixSIdeal.τ).loc Cert.MixSIdeal.main_arg5)
          ∧ r.2.mem ((c.tc : Thread Cert.MixSIdeal.nD Cert.MixSIdeal.τ).loc Cert.MixSIdeal.main_arg6) = m ((c.tc : Thread Cert.MixSIdeal.nD Cert.MixSIdeal.τ).loc Cert.MixSIdeal.main_arg6)
          ∧ r.2.mem ((c.tc : Thread Cert.MixSIdeal.nD Cert.MixSIdeal.τ).loc Cert.MixSIdeal.main_arg7) = m ((c.tc : Thread Cert.MixSIdeal.nD Cert.MixSIdeal.τ).loc Cert.MixSIdeal.main_arg7)
          ∧ r.2.mem ((c.tc : Thread Cert.MixSIdeal.nD Cert.MixSIdeal.τ).loc Cert.MixSIdeal.main_arg8) = m ((c.tc : Thread Cert.MixSIdeal.nD Cert.MixSIdeal.τ).loc Cert.MixSIdeal.main_arg8)
          ∧ r.2.mem ((c.tc : Thread Cert.MixSIdeal.nD Cert.MixSIdeal.τ).loc Cert.MixSIdeal.main_arg9) = m ((c.tc : Thread Cert.MixSIdeal.nD Cert.MixSIdeal.τ).loc Cert.MixSIdeal.main_arg9)
          ∧ r.2.mem ((c.tc : Thread Cert.MixSIdeal.nD Cert.MixSIdeal.τ).loc Cert.MixSIdeal.main_arg10) = m ((c.tc : Thread Cert.MixSIdeal.nD Cert.MixSIdeal.τ).loc Cert.MixSIdeal.main_arg10)
          ∧ r.2.mem ((c.tc : Thread Cert.MixSIdeal.nD Cert.MixSIdeal.τ).loc Cert.MixSIdeal.main_arg11) = m ((c.tc : Thread Cert.MixSIdeal.nD Cert.MixSIdeal.τ).loc Cert.MixSIdeal.main_arg11))
      ∧ θ_run (Cert.MixSRefIdeal.defs (F := Ideal)) (onTc (τ := Cert.MixSRefIdeal.τ) (Cert.MixSRefIdeal.main (F := Ideal))) ⟨m', fun _ => 0, g'⟩ (fun r => ∀ c : Dev Cert.MixSRefIdeal.nD,
          r.2.mem ((c.tc : Thread Cert.MixSRefIdeal.nD Cert.MixSRefIdeal.τ).loc Cert.MixSRefIdeal.main_v111) = v0 c
          ∧ r.2.mem ((c.tc : Thread Cert.MixSRefIdeal.nD Cert.MixSRefIdeal.τ).loc Cert.MixSRefIdeal.main_v112) = v1 c
          ∧ r.2.mem ((c.tc : Thread Cert.MixSRefIdeal.nD Cert.MixSRefIdeal.τ).loc Cert.MixSRefIdeal.main_arg0) = m' ((c.tc : Thread Cert.MixSRefIdeal.nD Cert.MixSRefIdeal.τ).loc Cert.MixSRefIdeal.main_arg0)
          ∧ r.2.mem ((c.tc : Thread Cert.MixSRefIdeal.nD Cert.MixSRefIdeal.τ).loc Cert.MixSRefIdeal.main_arg1) = m' ((c.tc : Thread Cert.MixSRefIdeal.nD Cert.MixSRefIdeal.τ).loc Cert.MixSRefIdeal.main_arg1)
          ∧ r.2.mem ((c.tc : Thread Cert.MixSRefIdeal.nD Cert.MixSRefIdeal.τ).loc Cert.MixSRefIdeal.main_arg2) = m' ((c.tc : Thread Cert.MixSRefIdeal.nD Cert.MixSRefIdeal.τ).loc Cert.MixSRefIdeal.main_arg2)
          ∧ r.2.mem ((c.tc : Thread Cert.MixSRefIdeal.nD Cert.MixSRefIdeal.τ).loc Cert.MixSRefIdeal.main_arg3) = m' ((c.tc : Thread Cert.MixSRefIdeal.nD Cert.MixSRefIdeal.τ).loc Cert.MixSRefIdeal.main_arg3)
          ∧ r.2.mem ((c.tc : Thread Cert.MixSRefIdeal.nD Cert.MixSRefIdeal.τ).loc Cert.MixSRefIdeal.main_arg4) = m' ((c.tc : Thread Cert.MixSRefIdeal.nD Cert.MixSRefIdeal.τ).loc Cert.MixSRefIdeal.main_arg4)
          ∧ r.2.mem ((c.tc : Thread Cert.MixSRefIdeal.nD Cert.MixSRefIdeal.τ).loc Cert.MixSRefIdeal.main_arg5) = m' ((c.tc : Thread Cert.MixSRefIdeal.nD Cert.MixSRefIdeal.τ).loc Cert.MixSRefIdeal.main_arg5)
          ∧ r.2.mem ((c.tc : Thread Cert.MixSRefIdeal.nD Cert.MixSRefIdeal.τ).loc Cert.MixSRefIdeal.main_arg6) = m' ((c.tc : Thread Cert.MixSRefIdeal.nD Cert.MixSRefIdeal.τ).loc Cert.MixSRefIdeal.main_arg6)
          ∧ r.2.mem ((c.tc : Thread Cert.MixSRefIdeal.nD Cert.MixSRefIdeal.τ).loc Cert.MixSRefIdeal.main_arg7) = m' ((c.tc : Thread Cert.MixSRefIdeal.nD Cert.MixSRefIdeal.τ).loc Cert.MixSRefIdeal.main_arg7)
          ∧ r.2.mem ((c.tc : Thread Cert.MixSRefIdeal.nD Cert.MixSRefIdeal.τ).loc Cert.MixSRefIdeal.main_arg8) = m' ((c.tc : Thread Cert.MixSRefIdeal.nD Cert.MixSRefIdeal.τ).loc Cert.MixSRefIdeal.main_arg8)
          ∧ r.2.mem ((c.tc : Thread Cert.MixSRefIdeal.nD Cert.MixSRefIdeal.τ).loc Cert.MixSRefIdeal.main_arg9) = m' ((c.tc : Thread Cert.MixSRefIdeal.nD Cert.MixSRefIdeal.τ).loc Cert.MixSRefIdeal.main_arg9)
          ∧ r.2.mem ((c.tc : Thread Cert.MixSRefIdeal.nD Cert.MixSRefIdeal.τ).loc Cert.MixSRefIdeal.main_arg10) = m' ((c.tc : Thread Cert.MixSRefIdeal.nD Cert.MixSRefIdeal.τ).loc Cert.MixSRefIdeal.main_arg10)
          ∧ r.2.mem ((c.tc : Thread Cert.MixSRefIdeal.nD Cert.MixSRefIdeal.τ).loc Cert.MixSRefIdeal.main_arg11) = m' ((c.tc : Thread Cert.MixSRefIdeal.nD Cert.MixSRefIdeal.τ).loc Cert.MixSRefIdeal.main_arg11))

def preserves_FfnS_FfnSIdeal : Prop :=
  True

def algebraic_FfnSIdeal_FfnSRefIdeal [hFfnSIdeal : Cert.FfnSIdeal.Facts] [hFfnSRefIdeal : Cert.FfnSRefIdeal.Facts] : Prop :=
  ∀ (m : (ℓ : Loc Cert.FfnSIdeal.nD Cert.FfnSIdeal.τ Cert.FfnSIdeal.sig) → Buf (Elt Ideal) ℓ) (g : Dev Cert.FfnSIdeal.nD → PrngReg)
    (m' : (ℓ : Loc Cert.FfnSRefIdeal.nD Cert.FfnSRefIdeal.τ Cert.FfnSRefIdeal.sig) → Buf (Elt Ideal) ℓ) (g' : Dev Cert.FfnSRefIdeal.nD → PrngReg), Pre_FfnSIdeal m →
    (∀ c : Dev Cert.FfnSIdeal.nD,
      m' ((c.tc : Thread Cert.FfnSRefIdeal.nD Cert.FfnSRefIdeal.τ).loc Cert.FfnSRefIdeal.main_arg0) = m ((c.tc : Thread Cert.FfnSIdeal.nD Cert.FfnSIdeal.τ).loc Cert.FfnSIdeal.main_arg0)
      ∧ m' ((c.tc : Thread Cert.FfnSRefIdeal.nD Cert.FfnSRefIdeal.τ).loc Cert.FfnSRefIdeal.main_arg1) = m ((c.tc : Thread Cert.FfnSIdeal.nD Cert.FfnSIdeal.τ).loc Cert.FfnSIdeal.main_arg1)
      ∧ m' ((c.tc : Thread Cert.FfnSRefIdeal.nD Cert.FfnSRefIdeal.τ).loc Cert.FfnSRefIdeal.main_arg2) = m ((c.tc : Thread Cert.FfnSIdeal.nD Cert.FfnSIdeal.τ).loc Cert.FfnSIdeal.main_arg2)
      ∧ m' ((c.tc : Thread Cert.FfnSRefIdeal.nD Cert.FfnSRefIdeal.τ).loc Cert.FfnSRefIdeal.main_arg3) = m ((c.tc : Thread Cert.FfnSIdeal.nD Cert.FfnSIdeal.τ).loc Cert.FfnSIdeal.main_arg3)
      ∧ m' ((c.tc : Thread Cert.FfnSRefIdeal.nD Cert.FfnSRefIdeal.τ).loc Cert.FfnSRefIdeal.main_arg4) = m ((c.tc : Thread Cert.FfnSIdeal.nD Cert.FfnSIdeal.τ).loc Cert.FfnSIdeal.main_arg4)
      ∧ m' ((c.tc : Thread Cert.FfnSRefIdeal.nD Cert.FfnSRefIdeal.τ).loc Cert.FfnSRefIdeal.main_arg5) = m ((c.tc : Thread Cert.FfnSIdeal.nD Cert.FfnSIdeal.τ).loc Cert.FfnSIdeal.main_arg5)
      ∧ m' ((c.tc : Thread Cert.FfnSRefIdeal.nD Cert.FfnSRefIdeal.τ).loc Cert.FfnSRefIdeal.main_arg6) = m ((c.tc : Thread Cert.FfnSIdeal.nD Cert.FfnSIdeal.τ).loc Cert.FfnSIdeal.main_arg6)
      ∧ m' ((c.tc : Thread Cert.FfnSRefIdeal.nD Cert.FfnSRefIdeal.τ).loc Cert.FfnSRefIdeal.main_arg7) = m ((c.tc : Thread Cert.FfnSIdeal.nD Cert.FfnSIdeal.τ).loc Cert.FfnSIdeal.main_arg7)
      ∧ m' ((c.tc : Thread Cert.FfnSRefIdeal.nD Cert.FfnSRefIdeal.τ).loc Cert.FfnSRefIdeal.main_arg8) = m ((c.tc : Thread Cert.FfnSIdeal.nD Cert.FfnSIdeal.τ).loc Cert.FfnSIdeal.main_arg8)
      ∧ m' ((c.tc : Thread Cert.FfnSRefIdeal.nD Cert.FfnSRefIdeal.τ).loc Cert.FfnSRefIdeal.main_arg9) = m ((c.tc : Thread Cert.FfnSIdeal.nD Cert.FfnSIdeal.τ).loc Cert.FfnSIdeal.main_arg9)) →
    ∃ (v0 : (c : Dev Cert.FfnSIdeal.nD) → Buf (Elt Ideal) ((c.tc : Thread Cert.FfnSIdeal.nD Cert.FfnSIdeal.τ).loc Cert.FfnSIdeal.main_v18)),
      θ_run (Cert.FfnSIdeal.defs (F := Ideal)) (onTc (τ := Cert.FfnSIdeal.τ) (Cert.FfnSIdeal.main (F := Ideal))) ⟨m, fun _ => 0, g⟩ (fun r => ∀ c : Dev Cert.FfnSIdeal.nD,
          r.2.mem ((c.tc : Thread Cert.FfnSIdeal.nD Cert.FfnSIdeal.τ).loc Cert.FfnSIdeal.main_v18) = v0 c
          ∧ r.2.mem ((c.tc : Thread Cert.FfnSIdeal.nD Cert.FfnSIdeal.τ).loc Cert.FfnSIdeal.main_arg0) = m ((c.tc : Thread Cert.FfnSIdeal.nD Cert.FfnSIdeal.τ).loc Cert.FfnSIdeal.main_arg0)
          ∧ r.2.mem ((c.tc : Thread Cert.FfnSIdeal.nD Cert.FfnSIdeal.τ).loc Cert.FfnSIdeal.main_arg1) = m ((c.tc : Thread Cert.FfnSIdeal.nD Cert.FfnSIdeal.τ).loc Cert.FfnSIdeal.main_arg1)
          ∧ r.2.mem ((c.tc : Thread Cert.FfnSIdeal.nD Cert.FfnSIdeal.τ).loc Cert.FfnSIdeal.main_arg2) = m ((c.tc : Thread Cert.FfnSIdeal.nD Cert.FfnSIdeal.τ).loc Cert.FfnSIdeal.main_arg2)
          ∧ r.2.mem ((c.tc : Thread Cert.FfnSIdeal.nD Cert.FfnSIdeal.τ).loc Cert.FfnSIdeal.main_arg3) = m ((c.tc : Thread Cert.FfnSIdeal.nD Cert.FfnSIdeal.τ).loc Cert.FfnSIdeal.main_arg3)
          ∧ r.2.mem ((c.tc : Thread Cert.FfnSIdeal.nD Cert.FfnSIdeal.τ).loc Cert.FfnSIdeal.main_arg4) = m ((c.tc : Thread Cert.FfnSIdeal.nD Cert.FfnSIdeal.τ).loc Cert.FfnSIdeal.main_arg4)
          ∧ r.2.mem ((c.tc : Thread Cert.FfnSIdeal.nD Cert.FfnSIdeal.τ).loc Cert.FfnSIdeal.main_arg5) = m ((c.tc : Thread Cert.FfnSIdeal.nD Cert.FfnSIdeal.τ).loc Cert.FfnSIdeal.main_arg5)
          ∧ r.2.mem ((c.tc : Thread Cert.FfnSIdeal.nD Cert.FfnSIdeal.τ).loc Cert.FfnSIdeal.main_arg6) = m ((c.tc : Thread Cert.FfnSIdeal.nD Cert.FfnSIdeal.τ).loc Cert.FfnSIdeal.main_arg6)
          ∧ r.2.mem ((c.tc : Thread Cert.FfnSIdeal.nD Cert.FfnSIdeal.τ).loc Cert.FfnSIdeal.main_arg7) = m ((c.tc : Thread Cert.FfnSIdeal.nD Cert.FfnSIdeal.τ).loc Cert.FfnSIdeal.main_arg7)
          ∧ r.2.mem ((c.tc : Thread Cert.FfnSIdeal.nD Cert.FfnSIdeal.τ).loc Cert.FfnSIdeal.main_arg8) = m ((c.tc : Thread Cert.FfnSIdeal.nD Cert.FfnSIdeal.τ).loc Cert.FfnSIdeal.main_arg8)
          ∧ r.2.mem ((c.tc : Thread Cert.FfnSIdeal.nD Cert.FfnSIdeal.τ).loc Cert.FfnSIdeal.main_arg9) = m ((c.tc : Thread Cert.FfnSIdeal.nD Cert.FfnSIdeal.τ).loc Cert.FfnSIdeal.main_arg9))
      ∧ θ_run (Cert.FfnSRefIdeal.defs (F := Ideal)) (onTc (τ := Cert.FfnSRefIdeal.τ) (Cert.FfnSRefIdeal.main (F := Ideal))) ⟨m', fun _ => 0, g'⟩ (fun r => ∀ c : Dev Cert.FfnSRefIdeal.nD,
          r.2.mem ((c.tc : Thread Cert.FfnSRefIdeal.nD Cert.FfnSRefIdeal.τ).loc Cert.FfnSRefIdeal.main_v65) = v0 c
          ∧ r.2.mem ((c.tc : Thread Cert.FfnSRefIdeal.nD Cert.FfnSRefIdeal.τ).loc Cert.FfnSRefIdeal.main_arg0) = m' ((c.tc : Thread Cert.FfnSRefIdeal.nD Cert.FfnSRefIdeal.τ).loc Cert.FfnSRefIdeal.main_arg0)
          ∧ r.2.mem ((c.tc : Thread Cert.FfnSRefIdeal.nD Cert.FfnSRefIdeal.τ).loc Cert.FfnSRefIdeal.main_arg1) = m' ((c.tc : Thread Cert.FfnSRefIdeal.nD Cert.FfnSRefIdeal.τ).loc Cert.FfnSRefIdeal.main_arg1)
          ∧ r.2.mem ((c.tc : Thread Cert.FfnSRefIdeal.nD Cert.FfnSRefIdeal.τ).loc Cert.FfnSRefIdeal.main_arg2) = m' ((c.tc : Thread Cert.FfnSRefIdeal.nD Cert.FfnSRefIdeal.τ).loc Cert.FfnSRefIdeal.main_arg2)
          ∧ r.2.mem ((c.tc : Thread Cert.FfnSRefIdeal.nD Cert.FfnSRefIdeal.τ).loc Cert.FfnSRefIdeal.main_arg3) = m' ((c.tc : Thread Cert.FfnSRefIdeal.nD Cert.FfnSRefIdeal.τ).loc Cert.FfnSRefIdeal.main_arg3)
          ∧ r.2.mem ((c.tc : Thread Cert.FfnSRefIdeal.nD Cert.FfnSRefIdeal.τ).loc Cert.FfnSRefIdeal.main_arg4) = m' ((c.tc : Thread Cert.FfnSRefIdeal.nD Cert.FfnSRefIdeal.τ).loc Cert.FfnSRefIdeal.main_arg4)
          ∧ r.2.mem ((c.tc : Thread Cert.FfnSRefIdeal.nD Cert.FfnSRefIdeal.τ).loc Cert.FfnSRefIdeal.main_arg5) = m' ((c.tc : Thread Cert.FfnSRefIdeal.nD Cert.FfnSRefIdeal.τ).loc Cert.FfnSRefIdeal.main_arg5)
          ∧ r.2.mem ((c.tc : Thread Cert.FfnSRefIdeal.nD Cert.FfnSRefIdeal.τ).loc Cert.FfnSRefIdeal.main_arg6) = m' ((c.tc : Thread Cert.FfnSRefIdeal.nD Cert.FfnSRefIdeal.τ).loc Cert.FfnSRefIdeal.main_arg6)
          ∧ r.2.mem ((c.tc : Thread Cert.FfnSRefIdeal.nD Cert.FfnSRefIdeal.τ).loc Cert.FfnSRefIdeal.main_arg7) = m' ((c.tc : Thread Cert.FfnSRefIdeal.nD Cert.FfnSRefIdeal.τ).loc Cert.FfnSRefIdeal.main_arg7)
          ∧ r.2.mem ((c.tc : Thread Cert.FfnSRefIdeal.nD Cert.FfnSRefIdeal.τ).loc Cert.FfnSRefIdeal.main_arg8) = m' ((c.tc : Thread Cert.FfnSRefIdeal.nD Cert.FfnSRefIdeal.τ).loc Cert.FfnSRefIdeal.main_arg8)
          ∧ r.2.mem ((c.tc : Thread Cert.FfnSRefIdeal.nD Cert.FfnSRefIdeal.τ).loc Cert.FfnSRefIdeal.main_arg9) = m' ((c.tc : Thread Cert.FfnSRefIdeal.nD Cert.FfnSRefIdeal.τ).loc Cert.FfnSRefIdeal.main_arg9))

def preserves_CmpS_CmpSIdeal : Prop :=
  True

def algebraic_CmpSIdeal_CmpSRefIdeal_pre_finite_scores [hCmpSIdeal : Cert.CmpSIdeal.Facts] [hCmpSRefIdeal : Cert.CmpSRefIdeal.Facts] [hPre_finite_scores : Cert.Pre_finite_scores.Facts] : Prop :=
  ∀ (m : (ℓ : Loc Cert.CmpSIdeal.nD Cert.CmpSIdeal.τ Cert.CmpSIdeal.sig) → Buf (Elt Ideal) ℓ) (g : Dev Cert.CmpSIdeal.nD → PrngReg)
    (m' : (ℓ : Loc Cert.CmpSRefIdeal.nD Cert.CmpSRefIdeal.τ Cert.CmpSRefIdeal.sig) → Buf (Elt Ideal) ℓ) (g' : Dev Cert.CmpSRefIdeal.nD → PrngReg), Pre_CmpSIdeal_finite_scores m →
    (∀ c : Dev Cert.CmpSIdeal.nD,
      m' ((c.tc : Thread Cert.CmpSRefIdeal.nD Cert.CmpSRefIdeal.τ).loc Cert.CmpSRefIdeal.main_arg0) = m ((c.tc : Thread Cert.CmpSIdeal.nD Cert.CmpSIdeal.τ).loc Cert.CmpSIdeal.main_arg0)
      ∧ m' ((c.tc : Thread Cert.CmpSRefIdeal.nD Cert.CmpSRefIdeal.τ).loc Cert.CmpSRefIdeal.main_arg1) = m ((c.tc : Thread Cert.CmpSIdeal.nD Cert.CmpSIdeal.τ).loc Cert.CmpSIdeal.main_arg1)
      ∧ m' ((c.tc : Thread Cert.CmpSRefIdeal.nD Cert.CmpSRefIdeal.τ).loc Cert.CmpSRefIdeal.main_arg2) = m ((c.tc : Thread Cert.CmpSIdeal.nD Cert.CmpSIdeal.τ).loc Cert.CmpSIdeal.main_arg2)) →
    ∃ (v0 : (c : Dev Cert.CmpSIdeal.nD) → Buf (Elt Ideal) ((c.tc : Thread Cert.CmpSIdeal.nD Cert.CmpSIdeal.τ).loc Cert.CmpSIdeal.main_v56)) (v1 : (c : Dev Cert.CmpSIdeal.nD) → Buf (Elt Ideal) ((c.tc : Thread Cert.CmpSIdeal.nD Cert.CmpSIdeal.τ).loc Cert.CmpSIdeal.main_v57)),
      θ_run (Cert.CmpSIdeal.defs (F := Ideal)) (onTc (τ := Cert.CmpSIdeal.τ) (Cert.CmpSIdeal.main (F := Ideal))) ⟨m, fun _ => 0, g⟩ (fun r => ∀ c : Dev Cert.CmpSIdeal.nD,
          r.2.mem ((c.tc : Thread Cert.CmpSIdeal.nD Cert.CmpSIdeal.τ).loc Cert.CmpSIdeal.main_v56) = v0 c
          ∧ r.2.mem ((c.tc : Thread Cert.CmpSIdeal.nD Cert.CmpSIdeal.τ).loc Cert.CmpSIdeal.main_v57) = v1 c
          ∧ r.2.mem ((c.tc : Thread Cert.CmpSIdeal.nD Cert.CmpSIdeal.τ).loc Cert.CmpSIdeal.main_arg0) = m ((c.tc : Thread Cert.CmpSIdeal.nD Cert.CmpSIdeal.τ).loc Cert.CmpSIdeal.main_arg0)
          ∧ r.2.mem ((c.tc : Thread Cert.CmpSIdeal.nD Cert.CmpSIdeal.τ).loc Cert.CmpSIdeal.main_arg1) = m ((c.tc : Thread Cert.CmpSIdeal.nD Cert.CmpSIdeal.τ).loc Cert.CmpSIdeal.main_arg1)
          ∧ r.2.mem ((c.tc : Thread Cert.CmpSIdeal.nD Cert.CmpSIdeal.τ).loc Cert.CmpSIdeal.main_arg2) = m ((c.tc : Thread Cert.CmpSIdeal.nD Cert.CmpSIdeal.τ).loc Cert.CmpSIdeal.main_arg2))
      ∧ θ_run (Cert.CmpSRefIdeal.defs (F := Ideal)) (onTc (τ := Cert.CmpSRefIdeal.τ) (Cert.CmpSRefIdeal.main (F := Ideal))) ⟨m', fun _ => 0, g'⟩ (fun r => ∀ c : Dev Cert.CmpSRefIdeal.nD,
          r.2.mem ((c.tc : Thread Cert.CmpSRefIdeal.nD Cert.CmpSRefIdeal.τ).loc Cert.CmpSRefIdeal.main_v62) = v0 c
          ∧ r.2.mem ((c.tc : Thread Cert.CmpSRefIdeal.nD Cert.CmpSRefIdeal.τ).loc Cert.CmpSRefIdeal.main_v61) = v1 c
          ∧ r.2.mem ((c.tc : Thread Cert.CmpSRefIdeal.nD Cert.CmpSRefIdeal.τ).loc Cert.CmpSRefIdeal.main_arg0) = m' ((c.tc : Thread Cert.CmpSRefIdeal.nD Cert.CmpSRefIdeal.τ).loc Cert.CmpSRefIdeal.main_arg0)
          ∧ r.2.mem ((c.tc : Thread Cert.CmpSRefIdeal.nD Cert.CmpSRefIdeal.τ).loc Cert.CmpSRefIdeal.main_arg1) = m' ((c.tc : Thread Cert.CmpSRefIdeal.nD Cert.CmpSRefIdeal.τ).loc Cert.CmpSRefIdeal.main_arg1)
          ∧ r.2.mem ((c.tc : Thread Cert.CmpSRefIdeal.nD Cert.CmpSRefIdeal.τ).loc Cert.CmpSRefIdeal.main_arg2) = m' ((c.tc : Thread Cert.CmpSRefIdeal.nD Cert.CmpSRefIdeal.τ).loc Cert.CmpSRefIdeal.main_arg2))

def Claim : Prop :=
  ∃ (hFfn : Cert.Ffn.Facts) (hFfnIdeal : Cert.FfnIdeal.Facts) (hFfnRefIdeal : Cert.FfnRefIdeal.Facts) (hInProj : Cert.InProj.Facts) (hInProjIdeal : Cert.InProjIdeal.Facts) (hInProjRefIdeal : Cert.InProjRefIdeal.Facts) (hMix : Cert.Mix.Facts) (hMixIdeal : Cert.MixIdeal.Facts) (hMixRefIdeal : Cert.MixRefIdeal.Facts) (hInRows : Cert.InRows.Facts) (hInRowsIdeal : Cert.InRowsIdeal.Facts) (hInRowsRefIdeal : Cert.InRowsRefIdeal.Facts) (hMixS : Cert.MixS.Facts) (hMixSIdeal : Cert.MixSIdeal.Facts) (hMixSRefIdeal : Cert.MixSRefIdeal.Facts) (hFfnS : Cert.FfnS.Facts) (hFfnSIdeal : Cert.FfnSIdeal.Facts) (hFfnSRefIdeal : Cert.FfnSRefIdeal.Facts) (hCmpS : Cert.CmpS.Facts) (hCmpSIdeal : Cert.CmpSIdeal.Facts) (hCmpSRefIdeal : Cert.CmpSRefIdeal.Facts) (hPre_finite_scores : Cert.Pre_finite_scores.Facts),
    quiescent_Ffn (hFfn := hFfn)
    ∧ quiescent_FfnIdeal (hFfnIdeal := hFfnIdeal)
    ∧ quiescent_FfnRefIdeal (hFfnRefIdeal := hFfnRefIdeal)
    ∧ quiescent_InProj (hInProj := hInProj)
    ∧ quiescent_InProjIdeal (hInProjIdeal := hInProjIdeal)
    ∧ quiescent_InProjRefIdeal (hInProjRefIdeal := hInProjRefIdeal)
    ∧ quiescent_Mix (hMix := hMix)
    ∧ quiescent_MixIdeal (hMixIdeal := hMixIdeal)
    ∧ quiescent_MixRefIdeal (hMixRefIdeal := hMixRefIdeal)
    ∧ quiescent_InRows (hInRows := hInRows)
    ∧ quiescent_InRowsIdeal (hInRowsIdeal := hInRowsIdeal)
    ∧ quiescent_InRowsRefIdeal (hInRowsRefIdeal := hInRowsRefIdeal)
    ∧ quiescent_MixS (hMixS := hMixS)
    ∧ quiescent_MixSIdeal (hMixSIdeal := hMixSIdeal)
    ∧ quiescent_MixSRefIdeal (hMixSRefIdeal := hMixSRefIdeal)
    ∧ quiescent_FfnS (hFfnS := hFfnS)
    ∧ quiescent_FfnSIdeal (hFfnSIdeal := hFfnSIdeal)
    ∧ quiescent_FfnSRefIdeal (hFfnSRefIdeal := hFfnSRefIdeal)
    ∧ quiescent_CmpS (hCmpS := hCmpS)
    ∧ quiescent_CmpSIdeal (hCmpSIdeal := hCmpSIdeal)
    ∧ quiescent_CmpSIdeal_pre_finite_scores (hCmpSIdeal := hCmpSIdeal) (hPre_finite_scores := hPre_finite_scores)
    ∧ quiescent_CmpSRefIdeal (hCmpSRefIdeal := hCmpSRefIdeal)
    ∧ quiescent_CmpSRefIdeal_pre_finite_scores (hCmpSRefIdeal := hCmpSRefIdeal) (hPre_finite_scores := hPre_finite_scores)
    ∧ preserves_Ffn_FfnIdeal
    ∧ algebraic_FfnIdeal_FfnRefIdeal (hFfnIdeal := hFfnIdeal) (hFfnRefIdeal := hFfnRefIdeal)
    ∧ preserves_InProj_InProjIdeal
    ∧ algebraic_InProjIdeal_InProjRefIdeal (hInProjIdeal := hInProjIdeal) (hInProjRefIdeal := hInProjRefIdeal)
    ∧ preserves_Mix_MixIdeal
    ∧ algebraic_MixIdeal_MixRefIdeal (hMixIdeal := hMixIdeal) (hMixRefIdeal := hMixRefIdeal)
    ∧ preserves_InRows_InRowsIdeal
    ∧ algebraic_InRowsIdeal_InRowsRefIdeal (hInRowsIdeal := hInRowsIdeal) (hInRowsRefIdeal := hInRowsRefIdeal)
    ∧ preserves_MixS_MixSIdeal
    ∧ algebraic_MixSIdeal_MixSRefIdeal (hMixSIdeal := hMixSIdeal) (hMixSRefIdeal := hMixSRefIdeal)
    ∧ preserves_FfnS_FfnSIdeal
    ∧ algebraic_FfnSIdeal_FfnSRefIdeal (hFfnSIdeal := hFfnSIdeal) (hFfnSRefIdeal := hFfnSRefIdeal)
    ∧ preserves_CmpS_CmpSIdeal
    ∧ algebraic_CmpSIdeal_CmpSRefIdeal_pre_finite_scores (hCmpSIdeal := hCmpSIdeal) (hCmpSRefIdeal := hCmpSRefIdeal) (hPre_finite_scores := hPre_finite_scores)
-- ==== Pre_finite_scores.lean ====
abbrev S32x8x64 : Shape := ⟨3, ![32, 8, 64]⟩
abbrev S32x1024x256 : Shape := ⟨3, ![32, 1024, 256]⟩
abbrev S8x1024 : Shape := ⟨2, ![8, 1024]⟩
abbrev S_ : Shape := ⟨0, ![]⟩
abbrev S32x1023x128 : Shape := ⟨3, ![32, 1023, 128]⟩
abbrev S8x1023 : Shape := ⟨2, ![8, 1023]⟩

class Facts : Prop where
  bcast_S_S32x8x64 : S_.BroadcastsInDim S32x8x64 (![] : Fin 0 → Fin S32x8x64.rank)
  slices_S32x1024x256_S32x1023x128_0_1_0 : S32x1024x256.Slices ![0, 1, 0] S32x1023x128
  bitsLt_bf16_f32 : FTy.bits .bf16 < FTy.bits .f32
  bcast_S_S32x1023x128 : S_.BroadcastsInDim S32x1023x128 (![] : Fin 0 → Fin S32x1023x128.rank)
  slices_S8x1024_S8x1023_0_1 : S8x1024.Slices ![0, 1] S8x1023
  bcast_S_S8x1023 : S_.BroadcastsInDim S8x1023 (![] : Fin 0 → Fin S8x1023.rank)

variable [Facts]

def fn {F : FTy → Type} [FloatOps F] (main_arg0 : FVec F S32x8x64 .f32) (main_arg1 : FVec F S32x1024x256 .bf16) (main_arg2 : FVec F S8x1024 .f32) : IVec S32x8x64 1 × IVec S32x1023x128 1 × IVec S8x1023 1 :=
  let main_v0 : FVec F S32x8x64 .f32 := Host.absf main_arg0
  let main_cst : FVec F S_ .f32 := constant S_ .f32 0x7F800000#32
  let main_v1 : FVec F S32x8x64 .f32 := broadcastInDim S32x8x64 ![] bcast_S_S32x8x64 main_cst
  let main_v2 : IVec S32x8x64 1 := cmpf .olt main_v0 main_v1
  let main_v3 : FVec F S32x1023x128 .bf16 := (extractStridedSlice S32x1023x128 ![0, 1, 0] · slices_S32x1024x256_S32x1023x128_0_1_0) main_arg1
  let main_v4 : FVec F S32x1023x128 .f32 := (extf .f32 · bitsLt_bf16_f32) main_v3
  let main_v5 : FVec F S32x1023x128 .f32 := Host.absf main_v4
  let main_cst_0 : FVec F S_ .f32 := constant S_ .f32 0x7F800000#32
  let main_v6 : FVec F S32x1023x128 .f32 := broadcastInDim S32x1023x128 ![] bcast_S_S32x1023x128 main_cst_0
  let main_v7 : IVec S32x1023x128 1 := cmpf .olt main_v5 main_v6
  let main_v8 : FVec F S8x1023 .f32 := (extractStridedSlice S8x1023 ![0, 1] · slices_S8x1024_S8x1023_0_1) main_arg2
  let main_v9 : FVec F S8x1023 .f32 := Host.absf main_v8
  let main_cst_1 : FVec F S_ .f32 := constant S_ .f32 0x7F800000#32
  let main_v10 : FVec F S8x1023 .f32 := broadcastInDim S8x1023 ![] bcast_S_S8x1023 main_cst_1
  let main_v11 : IVec S8x1023 1 := cmpf .olt main_v9 main_v10
  (main_v2, main_v7, main_v11)
-- ==== Ffn.lean ====
abbrev S32768x1024 : Shape := ⟨2, ![32768, 1024]⟩
abbrev S1x4x8192x256 : Shape := ⟨4, ![1, 4, 8192, 256]⟩
abbrev S1x1024 : Shape := ⟨2, ![1, 1024]⟩
abbrev S1x1024x2816 : Shape := ⟨3, ![1, 1024, 2816]⟩
abbrev S1x2816x1024 : Shape := ⟨3, ![1, 2816, 1024]⟩
abbrev S1x256x1024 : Shape := ⟨3, ![1, 256, 1024]⟩
abbrev S1x1024x1024 : Shape := ⟨3, ![1, 1024, 1024]⟩
abbrev S1024 : Shape := ⟨1, ![1024]⟩
abbrev S1024x2816 : Shape := ⟨2, ![1024, 2816]⟩
abbrev S2816x1024 : Shape := ⟨2, ![2816, 1024]⟩
abbrev S256x1024 : Shape := ⟨2, ![256, 1024]⟩
abbrev S1024x1024 : Shape := ⟨2, ![1024, 1024]⟩
abbrev S4x8192x256 : Shape := ⟨3, ![4, 8192, 256]⟩
abbrev S32768x256 : Shape := ⟨2, ![32768, 256]⟩
abbrev S512x1024 : Shape := ⟨2, ![512, 1024]⟩
abbrev S512x256 : Shape := ⟨2, ![512, 256]⟩
abbrev S256x256 : Shape := ⟨2, ![256, 256]⟩
abbrev S256 : Shape := ⟨1, ![256]⟩
abbrev S256x1 : Shape := ⟨2, ![256, 1]⟩
abbrev S256x2816 : Shape := ⟨2, ![256, 2816]⟩

abbrev nBuf : Space → Nat
  | .hbm => 29
  | .vmem => 14
  | .smem => 0
  | _ => 0

abbrev bufTy : (tb : Table) → Fin (tcTables nBuf tb) → BufTy
  | .hbm, ⟨0, _⟩ => ⟨S32768x1024, .f32⟩
  | .hbm, ⟨1, _⟩ => ⟨S1x4x8192x256, .f32⟩
  | .hbm, ⟨2, _⟩ => ⟨S1x1024, .f32⟩
  | .hbm, ⟨3, _⟩ => ⟨S1x1024x2816, .f32⟩
  | .hbm, ⟨4, _⟩ => ⟨S1x1024x2816, .f32⟩
  | .hbm, ⟨5, _⟩ => ⟨S1x2816x1024, .f32⟩
  | .hbm, ⟨6, _⟩ => ⟨S1x1024, .f32⟩
  | .hbm, ⟨7, _⟩ => ⟨S1x256x1024, .f32⟩
  | .hbm, ⟨8, _⟩ => ⟨S1x1024x1024, .f32⟩
  | .hbm, ⟨9, _⟩ => ⟨S1x1024, .f32⟩
  | .hbm, ⟨10, _⟩ => ⟨S1024, .f32⟩
  | .hbm, ⟨11, _⟩ => ⟨S1x1024, .f32⟩
  | .hbm, ⟨12, _⟩ => ⟨S1024x2816, .f32⟩
  | .hbm, ⟨13, _⟩ => ⟨S1024x2816, .bf16⟩
  | .hbm, ⟨14, _⟩ => ⟨S1024x2816, .f32⟩
  | .hbm, ⟨15, _⟩ => ⟨S1024x2816, .bf16⟩
  | .hbm, ⟨16, _⟩ => ⟨S2816x1024, .f32⟩
  | .hbm, ⟨17, _⟩ => ⟨S2816x1024, .bf16⟩
  | .hbm, ⟨18, _⟩ => ⟨S1024, .f32⟩
  | .hbm, ⟨19, _⟩ => ⟨S1x1024, .f32⟩
  | .hbm, ⟨20, _⟩ => ⟨S256x1024, .f32⟩
  | .hbm, ⟨21, _⟩ => ⟨S256x1024, .bf16⟩
  | .hbm, ⟨22, _⟩ => ⟨S1024x1024, .f32⟩
  | .hbm, ⟨23, _⟩ => ⟨S1024x1024, .bf16⟩
  | .hbm, ⟨24, _⟩ => ⟨S1024, .f32⟩
  | .hbm, ⟨25, _⟩ => ⟨S1x1024, .f32⟩
  | .hbm, ⟨26, _⟩ => ⟨S4x8192x256, .f32⟩
  | .hbm, ⟨27, _⟩ => ⟨S32768x256, .f32⟩
  | .hbm, ⟨28, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x256, .f32⟩
  | .local _ .vmem, ⟨3, _⟩ => ⟨S512x256, .f32⟩
  | .local _ .vmem, ⟨4, _⟩ => ⟨S1x1024, .f32⟩
  | .local _ .vmem, ⟨5, _⟩ => ⟨S1024x2816, .bf16⟩
  | .local _ .vmem, ⟨6, _⟩ => ⟨S1024x2816, .bf16⟩
  | .local _ .vmem, ⟨7, _⟩ => ⟨S2816x1024, .bf16⟩
  | .local _ .vmem, ⟨8, _⟩ => ⟨S1x1024, .f32⟩
  | .local _ .vmem, ⟨9, _⟩ => ⟨S256x1024, .bf16⟩
  | .local _ .vmem, ⟨10, _⟩ => ⟨S1024x1024, .bf16⟩
  | .local _ .vmem, ⟨11, _⟩ => ⟨S1x1024, .f32⟩
  | .local _ .vmem, ⟨12, _⟩ => ⟨S512x1024, .f32⟩
  | .local _ .vmem, ⟨13, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2816 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== FfnRefIdeal.lean ====
abbrev S32768x1024 : Shape := ⟨2, ![32768, 1024]⟩
abbrev S1x4x8192x256 : Shape := ⟨4, ![1, 4, 8192, 256]⟩
abbrev S1x1024 : Shape := ⟨2, ![1, 1024]⟩
abbrev S1x1024x2816 : Shape := ⟨3, ![1, 1024, 2816]⟩
abbrev S1x2816x1024 : Shape := ⟨3, ![1, 2816, 1024]⟩
abbrev S1x256x1024 : Shape := ⟨3, ![1, 256, 1024]⟩
abbrev S1x1024x1024 : Shape := ⟨3, ![1, 1024, 1024]⟩
abbrev S4x8192x256 : Shape := ⟨3, ![4, 8192, 256]⟩
abbrev S32768x256 : Shape := ⟨2, ![32768, 256]⟩
abbrev S1024 : Shape := ⟨1, ![1024]⟩
abbrev S_ : Shape := ⟨0, ![]⟩
abbrev S32768 : Shape := ⟨1, ![32768]⟩
abbrev S32768x1 : Shape := ⟨2, ![32768, 1]⟩
abbrev S1024x2816 : Shape := ⟨2, ![1024, 2816]⟩
abbrev S32768x2816 : Shape := ⟨2, ![32768, 2816]⟩
abbrev S2816x1024 : Shape := ⟨2, ![2816, 1024]⟩
abbrev S256x1024 : Shape := ⟨2, ![256, 1024]⟩
abbrev S1024x1024 : Shape := ⟨2, ![1024, 1024]⟩

abbrev nBuf : Space → Nat
  | .hbm => 94
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1x4x8192x256, .f32⟩
  | .hbm, ⟨2, _⟩ => ⟨S1x1024, .f32⟩
  | .hbm, ⟨3, _⟩ => ⟨S1x1024x2816, .f32⟩
  | .hbm, ⟨4, _⟩ => ⟨S1x1024x2816, .f32⟩
  | .hbm, ⟨5, _⟩ => ⟨S1x2816x1024, .f32⟩
  | .hbm, ⟨6, _⟩ => ⟨S1x1024, .f32⟩
  | .hbm, ⟨7, _⟩ => ⟨S1x256x1024, .f32⟩
  | .hbm, ⟨8, _⟩ => ⟨S1x1024x1024, .f32⟩
  | .hbm, ⟨9, _⟩ => ⟨S1x1024, .f32⟩
  | .hbm, ⟨10, _⟩ => ⟨S4x8192x256, .f32⟩
  | .hbm, ⟨11, _⟩ => ⟨S32768x256, .f32⟩
  | .hbm, ⟨12, _⟩ => ⟨S1024, .f32⟩
  | .hbm, ⟨13, _⟩ => ⟨S32768x1024, .f32⟩
  | .hbm, ⟨14, _⟩ => ⟨S_, .f32⟩
  | .hbm, ⟨15, _⟩ => ⟨S32768, .f32⟩
  | .hbm, ⟨16, _⟩ => ⟨S32768x1, .f32⟩
  | .hbm, ⟨17, _⟩ => ⟨S_, .f32⟩
  | .hbm, ⟨18, _⟩ => ⟨S32768x1, .f32⟩
  | .hbm, ⟨19, _⟩ => ⟨S32768x1, .f32⟩
  | .hbm, ⟨20, _⟩ => ⟨S_, .f32⟩
  | .hbm, ⟨21, _⟩ => ⟨S32768x1, .f32⟩
  | .hbm, ⟨22, _⟩ => ⟨S32768x1, .f32⟩
  | .hbm, ⟨23, _⟩ => ⟨S32768x1, .f32⟩
  | .hbm, ⟨24, _⟩ => ⟨S32768x1024, .f32⟩
  | .hbm, ⟨25, _⟩ => ⟨S32768x1024, .f32⟩
  | .hbm, ⟨26, _⟩ => ⟨S1x1024, .f32⟩
  | .hbm, ⟨27, _⟩ => ⟨S32768x1024, .f32⟩
  | .hbm, ⟨28, _⟩ => ⟨S32768x1024, .f32⟩
  | .hbm, ⟨29, _⟩ => ⟨S1024x2816, .f32⟩
  | .hbm, ⟨30, _⟩ => ⟨S32768x2816, .f32⟩
  | .hbm, ⟨31, _⟩ => ⟨S32768x2816, .f32⟩
  | .hbm, ⟨32, _⟩ => ⟨S32768x2816, .f32⟩
  | .hbm, ⟨33, _⟩ => ⟨S_, .f32⟩
  | .hbm, ⟨34, _⟩ => ⟨S32768x2816, .f32⟩
  | .hbm, ⟨35, _⟩ => ⟨S32768x2816, .f32⟩
  | .hbm, ⟨36, _⟩ => ⟨S_, .f32⟩
  | .hbm, ⟨37, _⟩ => ⟨S32768x2816, .f32⟩
  | .hbm, ⟨38, _⟩ => ⟨S32768x2816, .f32⟩
  | .hbm, ⟨39, _⟩ => ⟨S32768x2816, .f32⟩
  | .hbm, ⟨40, _⟩ => ⟨S1024x2816, .f32⟩
  | .hbm, ⟨41, _⟩ => ⟨S32768x2816, .f32⟩
  | .hbm, ⟨42, _⟩ => ⟨S32768x2816, .f32⟩
  | .hbm, ⟨43, _⟩ => ⟨S2816x1024, .f32⟩
  | .hbm, ⟨44, _⟩ => ⟨S32768x1024, .f32⟩
  | .hbm, ⟨45, _⟩ => ⟨S1024, .f32⟩
  | .hbm, ⟨46, _⟩ => ⟨S32768x1024, .f32⟩
  | .hbm, ⟨47, _⟩ => ⟨S_, .f32⟩
  | .hbm, ⟨48, _⟩ => ⟨S32768, .f32⟩
  | .hbm, ⟨49, _⟩ => ⟨S32768x1, .f32⟩
  | .hbm, ⟨50, _⟩ => ⟨S_, .f32⟩
  | .hbm, ⟨51, _⟩ => ⟨S32768x1, .f32⟩
  | .hbm, ⟨52, _⟩ => ⟨S32768x1, .f32⟩
  | .hbm, ⟨53, _⟩ => ⟨S_, .f32⟩
  | .hbm, ⟨54, _⟩ => ⟨S32768x1, .f32⟩
  | .hbm, ⟨55, _⟩ => ⟨S32768x1, .f32⟩
  | .hbm, ⟨56, _⟩ => ⟨S32768x1, .f32⟩
  | .hbm, ⟨57, _⟩ => ⟨S32768x1024, .f32⟩
  | .hbm, ⟨58, _⟩ => ⟨S32768x1024, .f32⟩
  | .hbm, ⟨59, _⟩ => ⟨S1x1024, .f32⟩
  | .hbm, ⟨60, _⟩ => ⟨S32768x1024, .f32⟩
  | .hbm, ⟨61, _⟩ => ⟨S32768x1024, .f32⟩
  | .hbm, ⟨62, _⟩ => ⟨S32768x1024, .f32⟩
  | .hbm, ⟨63, _⟩ => ⟨S256x1024, .f32⟩
  | .hbm, ⟨64, _⟩ => ⟨S32768x1024, .f32⟩
  | .hbm, ⟨65, _⟩ => ⟨S1024x1024, .f32⟩
  | .hbm, ⟨66, _⟩ => ⟨S32768x1024, .f32⟩
  | .hbm, ⟨67, _⟩ => ⟨S32768x1024, .f32⟩
  | .hbm, ⟨68, _⟩ => ⟨S32768x1024, .f32⟩
  | .hbm, ⟨69, _⟩ => ⟨S_, .f32⟩
  | .hbm, ⟨70, _⟩ => ⟨S32768x1024, .f32⟩
  | .hbm, ⟨71, _⟩ => ⟨S32768x1024, .f32⟩
  | .hbm, ⟨72, _⟩ => ⟨S_, .f32⟩
  | .hbm, ⟨73, _⟩ => ⟨S32768x1024, .f32⟩
  | .hbm, ⟨74, _⟩ => ⟨S32768x1024, .f32⟩
  | .hbm, ⟨75, _⟩ => ⟨S32768x1024, .f32⟩
  | .hbm, ⟨76, _⟩ => ⟨S1024, .f32⟩
  | .hbm, ⟨77, _⟩ => ⟨S32768x1024, .f32⟩
  | .hbm, ⟨78, _⟩ => ⟨S_, .f32⟩
  | .hbm, ⟨79, _⟩ => ⟨S32768, .f32⟩
  | .hbm, ⟨80, _⟩ => ⟨S32768x1, .f32⟩
  | .hbm, ⟨81, _⟩ => ⟨S_, .f32⟩
  | .hbm, ⟨82, _⟩ => ⟨S32768x1, .f32⟩
  | .hbm, ⟨83, _⟩ => ⟨S32768x1, .f32⟩
  | .hbm, ⟨84, _⟩ => ⟨S_, .f32⟩
  | .hbm, ⟨85, _⟩ => ⟨S32768x1, .f32⟩
  | .hbm, ⟨86, _⟩ => ⟨S32768x1, .f32⟩
  | .hbm, ⟨87, _⟩ => ⟨S32768x1, .f32⟩
  | .hbm, ⟨88, _⟩ => ⟨S32768x1024, .f32⟩
  | .hbm, ⟨89, _⟩ => ⟨S32768x1024, .f32⟩
  | .hbm, ⟨90, _⟩ => ⟨S1x1024, .f32⟩
  | .hbm, ⟨91, _⟩ => ⟨S32768x1024, .f32⟩
  | .hbm, ⟨92, _⟩ => ⟨S32768x1024, .f32⟩
  | .hbm, ⟨93, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_call0_v0 : Ref sig .tc := ⟨.hbm, 31, rfl⟩
abbrev main_call0_v1 : Ref sig .tc := ⟨.hbm, 32, rfl⟩
abbrev main_call0_cst : Ref sig .tc := ⟨.hbm, 33, rfl⟩
abbrev main_call0_v2 : Ref sig .tc := ⟨.hbm, 34, rfl⟩
abbrev main_call0_v3 : Ref sig .tc := ⟨.hbm, 35, rfl⟩
abbrev main_call0_cst_0 : Ref sig .tc := ⟨.hbm, 36, rfl⟩
abbrev main_call0_v4 : Ref sig .tc := ⟨.hbm, 37, rfl⟩
abbrev main_call0_v5 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_cst_2 : Ref sig .tc := ⟨.hbm, 47, rfl⟩
abbrev main_v26 : Ref sig .tc := ⟨.hbm, 48, rfl⟩
abbrev main_v27 : Ref sig .tc := ⟨.hbm, 49, rfl⟩
abbrev main_cst_3 : Ref sig .tc := ⟨.hbm, 50, rfl⟩
abbrev main_v28 : Ref sig .tc := ⟨.hbm, 51, rfl⟩
abbrev main_v29 : Ref sig .tc := ⟨.hbm, 52, rfl⟩
abbrev main_cst_4 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_cst_5 : Ref sig .tc := ⟨.hbm, 69, rfl⟩
abbrev main_v45 : Ref sig .tc := ⟨.hbm, 70, rfl⟩
abbrev main_v46 : Ref sig .tc := ⟨.hbm, 71, rfl⟩
abbrev main_cst_6 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_cst_7 : Ref sig .tc := ⟨.hbm, 78, rfl⟩
abbrev main_v52 : Ref sig .tc := ⟨.hbm, 79, rfl⟩
abbrev main_v53 : Ref sig .tc := ⟨.hbm, 80, rfl⟩
abbrev main_cst_8 : Ref sig .tc := ⟨.hbm, 81, rfl⟩
abbrev main_v54 : Ref sig .tc := ⟨.hbm, 82, rfl⟩
abbrev main_v55 : Ref sig .tc := ⟨.hbm, 83, rfl⟩
abbrev main_cst_9 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩

abbrev nD : Nat := 1
abbrev τ : Topo := Topo.v7x

variable {F : FTy → Type} [FloatOps F]
-- ==== InProj.lean ====
abbrev S4x8192x1024 : Shape := ⟨3, ![4, 8192, 1024]⟩
abbrev S1x1024 : Shape := ⟨2, ![1, 1024]⟩
abbrev S1x1024x4376 : Shape := ⟨3, ![1, 1024, 4376]⟩
abbrev S512x128 : Shape := ⟨2, ![512, 128]⟩
abbrev S1024x4376 : Shape := ⟨2, ![1024, 4376]⟩
abbrev S1024x512 : Shape := ⟨2, ![1024, 512]⟩
abbrev S1024x8x64 : Shape := ⟨3, ![1024, 8, 64]⟩
abbrev S_ : Shape := ⟨0, ![]⟩
abbrev S8 : Shape := ⟨1, ![8]⟩
abbrev S8x1 : Shape := ⟨2, ![8, 1]⟩
abbrev S2 : Shape := ⟨1, ![2]⟩
abbrev S1x2 : Shape := ⟨2, ![1, 2]⟩
abbrev S8x2 : Shape := ⟨2, ![8, 2]⟩
abbrev S1024x8x1x64 : Shape := ⟨4, ![1024, 8, 1, 64]⟩
abbrev S1x8x2x1 : Shape := ⟨4, ![1, 8, 2, 1]⟩
abbrev S1024x8x2x64 : Shape := ⟨4, ![1024, 8, 2, 64]⟩
abbrev S1024x1024 : Shape := ⟨2, ![1024, 1024]⟩
abbrev S1024x24 : Shape := ⟨2, ![1024, 24]⟩
abbrev S1024x8x3 : Shape := ⟨3, ![1024, 8, 3]⟩
abbrev S1024x3x8 : Shape := ⟨3, ![1024, 3, 8]⟩
abbrev S1024x128 : Shape := ⟨2, ![1024, 128]⟩
abbrev S1024x768 : Shape := ⟨2, ![1024, 768]⟩
abbrev S1024x1920 : Shape := ⟨2, ![1024, 1920]⟩
abbrev S1024 : Shape := ⟨1, ![1024]⟩
abbrev S4x1024x8192 : Shape := ⟨3, ![4, 1024, 8192]⟩
abbrev S4x256x8192 : Shape := ⟨3, ![4, 256, 8192]⟩
abbrev S4x8704x256 : Shape := ⟨3, ![4, 8704, 256]⟩
abbrev S4x256x8704 : Shape := ⟨3, ![4, 256, 8704]⟩
abbrev S4x24x8192 : Shape := ⟨3, ![4, 24, 8192]⟩
abbrev S1x512x1024 : Shape := ⟨3, ![1, 512, 1024]⟩
abbrev S1x1024x512 : Shape := ⟨3, ![1, 1024, 512]⟩
abbrev S1x256x512 : Shape := ⟨3, ![1, 256, 512]⟩
abbrev S1x512x256 : Shape := ⟨3, ![1, 512, 256]⟩
abbrev S1x24x512 : Shape := ⟨3, ![1, 24, 512]⟩
abbrev S512x256 : Shape := ⟨2, ![512, 256]⟩
abbrev S256x512 : Shape := ⟨2, ![256, 512]⟩
abbrev S1x256x1024 : Shape := ⟨3, ![1, 256, 1024]⟩
abbrev S256x1024 : Shape := ⟨2, ![256, 1024]⟩
abbrev S256 : Shape := ⟨1, ![256]⟩
abbrev S256x1 : Shape := ⟨2, ![256, 1]⟩
abbrev S256x1920 : Shape := ⟨2, ![256, 1920]⟩
abbrev S1024x256 : Shape := ⟨2, ![1024, 256]⟩
abbrev S1x1024x256 : Shape := ⟨3, ![1, 1024, 256]⟩
abbrev S256x256 : Shape := ⟨2, ![256, 256]⟩
abbrev S1x256x256 : Shape := ⟨3, ![1, 256, 256]⟩
abbrev S256x128 : Shape := ⟨2, ![256, 128]⟩
abbrev S128x256 : Shape := ⟨2, ![128, 256]⟩
abbrev S64x256 : Shape := ⟨2, ![64, 256]⟩
abbrev S24x256 : Shape := ⟨2, ![24, 256]⟩
abbrev S1x24x256 : Shape := ⟨3, ![1, 24, 256]⟩

abbrev nBuf : Space → Nat
  | .hbm => 65
  | .vmem => 25
  | .smem => 0
  | _ => 0

abbrev bufTy : (tb : Table) → Fin (tcTables nBuf tb) → BufTy
  | .hbm, ⟨0, _⟩ => ⟨S4x8192x1024, .f32⟩
  | .hbm, ⟨1, _⟩ => ⟨S1x1024, .f32⟩
  | .hbm, ⟨2, _⟩ => ⟨S1x1024x4376, .f32⟩
  | .hbm, ⟨3, _⟩ => ⟨S512x128, .bf16⟩
  | .hbm, ⟨4, _⟩ => ⟨S512x128, .bf16⟩
  | .hbm, ⟨5, _⟩ => ⟨S512x128, .bf16⟩
  | .hbm, ⟨6, _⟩ => ⟨S1024x4376, .f32⟩
  | .hbm, ⟨7, _⟩ => ⟨S1024x512, .f32⟩
  | .hbm, ⟨8, _⟩ => ⟨S1024x8x64, .f32⟩
  | .hbm, ⟨9, _⟩ => ⟨S_, .f32⟩
  | .hbm, ⟨10, _⟩ => ⟨S1024x8x64, .f32⟩
  | .hbm, ⟨11, _⟩ => ⟨S1024x8x64, .f32⟩
  | .hbm, ⟨12, _⟩ => ⟨S8, .i32⟩
  | .hbm, ⟨13, _⟩ => ⟨S_, .i32⟩
  | .hbm, ⟨14, _⟩ => ⟨S_, .i32⟩
  | .hbm, ⟨15, _⟩ => ⟨S8, .i32⟩
  | .hbm, ⟨16, _⟩ => ⟨S8, .i32⟩
  | .hbm, ⟨17, _⟩ => ⟨S8, .i32⟩
  | .hbm, ⟨18, _⟩ => ⟨S_, .i32⟩
  | .hbm, ⟨19, _⟩ => ⟨S8, .i32⟩
  | .hbm, ⟨20, _⟩ => ⟨S8, .i1⟩
  | .hbm, ⟨21, _⟩ => ⟨S8, .i32⟩
  | .hbm, ⟨22, _⟩ => ⟨S8, .i32⟩
  | .hbm, ⟨23, _⟩ => ⟨S_, .i32⟩
  | .hbm, ⟨24, _⟩ => ⟨S8, .i32⟩
  | .hbm, ⟨25, _⟩ => ⟨S8, .i1⟩
  | .hbm, ⟨26, _⟩ => ⟨S8, .i1⟩
  | .hbm, ⟨27, _⟩ => ⟨S_, .i32⟩
  | .hbm, ⟨28, _⟩ => ⟨S8, .i32⟩
  | .hbm, ⟨29, _⟩ => ⟨S8, .i32⟩
  | .hbm, ⟨30, _⟩ => ⟨S8, .i32⟩
  | .hbm, ⟨31, _⟩ => ⟨S8x1, .i32⟩
  | .hbm, ⟨32, _⟩ => ⟨S2, .i32⟩
  | .hbm, ⟨33, _⟩ => ⟨S1x2, .i32⟩
  | .hbm, ⟨34, _⟩ => ⟨S8x2, .i32⟩
  | .hbm, ⟨35, _⟩ => ⟨S8x2, .i32⟩
  | .hbm, ⟨36, _⟩ => ⟨S8x2, .i1⟩
  | .hbm, ⟨37, _⟩ => ⟨S1024x8x1x64, .f32⟩
  | .hbm, ⟨38, _⟩ => ⟨S1x8x2x1, .i1⟩
  | .hbm, ⟨39, _⟩ => ⟨S1x8x2x1, .f32⟩
  | .hbm, ⟨40, _⟩ => ⟨S1024x8x2x64, .f32⟩
  | .hbm, ⟨41, _⟩ => ⟨S1024x8x2x64, .f32⟩
  | .hbm, ⟨42, _⟩ => ⟨S1024x8x2x64, .f32⟩
  | .hbm, ⟨43, _⟩ => ⟨S1024x1024, .f32⟩
  | .hbm, ⟨44, _⟩ => ⟨S1024x24, .f32⟩
  | .hbm, ⟨45, _⟩ => ⟨S1024x8x3, .f32⟩
  | .hbm, ⟨46, _⟩ => ⟨S1024x3x8, .f32⟩
  | .hbm, ⟨47, _⟩ => ⟨S1024x24, .f32⟩
  | .hbm, ⟨48, _⟩ => ⟨S_, .i32⟩
  | .hbm, ⟨49, _⟩ => ⟨S_, .f32⟩
  | .hbm, ⟨50, _⟩ => ⟨S1024x128, .f32⟩
  | .hbm, ⟨51, _⟩ => ⟨S1024x768, .f32⟩
  | .hbm, ⟨52, _⟩ => ⟨S1024x1920, .f32⟩
  | .hbm, ⟨53, _⟩ => ⟨S1024x1920, .bf16⟩
  | .hbm, ⟨54, _⟩ => ⟨S1024, .f32⟩
  | .hbm, ⟨55, _⟩ => ⟨S1x1024, .f32⟩
  | .hbm, ⟨56, _⟩ => ⟨S4x1024x8192, .bf16⟩
  | .hbm, ⟨57, _⟩ => ⟨S4x256x8192, .f32⟩
  | .hbm, ⟨58, _⟩ => ⟨S4x256x8192, .f32⟩
  | .hbm, ⟨59, _⟩ => ⟨S4x256x8192, .f32⟩
  | .hbm, ⟨60, _⟩ => ⟨S4x8704x256, .bf16⟩
  | .hbm, ⟨61, _⟩ => ⟨S4x256x8704, .bf16⟩
  | .hbm, ⟨62, _⟩ => ⟨S4x8704x256, .bf16⟩
  | .hbm, ⟨63, _⟩ => ⟨S4x256x8704, .bf16⟩
  | .hbm, ⟨64, _⟩ => ⟨S4x24x8192, .f32⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1024x1920, .bf16⟩
  | .local _ .vmem, ⟨4, _⟩ => ⟨S512x128, .bf16⟩
  | .local _ .vmem, ⟨5, _⟩ => ⟨S512x128, .bf16⟩
  | .local _ .vmem, ⟨6, _⟩ => ⟨S512x128, .bf16⟩
  | .local _ .vmem, ⟨7, _⟩ => ⟨S1x1024x512, .bf16⟩
  | .local _ .vmem, ⟨8, _⟩ => ⟨S1x1024x512, .bf16⟩
  | .local _ .vmem, ⟨9, _⟩ => ⟨S1x256x512, .f32⟩
  | .local _ .vmem, ⟨10, _⟩ => ⟨S1x256x512, .f32⟩
  | .local _ .vmem, ⟨11, _⟩ => ⟨S1x256x512, .f32⟩
  | .local _ .vmem, ⟨12, _⟩ => ⟨S1x256x512, .f32⟩
  | .local _ .vmem, ⟨13, _⟩ => ⟨S1x256x512, .f32⟩
  | .local _ .vmem, ⟨14, _⟩ => ⟨S1x256x512, .f32⟩
  | .local _ .vmem, ⟨15, _⟩ => ⟨S1x512x256, .bf16⟩
  | .local _ .vmem, ⟨16, _⟩ => ⟨S1x512x256, .bf16⟩
  | .local _ .vmem, ⟨17, _⟩ => ⟨S1x256x512, .bf16⟩
  | .local _ .vmem, ⟨18, _⟩ => ⟨S1x256x512, .bf16⟩
  | .local _ .vmem, ⟨19, _⟩ => ⟨S1x512x256, .bf16⟩
  | .local _ .vmem, ⟨20, _⟩ => ⟨S1x512x256, .bf16⟩
  | .local _ .vmem, ⟨21, _⟩ => ⟨S1x256x512, .bf16⟩
  | .local _ .vmem, ⟨22, _⟩ => ⟨S1x256x512, .bf16⟩
  | .local _ .vmem, ⟨23, _⟩ => ⟨S1x24x512, .f32⟩
  | .local _ .vmem, ⟨24, _⟩ => ⟨S1x24x512, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_c : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_0 : Ref sig .tc := ⟨.hbm, 27, rfl⟩
abbrev main_call0_v12 : Ref sig .tc := ⟨.hbm, 28, rfl⟩
abbrev main_call0_v13 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_c_0 : Ref sig .tc := ⟨.hbm, 48, rfl⟩
abbrev main_call1_v0 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30_0 : Ref sig .tc := ⟨.hbm, 56, rfl⟩
abbrev main_v30_1 : Ref sig .tc := ⟨.hbm, 57, rfl⟩
abbrev main_v30_2 : Ref sig .tc := ⟨.hbm, 58, rfl⟩
abbrev main_v30_3 : Ref sig .tc := ⟨.hbm, 59, rfl⟩
abbrev main_v30_4 : Ref sig .tc := ⟨.hbm, 60, rfl⟩
abbrev main_v30_5 : Ref sig .tc := ⟨.hbm, 61, rfl⟩
abbrev main_v30_6 : Ref sig .tc := ⟨.hbm, 62, rfl⟩
abbrev main_v30_7 : Ref sig .tc := ⟨.hbm, 63, rfl⟩
abbrev main_v30_8 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24

abbrev nD : Nat := 1
abbrev τ : Topo := Topo.v7x

variable {F : FTy → Type} [FloatOps F]

abbrev grid0 : Pipeline.Grid := ⟨2, ![4, 17], ![false, false]⟩

def k0_cond2 (i : grid0.Coords) : BitVec 1 :=
  let arg1 : BitVec 32 := BitVec.ofNat 32 (i 1).val
  let c0_i32_1 : BitVec 32 := 0#32
  let v3 : BitVec 1 := Scalar.cmpi .sgt arg1 c0_i32_1
  let v4 : BitVec 32 := Scalar.extui v3
  let c0_i32_2 : BitVec 32 := 0#32
  let v5 : BitVec 1 := Scalar.cmpi .ne v4 c0_i32_2
  v5

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, c0_i32_0.toNat, v1.toNat]

def cc0_transform_7 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, c0_i32_0.toNat, v1.toNat]

def cc0_transform_8 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, c0_i32_0.toNat, v1.toNat]

def cc0_transform_9 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, c0_i32_0.toNat, v1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_14 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, c0_i32_0.toNat, v1.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x1920 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S512x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S512x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S512x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x256x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x512x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x256x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x24x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== InProjRefIdeal.lean ====
abbrev S4x8192x1024 : Shape := ⟨3, ![4, 8192, 1024]⟩
abbrev S1x1024 : Shape := ⟨2, ![1, 1024]⟩
abbrev S1x1024x4376 : Shape := ⟨3, ![1, 1024, 4376]⟩
abbrev S512x128 : Shape := ⟨2, ![512, 128]⟩
abbrev S1024 : Shape := ⟨1, ![1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S1024x4376 : Shape := ⟨2, ![1024, 4376]⟩
abbrev S4x8192x4376 : Shape := ⟨3, ![4, 8192, 4376]⟩
abbrev S4x8192x256 : Shape := ⟨3, ![4, 8192, 256]⟩
abbrev S4x256x8192 : Shape := ⟨3, ![4, 256, 8192]⟩

abbrev nBuf : Space → Nat
  | .hbm => 31
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S1x1024, .f32⟩
  | .hbm, ⟨2, _⟩ => ⟨S1x1024x4376, .f32⟩
  | .hbm, ⟨3, _⟩ => ⟨S512x128, .bf16⟩
  | .hbm, ⟨4, _⟩ => ⟨S512x128, .bf16⟩
  | .hbm, ⟨5, _⟩ => ⟨S512x128, .bf16⟩
  | .hbm, ⟨6, _⟩ => ⟨S1024, .f32⟩
  | .hbm, ⟨7, _⟩ => ⟨S4x8192x1024, .f32⟩
  | .hbm, ⟨8, _⟩ => ⟨S_, .f32⟩
  | .hbm, ⟨9, _⟩ => ⟨S4x8192, .f32⟩
  | .hbm, ⟨10, _⟩ => ⟨S4x8192x1, .f32⟩
  | .hbm, ⟨11, _⟩ => ⟨S_, .f32⟩
  | .hbm, ⟨12, _⟩ => ⟨S4x8192x1, .f32⟩
  | .hbm, ⟨13, _⟩ => ⟨S4x8192x1, .f32⟩
  | .hbm, ⟨14, _⟩ => ⟨S_, .f32⟩
  | .hbm, ⟨15, _⟩ => ⟨S4x8192x1, .f32⟩
  | .hbm, ⟨16, _⟩ => ⟨S4x8192x1, .f32⟩
  | .hbm, ⟨17, _⟩ => ⟨S4x8192x1, .f32⟩
  | .hbm, ⟨18, _⟩ => ⟨S4x8192x1024, .f32⟩
  | .hbm, ⟨19, _⟩ => ⟨S4x8192x1024, .f32⟩
  | .hbm, ⟨20, _⟩ => ⟨S1x1x1024, .f32⟩
  | .hbm, ⟨21, _⟩ => ⟨S4x8192x1024, .f32⟩
  | .hbm, ⟨22, _⟩ => ⟨S4x8192x1024, .f32⟩
  | .hbm, ⟨23, _⟩ => ⟨S1024x4376, .f32⟩
  | .hbm, ⟨24, _⟩ => ⟨S4x8192x4376, .f32⟩
  | .hbm, ⟨25, _⟩ => ⟨S4x8192x256, .f32⟩
  | .hbm, ⟨26, _⟩ => ⟨S4x8192x256, .f32⟩
  | .hbm, ⟨27, _⟩ => ⟨S4x8192x256, .f32⟩
  | .hbm, ⟨28, _⟩ => ⟨S4x256x8192, .f32⟩
  | .hbm, ⟨29, _⟩ => ⟨S4x256x8192, .f32⟩
  | .hbm, ⟨30, _⟩ => ⟨S4x256x8192, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩

abbrev nD : Nat := 1
abbrev τ : Topo := Topo.v7x

variable {F : FTy → Type} [FloatOps F]
-- ==== Mix.lean ====
abbrev S32768x1024 : Shape := ⟨2, ![32768, 1024]⟩
abbrev S32768x512 : Shape := ⟨2, ![32768, 512]⟩
abbrev S1x1024 : Shape := ⟨2, ![1, 1024]⟩
abbrev S1x1024x4376 : Shape := ⟨3, ![1, 1024, 4376]⟩
abbrev S1x512 : Shape := ⟨2, ![1, 512]⟩
abbrev S1x4x128x128 : Shape := ⟨4, ![1, 4, 128, 128]⟩
abbrev S1x4x128 : Shape := ⟨3, ![1, 4, 128]⟩
abbrev S1x512x1024 : Shape := ⟨3, ![1, 512, 1024]⟩
abbrev S1x1024x1024 : Shape := ⟨3, ![1, 1024, 1024]⟩
abbrev S1024x4376 : Shape := ⟨2, ![1024, 4376]⟩
abbrev S1024x3072 : Shape := ⟨2, ![1024, 3072]⟩
abbrev S_ : Shape := ⟨0, ![]⟩
abbrev S128x128 : Shape := ⟨2, ![128, 128]⟩
abbrev S4x128x128 : Shape := ⟨3, ![4, 128, 128]⟩
abbrev S1x128x128 : Shape := ⟨3, ![1, 128, 128]⟩
abbrev S4x128 : Shape := ⟨2, ![4, 128]⟩
abbrev S128x4 : Shape := ⟨2, ![128, 4]⟩
abbrev S128x4x128 : Shape := ⟨3, ![128, 4, 128]⟩
abbrev S128x512 : Shape := ⟨2, ![128, 512]⟩
abbrev S1024 : Shape := ⟨1, ![1024]⟩
abbrev S512 : Shape := ⟨1, ![512]⟩
abbrev S512x1024 : Shape := ⟨2, ![512, 1024]⟩
abbrev S1024x1024 : Shape := ⟨2, ![1024, 1024]⟩
abbrev S512x512 : Shape := ⟨2, ![512, 512]⟩
abbrev S256x512 : Shape := ⟨2, ![256, 512]⟩
abbrev S256x1024 : Shape := ⟨2, ![256, 1024]⟩
abbrev S256 : Shape := ⟨1, ![256]⟩
abbrev S256x1 : Shape := ⟨2, ![256, 1]⟩
abbrev S256x3072 : Shape := ⟨2, ![256, 3072]⟩

abbrev nBuf : Space → Nat
  | .hbm => 50
  | .vmem => 16
  | .smem => 0
  | _ => 0

abbrev bufTy : (tb : Table) → Fin (tcTables nBuf tb) → BufTy
  | .hbm, ⟨0, _⟩ => ⟨S32768x1024, .f32⟩
  | .hbm, ⟨1, _⟩ => ⟨S32768x512, .bf16⟩
  | .hbm, ⟨2, _⟩ => ⟨S1x1024, .f32⟩
  | .hbm, ⟨3, _⟩ => ⟨S1x1024x4376, .f32⟩
  | .hbm, ⟨4, _⟩ => ⟨S1x512, .f32⟩
  | .hbm, ⟨5, _⟩ => ⟨S1x512, .f32⟩
  | .hbm, ⟨6, _⟩ => ⟨S1x4x128x128, .f32⟩
  | .hbm, ⟨7, _⟩ => ⟨S1x4x128, .f32⟩
  | .hbm, ⟨8, _⟩ => ⟨S1x512x1024, .f32⟩
  | .hbm, ⟨9, _⟩ => ⟨S1x512x1024, .f32⟩
  | .hbm, ⟨10, _⟩ => ⟨S1x1024x1024, .f32⟩
  | .hbm, ⟨11, _⟩ => ⟨S1x1024, .f32⟩
  | .hbm, ⟨12, _⟩ => ⟨S1024x4376, .f32⟩
  | .hbm, ⟨13, _⟩ => ⟨S1024x3072, .f32⟩
  | .hbm, ⟨14, _⟩ => ⟨S1024x3072, .bf16⟩
  | .hbm, ⟨15, _⟩ => ⟨S_, .f32⟩
  | .hbm, ⟨16, _⟩ => ⟨S128x128, .f32⟩
  | .hbm, ⟨17, _⟩ => ⟨S128x128, .i32⟩
  | .hbm, ⟨18, _⟩ => ⟨S_, .i32⟩
  | .hbm, ⟨19, _⟩ => ⟨S128x128, .i32⟩
  | .hbm, ⟨20, _⟩ => ⟨S128x128, .i32⟩
  | .hbm, ⟨21, _⟩ => ⟨S128x128, .i32⟩
  | .hbm, ⟨22, _⟩ => ⟨S128x128, .i1⟩
  | .hbm, ⟨23, _⟩ => ⟨S_, .f32⟩
  | .hbm, ⟨24, _⟩ => ⟨S128x128, .f32⟩
  | .hbm, ⟨25, _⟩ => ⟨S128x128, .f32⟩
  | .hbm, ⟨26, _⟩ => ⟨S4x128x128, .f32⟩
  | .hbm, ⟨27, _⟩ => ⟨S1x128x128, .f32⟩
  | .hbm, ⟨28, _⟩ => ⟨S4x128x128, .f32⟩
  | .hbm, ⟨29, _⟩ => ⟨S4x128x128, .f32⟩
  | .hbm, ⟨30, _⟩ => ⟨S4x128x128, .bf16⟩
  | .hbm, ⟨31, _⟩ => ⟨S4x128, .f32⟩
  | .hbm, ⟨32, _⟩ => ⟨S128x4, .f32⟩
  | .hbm, ⟨33, _⟩ => ⟨S128x4x128, .f32⟩
  | .hbm, ⟨34, _⟩ => ⟨S128x512, .f32⟩
  | .hbm, ⟨35, _⟩ => ⟨S1024, .f32⟩
  | .hbm, ⟨36, _⟩ => ⟨S1x1024, .f32⟩
  | .hbm, ⟨37, _⟩ => ⟨S512, .f32⟩
  | .hbm, ⟨38, _⟩ => ⟨S1x512, .f32⟩
  | .hbm, ⟨39, _⟩ => ⟨S512, .f32⟩
  | .hbm, ⟨40, _⟩ => ⟨S1x512, .f32⟩
  | .hbm, ⟨41, _⟩ => ⟨S512x1024, .f32⟩
  | .hbm, ⟨42, _⟩ => ⟨S512x1024, .bf16⟩
  | .hbm, ⟨43, _⟩ => ⟨S512x1024, .f32⟩
  | .hbm, ⟨44, _⟩ => ⟨S512x1024, .bf16⟩
  | .hbm, ⟨45, _⟩ => ⟨S1024x1024, .f32⟩
  | .hbm, ⟨46, _⟩ => ⟨S1024x1024, .bf16⟩
  | .hbm, ⟨47, _⟩ => ⟨S1024, .f32⟩
  | .hbm, ⟨48, _⟩ => ⟨S1x1024, .f32⟩
  | .hbm, ⟨49, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S1x1024, .f32⟩
  | .local _ .vmem, ⟨5, _⟩ => ⟨S1024x3072, .bf16⟩
  | .local _ .vmem, ⟨6, _⟩ => ⟨S1x512, .f32⟩
  | .local _ .vmem, ⟨7, _⟩ => ⟨S1x512, .f32⟩
  | .local _ .vmem, ⟨8, _⟩ => ⟨S4x128x128, .bf16⟩
  | .local _ .vmem, ⟨9, _⟩ => ⟨S128x512, .f32⟩
  | .local _ .vmem, ⟨10, _⟩ => ⟨S512x1024, .bf16⟩
  | .local _ .vmem, ⟨11, _⟩ => ⟨S512x1024, .bf16⟩
  | .local _ .vmem, ⟨12, _⟩ => ⟨S1024x1024, .bf16⟩
  | .local _ .vmem, ⟨13, _⟩ => ⟨S1x1024, .f32⟩
  | .local _ .vmem, ⟨14, _⟩ => ⟨S512x1024, .f32⟩
  | .local _ .vmem, ⟨15, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_cst : Ref sig .tc := ⟨.hbm, 15, rfl⟩
abbrev main_v3 : Ref sig .tc := ⟨.hbm, 16, rfl⟩
abbrev main_call0_v0 : Ref sig .tc := ⟨.hbm, 17, rfl⟩
abbrev main_call0_c : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_cst : Ref sig .tc := ⟨.hbm, 23, rfl⟩
abbrev main_call0_v5 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg12_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem12_1 : DmaSem sig := 15

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x3072 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x128x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== MixRefIdeal.lean ====
abbrev S32768x1024 : Shape := ⟨2, ![32768, 1024]⟩
abbrev S32768x512 : Shape := ⟨2, ![32768, 512]⟩
abbrev S1x1024 : Shape := ⟨2, ![1, 1024]⟩
abbrev S1x1024x4376 : Shape := ⟨3, ![1, 1024, 4376]⟩
abbrev S1x512 : Shape := ⟨2, ![1, 512]⟩
abbrev S1x4x128x128 : Shape := ⟨4, ![1, 4, 128, 128]⟩
abbrev S1x4x128 : Shape := ⟨3, ![1, 4, 128]⟩
abbrev S1x512x1024 : Shape := ⟨3, ![1, 512, 1024]⟩
abbrev S1x1024x1024 : Shape := ⟨3, ![1, 1024, 1024]⟩
abbrev S1024 : Shape := ⟨1, ![1024]⟩
abbrev S_ : Shape := ⟨0, ![]⟩
abbrev S32768 : Shape := ⟨1, ![32768]⟩
abbrev S32768x1 : Shape := ⟨2, ![32768, 1]⟩
abbrev S1024x4376 : Shape := ⟨2, ![1024, 4376]⟩
abbrev S1024x3072 : Shape := ⟨2, ![1024, 3072]⟩
abbrev S32768x3072 : Shape := ⟨2, ![32768, 3072]⟩
abbrev S32768x2048 : Shape := ⟨2, ![32768, 2048]⟩
abbrev S512 : Shape := ⟨1, ![512]⟩
abbrev S4x8192x512 : Shape := ⟨3, ![4, 8192, 512]⟩
abbrev S4x128x128 : Shape := ⟨3, ![4, 128, 128]⟩
abbrev S4x128 : Shape := ⟨2, ![4, 128]⟩
abbrev S4x64x128x4x128 : Shape := ⟨5, ![4, 64, 128, 4, 128]⟩
abbrev S128x128 : Shape := ⟨2, ![128, 128]⟩
abbrev S1x128x128 : Shape := ⟨3, ![1, 128, 128]⟩
abbrev S4x4x64x128x128 : Shape := ⟨5, ![4, 4, 64, 128, 128]⟩
abbrev S128x4 : Shape := ⟨2, ![128, 4]⟩
abbrev S1x1x128x4x1 : Shape := ⟨5, ![1, 1, 128, 4, 1]⟩
abbrev S512x1024 : Shape := ⟨2, ![512, 1024]⟩
abbrev S1024x1024 : Shape := ⟨2, ![1024, 1024]⟩

abbrev nBuf : Space → Nat
  | .hbm => 149
  | .vmem => 0
  | .smem => 0
  | _ => 0

abbrev hbmTy0_0 (i : Nat) : BufTy := match i % 128 with
  | 0 => ⟨S32768x1024, .f32⟩
  | 1 => ⟨S32768x512, .bf16⟩
  | 2 => ⟨S1x1024, .f32⟩
  | 3 => ⟨S1x1024x4376, .f32⟩
  | 4 => ⟨S1x512, .f32⟩
  | 5 => ⟨S1x512, .f32⟩
  | 6 => ⟨S1x4x128x128, .f32⟩
  | 7 => ⟨S1x4x128, .f32⟩
  | 8 => ⟨S1x512x1024, .f32⟩
  | 9 => ⟨S1x512x1024, .f32⟩
  | 10 => ⟨S1x1024x1024, .f32⟩
  | 11 => ⟨S1x1024, .f32⟩
  | 12 => ⟨S1024, .f32⟩
  | 13 => ⟨S32768x1024, .f32⟩
  | 14 => ⟨S_, .f32⟩
  | 15 => ⟨S32768, .f32⟩
  | 16 => ⟨S32768x1, .f32⟩
  | 17 => ⟨S_, .f32⟩
  | 18 => ⟨S32768x1, .f32⟩
  | 19 => ⟨S32768x1, .f32⟩
  | 20 => ⟨S_, .f32⟩
  | 21 => ⟨S32768x1, .f32⟩
  | 22 => ⟨S32768x1, .f32⟩
  | 23 => ⟨S32768x1, .f32⟩
  | 24 => ⟨S32768x1024, .f32⟩
  | 25 => ⟨S32768x1024, .f32⟩
  | 26 => ⟨S1x1024, .f32⟩
  | 27 => ⟨S32768x1024, .f32⟩
  | 28 => ⟨S32768x1024, .f32⟩
  | 29 => ⟨S1024x4376, .f32⟩
  | 30 => ⟨S1024x3072, .f32⟩
  | 31 => ⟨S32768x3072, .f32⟩
  | 32 => ⟨S32768x1024, .f32⟩
  | 33 => ⟨S32768x2048, .f32⟩
  | 34 => ⟨S32768x1024, .f32⟩
  | 35 => ⟨S32768x1024, .f32⟩
  | 36 => ⟨S_, .f32⟩
  | 37 => ⟨S32768x1024, .f32⟩
  | 38 => ⟨S32768x1024, .f32⟩
  | 39 => ⟨S32768x1024, .f32⟩
  | 40 => ⟨S_, .f32⟩
  | 41 => ⟨S32768x1024, .f32⟩
  | 42 => ⟨S32768x1024, .f32⟩
  | 43 => ⟨S32768x1024, .f32⟩
  | 44 => ⟨S_, .f32⟩
  | 45 => ⟨S32768x1024, .f32⟩
  | 46 => ⟨S32768x1024, .f32⟩
  | 47 => ⟨S_, .f32⟩
  | 48 => ⟨S32768x1024, .f32⟩
  | 49 => ⟨S32768x1024, .f32⟩
  | 50 => ⟨S32768x1024, .f32⟩
  | 51 => ⟨S32768x512, .f32⟩
  | 52 => ⟨S32768x512, .f32⟩
  | 53 => ⟨S512, .f32⟩
  | 54 => ⟨S512, .f32⟩
  | 55 => ⟨S_, .f32⟩
  | 56 => ⟨S32768, .f32⟩
  | 57 => ⟨S32768x1, .f32⟩
  | 58 => ⟨S_, .f32⟩
  | 59 => ⟨S32768x1, .f32⟩
  | 60 => ⟨S32768x1, .f32⟩
  | 61 => ⟨S32768x512, .f32⟩
  | 62 => ⟨S32768x512, .f32⟩
  | 63 => ⟨S32768x512, .f32⟩
  | 64 => ⟨S_, .f32⟩
  | 65 => ⟨S32768, .f32⟩
  | 66 => ⟨S32768x1, .f32⟩
  | 67 => ⟨S_, .f32⟩
  | 68 => ⟨S32768x1, .f32⟩
  | 69 => ⟨S32768x1, .f32⟩
  | 70 => ⟨S32768x512, .f32⟩
  | 71 => ⟨S32768x512, .f32⟩
  | 72 => ⟨S_, .f32⟩
  | 73 => ⟨S32768x1, .f32⟩
  | 74 => ⟨S32768x1, .f32⟩
  | 75 => ⟨S32768x1, .f32⟩
  | 76 => ⟨S32768x512, .f32⟩
  | 77 => ⟨S32768x512, .f32⟩
  | 78 => ⟨S1x512, .f32⟩
  | 79 => ⟨S32768x512, .f32⟩
  | 80 => ⟨S32768x512, .f32⟩
  | 81 => ⟨S1x512, .f32⟩
  | 82 => ⟨S32768x512, .f32⟩
  | 83 => ⟨S32768x512, .f32⟩
  | 84 => ⟨S4x8192x512, .f32⟩
  | 85 => ⟨S4x128x128, .f32⟩
  | 86 => ⟨S4x128, .f32⟩
  | 87 => ⟨S4x64x128x4x128, .f32⟩
  | 88 => ⟨S_, .f32⟩
  | 89 => ⟨S128x128, .f32⟩
  | 90 => ⟨S128x128, .i32⟩
  | 91 => ⟨S_, .i32⟩
  | 92 => ⟨S128x128, .i32⟩
  | 93 => ⟨S128x128, .i32⟩
  | 94 => ⟨S128x128, .i32⟩
  | 95 => ⟨S128x128, .i1⟩
  | 96 => ⟨S_, .f32⟩
  | 97 => ⟨S128x128, .f32⟩
  | 98 => ⟨S128x128, .f32⟩
  | 99 => ⟨S1x128x128, .f32⟩
  | 100 => ⟨S4x128x128, .f32⟩
  | 101 => ⟨S4x128x128, .f32⟩
  | 102 => ⟨S4x4x64x128x128, .f32⟩
  | 103 => ⟨S4x64x128x4x128, .f32⟩
  | 104 => ⟨S128x4, .f32⟩
  | 105 => ⟨S1x1x128x4x1, .f32⟩
  | 106 => ⟨S4x64x128x4x128, .f32⟩
  | 107 => ⟨S4x64x128x4x128, .f32⟩
  | 108 => ⟨S4x8192x512, .f32⟩
  | 109 => ⟨S32768x512, .f32⟩
  | 110 => ⟨S32768x512, .f32⟩
  | 111 => ⟨S32768x2048, .f32⟩
  | 112 => ⟨S32768x2048, .f32⟩
  | 113 => ⟨S_, .f32⟩
  | 114 => ⟨S32768x2048, .f32⟩
  | 115 => ⟨S32768x2048, .f32⟩
  | 116 => ⟨S_, .f32⟩
  | 117 => ⟨S32768x2048, .f32⟩
  | 118 => ⟨S32768x2048, .f32⟩
  | 119 => ⟨S32768x1024, .f32⟩
  | 120 => ⟨S32768x1024, .f32⟩
  | 121 => ⟨S32768x512, .f32⟩
  | 122 => ⟨S512x1024, .f32⟩
  | 123 => ⟨S32768x1024, .f32⟩
  | 124 => ⟨S32768x1024, .f32⟩
  | 125 => ⟨S512x1024, .f32⟩
  | 126 => ⟨S32768x1024, .f32⟩
  | 127 => ⟨S32768x1024, .f32⟩
  | _ => ⟨S32768x1024, .f32⟩

abbrev hbmTy0_1 (i : Nat) : BufTy := match i % 128 with
  | 0 => ⟨S32768x1024, .f32⟩
  | 1 => ⟨S1024x1024, .f32⟩
  | 2 => ⟨S32768x1024, .f32⟩
  | 3 => ⟨S1024, .f32⟩
  | 4 => ⟨S32768x1024, .f32⟩
  | 5 => ⟨S_, .f32⟩
  | 6 => ⟨S32768, .f32⟩
  | 7 => ⟨S32768x1, .f32⟩
  | 8 => ⟨S_, .f32⟩
  | 9 => ⟨S32768x1, .f32⟩
  | 10 => ⟨S32768x1, .f32⟩
  | 11 => ⟨S_, .f32⟩
  | 12 => ⟨S32768x1, .f32⟩
  | 13 => ⟨S32768x1, .f32⟩
  | 14 => ⟨S32768x1, .f32⟩
  | 15 => ⟨S32768x1024, .f32⟩
  | 16 => ⟨S32768x1024, .f32⟩
  | 17 => ⟨S1x1024, .f32⟩
  | 18 => ⟨S32768x1024, .f32⟩
  | 19 => ⟨S32768x1024, .f32⟩
  | 20 => ⟨S32768x1024, .f32⟩
  | _ => ⟨S32768x1024, .f32⟩

abbrev hbmTy (i : Nat) : BufTy := match i / 128 with
  | 0 => hbmTy0_0 i
  | 1 => hbmTy0_1 i
  | _ => ⟨S32768x1024, .f32⟩

abbrev bufTy : (tb : Table) → Fin (tcTables nBuf tb) → BufTy
  | .hbm, ⟨i, _⟩ => hbmTy i
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_cst : Ref sig .tc := ⟨.hbm, 14, rfl⟩
abbrev main_v2 : Ref sig .tc := ⟨.hbm, 15, rfl⟩
abbrev main_v3 : Ref sig .tc := ⟨.hbm, 16, rfl⟩
abbrev main_cst_0 : Ref sig .tc := ⟨.hbm, 17, rfl⟩
abbrev main_v4 : Ref sig .tc := ⟨.hbm, 18, rfl⟩
abbrev main_v5 : Ref sig .tc := ⟨.hbm, 19, rfl⟩
abbrev main_cst_1 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_2 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_3 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_4 : Ref sig .tc := ⟨.hbm, 44, rfl⟩
abbrev main_v27 : Ref sig .tc := ⟨.hbm, 45, rfl⟩
abbrev main_v28 : Ref sig .tc := ⟨.hbm, 46, rfl⟩
abbrev main_cst_5 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst_6 : Ref sig .tc := ⟨.hbm, 55, rfl⟩
abbrev main_v36 : Ref sig .tc := ⟨.hbm, 56, rfl⟩
abbrev main_v37 : Ref sig .tc := ⟨.hbm, 57, rfl⟩
abbrev main_cst_7 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_8 : Ref sig .tc := ⟨.hbm, 64, rfl⟩
abbrev main_v43 : Ref sig .tc := ⟨.hbm, 65, rfl⟩
abbrev main_v44 : Ref sig .tc := ⟨.hbm, 66, rfl⟩
abbrev main_cst_9 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_cst_10 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_cst_11 : Ref sig .tc := ⟨.hbm, 88, rfl⟩
abbrev main_v64 : Ref sig .tc := ⟨.hbm, 89, rfl⟩
abbrev main_call0_v0 : Ref sig .tc := ⟨.hbm, 90, rfl⟩
abbrev main_call0_c : Ref sig .tc := ⟨.hbm, 91, rfl⟩
abbrev main_call0_v1 : Ref sig .tc := ⟨.hbm, 92, rfl⟩
abbrev main_call0_v2 : Ref sig .tc := ⟨.hbm, 93, rfl⟩
abbrev main_call0_v3 : Ref sig .tc := ⟨.hbm, 94, rfl⟩
abbrev main_call0_v4 : Ref sig .tc := ⟨.hbm, 95, rfl⟩
abbrev main_call0_cst : Ref sig .tc := ⟨.hbm, 96, rfl⟩
abbrev main_call0_v5 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_cst_12 : Ref sig .tc := ⟨.hbm, 113, rfl⟩
abbrev main_v80 : Ref sig .tc := ⟨.hbm, 114, rfl⟩
abbrev main_v81 : Ref sig .tc := ⟨.hbm, 115, rfl⟩
abbrev main_cst_13 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_cst_14 : Ref sig .tc := ⟨.hbm, 133, rfl⟩
abbrev main_v98 : Ref sig .tc := ⟨.hbm, 134, rfl⟩
abbrev main_v99 : Ref sig .tc := ⟨.hbm, 135, rfl⟩
abbrev main_cst_15 : Ref sig .tc := ⟨.hbm, 136, rfl⟩
abbrev main_v100 : Ref sig .tc := ⟨.hbm, 137, rfl⟩
abbrev main_v101 : Ref sig .tc := ⟨.hbm, 138, rfl⟩
abbrev main_cst_16 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩

abbrev nD : Nat := 1
abbrev τ : Topo := Topo.v7x

variable {F : FTy → Type} [FloatOps F]
-- ==== InRows.lean ====
abbrev S32x1x1024 : Shape := ⟨3, ![32, 1, 1024]⟩
abbrev S1x1024 : Shape := ⟨2, ![1, 1024]⟩
abbrev S1x1024x4376 : Shape := ⟨3, ![1, 1024, 4376]⟩
abbrev S1x32x512x2x2x64 : Shape := ⟨6, ![1, 32, 512, 2, 2, 64]⟩
abbrev S32x1024 : Shape := ⟨2, ![32, 1024]⟩
abbrev S1024x4376 : Shape := ⟨2, ![1024, 4376]⟩
abbrev S1024x512 : Shape := ⟨2, ![1024, 512]⟩
abbrev S_ : Shape := ⟨0, ![]⟩
abbrev S1024x792 : Shape := ⟨2, ![1024, 792]⟩
abbrev S1024x104 : Shape := ⟨2, ![1024, 104]⟩
abbrev S1024x1408 : Shape := ⟨2, ![1024, 1408]⟩
abbrev S1024 : Shape := ⟨1, ![1024]⟩
abbrev S32x1408 : Shape := ⟨2, ![32, 1408]⟩
abbrev S32 : Shape := ⟨1, ![32]⟩
abbrev S32x1 : Shape := ⟨2, ![32, 1]⟩
abbrev S32x256 : Shape := ⟨2, ![32, 256]⟩
abbrev S32x512x2x2x64 : Shape := ⟨5, ![32, 512, 2, 2, 64]⟩
abbrev S32x1x2x2x64 : Shape := ⟨5, ![32, 1, 2, 2, 64]⟩
abbrev S32x513x2x2x64 : Shape := ⟨5, ![32, 513, 2, 2, 64]⟩
abbrev S1x32x1x2x2x64 : Shape := ⟨6, ![1, 32, 1, 2, 2, 64]⟩

abbrev nBuf : Space → Nat
  | .hbm => 30
  | .vmem => 4
  | .smem => 0
  | _ => 0

abbrev bufTy : (tb : Table) → Fin (tcTables nBuf tb) → BufTy
  | .hbm, ⟨0, _⟩ => ⟨S32x1x1024, .f32⟩
  | .hbm, ⟨1, _⟩ => ⟨S1x1024, .f32⟩
  | .hbm, ⟨2, _⟩ => ⟨S1x1024x4376, .f32⟩
  | .hbm, ⟨3, _⟩ => ⟨S1x32x512x2x2x64, .f32⟩
  | .hbm, ⟨4, _⟩ => ⟨S32x1024, .f32⟩
  | .hbm, ⟨5, _⟩ => ⟨S1024x4376, .f32⟩
  | .hbm, ⟨6, _⟩ => ⟨S1024x512, .f32⟩
  | .hbm, ⟨7, _⟩ => ⟨S_, .f32⟩
  | .hbm, ⟨8, _⟩ => ⟨S1024x512, .f32⟩
  | .hbm, ⟨9, _⟩ => ⟨S1024x512, .f32⟩
  | .hbm, ⟨10, _⟩ => ⟨S1024x792, .f32⟩
  | .hbm, ⟨11, _⟩ => ⟨S_, .f32⟩
  | .hbm, ⟨12, _⟩ => ⟨S1024x104, .f32⟩
  | .hbm, ⟨13, _⟩ => ⟨S1024x1408, .f32⟩
  | .hbm, ⟨14, _⟩ => ⟨S1024x1408, .bf16⟩
  | .hbm, ⟨15, _⟩ => ⟨S1024, .f32⟩
  | .hbm, ⟨16, _⟩ => ⟨S1x1024, .f32⟩
  | .hbm, ⟨17, _⟩ => ⟨S32x1408, .f32⟩
  | .hbm, ⟨18, _⟩ => ⟨S32x256, .f32⟩
  | .hbm, ⟨19, _⟩ => ⟨S32x256, .f32⟩
  | .hbm, ⟨20, _⟩ => ⟨S32x256, .f32⟩
  | .hbm, ⟨21, _⟩ => ⟨S32x512x2x2x64, .f32⟩
  | .hbm, ⟨22, _⟩ => ⟨S32x1x2x2x64, .f32⟩
  | .hbm, ⟨23, _⟩ => ⟨S32x513x2x2x64, .f32⟩
  | .hbm, ⟨24, _⟩ => ⟨S32x1x2x2x64, .f32⟩
  | .hbm, ⟨25, _⟩ => ⟨S1x32x1x2x2x64, .f32⟩
  | .hbm, ⟨26, _⟩ => ⟨S32x1x2x2x64, .f32⟩
  | .hbm, ⟨27, _⟩ => ⟨S1x32x1x2x2x64, .f32⟩
  | .hbm, ⟨28, _⟩ => ⟨S32x512x2x2x64, .f32⟩
  | .hbm, ⟨29, _⟩ => ⟨S1x32x512x2x2x64, .f32⟩
  | .local _ .vmem, ⟨0, _⟩ => ⟨S32x1024, .f32⟩
  | .local _ .vmem, ⟨1, _⟩ => ⟨S1x1024, .f32⟩
  | .local _ .vmem, ⟨2, _⟩ => ⟨S1024x1408, .bf16⟩
  | .local _ .vmem, ⟨3, _⟩ => ⟨S32x1408, .f32⟩
  | _, _ => ⟨S32x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S32x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1408 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x1408 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== InRowsRefIdeal.lean ====
abbrev S32x1x1024 : Shape := ⟨3, ![32, 1, 1024]⟩
abbrev S1x1024 : Shape := ⟨2, ![1, 1024]⟩
abbrev S1x1024x4376 : Shape := ⟨3, ![1, 1024, 4376]⟩
abbrev S1x32x512x2x2x64 : Shape := ⟨6, ![1, 32, 512, 2, 2, 64]⟩
abbrev S1024 : Shape := ⟨1, ![1024]⟩
abbrev S_ : Shape := ⟨0, ![]⟩
abbrev S32x1 : Shape := ⟨2, ![32, 1]⟩
abbrev S32x1x1 : Shape := ⟨3, ![32, 1, 1]⟩
abbrev S1x1x1024 : Shape := ⟨3, ![1, 1, 1024]⟩
abbrev S1024x4376 : Shape := ⟨2, ![1024, 4376]⟩
abbrev S32x1x4376 : Shape := ⟨3, ![32, 1, 4376]⟩
abbrev S32x1x256 : Shape := ⟨3, ![32, 1, 256]⟩
abbrev S32x1x2x2x64 : Shape := ⟨5, ![32, 1, 2, 2, 64]⟩
abbrev S32x512x2x2x64 : Shape := ⟨5, ![32, 512, 2, 2, 64]⟩
abbrev S32x513x2x2x64 : Shape := ⟨5, ![32, 513, 2, 2, 64]⟩
abbrev S1x32x1x2x2x64 : Shape := ⟨6, ![1, 32, 1, 2, 2, 64]⟩

abbrev nBuf : Space → Nat
  | .hbm => 35
  | .vmem => 0
  | .smem => 0
  | _ => 0

abbrev bufTy : (tb : Table) → Fin (tcTables nBuf tb) → BufTy
  | .hbm, ⟨0, _⟩ => ⟨S32x1x1024, .f32⟩
  | .hbm, ⟨1, _⟩ => ⟨S1x1024, .f32⟩
  | .hbm, ⟨2, _⟩ => ⟨S1x1024x4376, .f32⟩
  | .hbm, ⟨3, _⟩ => ⟨S1x32x512x2x2x64, .f32⟩
  | .hbm, ⟨4, _⟩ => ⟨S1024, .f32⟩
  | .hbm, ⟨5, _⟩ => ⟨S32x1x1024, .f32⟩
  | .hbm, ⟨6, _⟩ => ⟨S_, .f32⟩
  | .hbm, ⟨7, _⟩ => ⟨S32x1, .f32⟩
  | .hbm, ⟨8, _⟩ => ⟨S32x1x1, .f32⟩
  | .hbm, ⟨9, _⟩ => ⟨S_, .f32⟩
  | .hbm, ⟨10, _⟩ => ⟨S32x1x1, .f32⟩
  | .hbm, ⟨11, _⟩ => ⟨S32x1x1, .f32⟩
  | .hbm, ⟨12, _⟩ => ⟨S_, .f32⟩
  | .hbm, ⟨13, _⟩ => ⟨S32x1x1, .f32⟩
  | .hbm, ⟨14, _⟩ => ⟨S32x1x1, .f32⟩
  | .hbm, ⟨15, _⟩ => ⟨S32x1x1, .f32⟩
  | .hbm, ⟨16, _⟩ => ⟨S32x1x1024, .f32⟩
  | .hbm, ⟨17, _⟩ => ⟨S32x1x1024, .f32⟩
  | .hbm, ⟨18, _⟩ => ⟨S1x1x1024, .f32⟩
  | .hbm, ⟨19, _⟩ => ⟨S32x1x1024, .f32⟩
  | .hbm, ⟨20, _⟩ => ⟨S32x1x1024, .f32⟩
  | .hbm, ⟨21, _⟩ => ⟨S1024x4376, .f32⟩
  | .hbm, ⟨22, _⟩ => ⟨S32x1x4376, .f32⟩
  | .hbm, ⟨23, _⟩ => ⟨S32x1x256, .f32⟩
  | .hbm, ⟨24, _⟩ => ⟨S32x1x2x2x64, .f32⟩
  | .hbm, ⟨25, _⟩ => ⟨S32x1x256, .f32⟩
  | .hbm, ⟨26, _⟩ => ⟨S32x1x2x2x64, .f32⟩
  | .hbm, ⟨27, _⟩ => ⟨S32x1x256, .f32⟩
  | .hbm, ⟨28, _⟩ => ⟨S32x1x2x2x64, .f32⟩
  | .hbm, ⟨29, _⟩ => ⟨S32x512x2x2x64, .f32⟩
  | .hbm, ⟨30, _⟩ => ⟨S32x513x2x2x64, .f32⟩
  | .hbm, ⟨31, _⟩ => ⟨S1x32x1x2x2x64, .f32⟩
  | .hbm, ⟨32, _⟩ => ⟨S1x32x1x2x2x64, .f32⟩
  | .hbm, ⟨33, _⟩ => ⟨S32x512x2x2x64, .f32⟩
  | .hbm, ⟨34, _⟩ => ⟨S1x32x512x2x2x64, .f32⟩
  | _, _ => ⟨S32x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩

abbrev nD : Nat := 1
abbrev τ : Topo := Topo.v7x

variable {F : FTy → Type} [FloatOps F]
-- ==== MixS.lean ====
abbrev S32x1x1024 : Shape := ⟨3, ![32, 1, 1024]⟩
abbrev S32x8x64 : Shape := ⟨3, ![32, 8, 64]⟩
abbrev S1x1024 : Shape := ⟨2, ![1, 1024]⟩
abbrev S1x1024x4376 : Shape := ⟨3, ![1, 1024, 4376]⟩
abbrev S1x512 : Shape := ⟨2, ![1, 512]⟩
abbrev S1x4x128x128 : Shape := ⟨4, ![1, 4, 128, 128]⟩
abbrev S1x4x128 : Shape := ⟨3, ![1, 4, 128]⟩
abbrev S1x512x1024 : Shape := ⟨3, ![1, 512, 1024]⟩
abbrev S1x1024x1024 : Shape := ⟨3, ![1, 1024, 1024]⟩
abbrev S32x1024 : Shape := ⟨2, ![32, 1024]⟩
abbrev S1024x4376 : Shape := ⟨2, ![1024, 4376]⟩
abbrev S1024x3072 : Shape := ⟨2, ![1024, 3072]⟩
abbrev S1024 : Shape := ⟨1, ![1024]⟩
abbrev S512 : Shape := ⟨1, ![512]⟩
abbrev S512x1024 : Shape := ⟨2, ![512, 1024]⟩
abbrev S1024x1024 : Shape := ⟨2, ![1024, 1024]⟩
abbrev S4x128x128 : Shape := ⟨3, ![4, 128, 128]⟩
abbrev S4x1x1 : Shape := ⟨3, ![4, 1, 1]⟩
abbrev S4 : Shape := ⟨1, ![4]⟩
abbrev S4x128 : Shape := ⟨2, ![4, 128]⟩
abbrev S4x1 : Shape := ⟨2, ![4, 1]⟩
abbrev S32x512 : Shape := ⟨2, ![32, 512]⟩
abbrev S32 : Shape := ⟨1, ![32]⟩
abbrev S32x1 : Shape := ⟨2, ![32, 1]⟩
abbrev S32x3072 : Shape := ⟨2, ![32, 3072]⟩

abbrev nBuf : Space → Nat
  | .hbm => 48
  | .vmem => 14
  | .smem => 0
  | _ => 0

abbrev bufTy : (tb : Table) → Fin (tcTables nBuf tb) → BufTy
  | .hbm, ⟨0, _⟩ => ⟨S32x1x1024, .f32⟩
  | .hbm, ⟨1, _⟩ => ⟨S32x8x64, .f32⟩
  | .hbm, ⟨2, _⟩ => ⟨S1x1024, .f32⟩
  | .hbm, ⟨3, _⟩ => ⟨S1x1024x4376, .f32⟩
  | .hbm, ⟨4, _⟩ => ⟨S1x512, .f32⟩
  | .hbm, ⟨5, _⟩ => ⟨S1x512, .f32⟩
  | .hbm, ⟨6, _⟩ => ⟨S1x4x128x128, .f32⟩
  | .hbm, ⟨7, _⟩ => ⟨S1x4x128, .f32⟩
  | .hbm, ⟨8, _⟩ => ⟨S1x512x1024, .f32⟩
  | .hbm, ⟨9, _⟩ => ⟨S1x512x1024, .f32⟩
  | .hbm, ⟨10, _⟩ => ⟨S1x1024x1024, .f32⟩
  | .hbm, ⟨11, _⟩ => ⟨S1x1024, .f32⟩
  | .hbm, ⟨12, _⟩ => ⟨S32x1024, .f32⟩
  | .hbm, ⟨13, _⟩ => ⟨S1024x4376, .f32⟩
  | .hbm, ⟨14, _⟩ => ⟨S1024x3072, .f32⟩
  | .hbm, ⟨15, _⟩ => ⟨S1024x3072, .bf16⟩
  | .hbm, ⟨16, _⟩ => ⟨S1024, .f32⟩
  | .hbm, ⟨17, _⟩ => ⟨S1x1024, .f32⟩
  | .hbm, ⟨18, _⟩ => ⟨S512, .f32⟩
  | .hbm, ⟨19, _⟩ => ⟨S1x512, .f32⟩
  | .hbm, ⟨20, _⟩ => ⟨S512, .f32⟩
  | .hbm, ⟨21, _⟩ => ⟨S1x512, .f32⟩
  | .hbm, ⟨22, _⟩ => ⟨S512x1024, .f32⟩
  | .hbm, ⟨23, _⟩ => ⟨S512x1024, .bf16⟩
  | .hbm, ⟨24, _⟩ => ⟨S512x1024, .f32⟩
  | .hbm, ⟨25, _⟩ => ⟨S512x1024, .bf16⟩
  | .hbm, ⟨26, _⟩ => ⟨S1024x1024, .f32⟩
  | .hbm, ⟨27, _⟩ => ⟨S1024x1024, .bf16⟩
  | .hbm, ⟨28, _⟩ => ⟨S1024, .f32⟩
  | .hbm, ⟨29, _⟩ => ⟨S1x1024, .f32⟩
  | .hbm, ⟨30, _⟩ => ⟨S4x128x128, .f32⟩
  | .hbm, ⟨31, _⟩ => ⟨S4x1x1, .f32⟩
  | .hbm, ⟨32, _⟩ => ⟨S4, .f32⟩
  | .hbm, ⟨33, _⟩ => ⟨S4x128, .f32⟩
  | .hbm, ⟨34, _⟩ => ⟨S512, .f32⟩
  | .hbm, ⟨35, _⟩ => ⟨S1x512, .f32⟩
  | .hbm, ⟨36, _⟩ => ⟨S1x512, .bf16⟩
  | .hbm, ⟨37, _⟩ => ⟨S1x512, .f32⟩
  | .hbm, ⟨38, _⟩ => ⟨S4x128, .f32⟩
  | .hbm, ⟨39, _⟩ => ⟨S4x1, .f32⟩
  | .hbm, ⟨40, _⟩ => ⟨S4, .f32⟩
  | .hbm, ⟨41, _⟩ => ⟨S4x128, .f32⟩
  | .hbm, ⟨42, _⟩ => ⟨S512, .f32⟩
  | .hbm, ⟨43, _⟩ => ⟨S1x512, .f32⟩
  | .hbm, ⟨44, _⟩ => ⟨S32x512, .f32⟩
  | .hbm, ⟨45, _⟩ => ⟨S32x512, .bf16⟩
  | .hbm, ⟨46, _⟩ => ⟨S32x1024, .f32⟩
  | .hbm, ⟨47, _⟩ => ⟨S32x512, .f32⟩
  | .local _ .vmem, ⟨0, _⟩ => ⟨S32x1024, .f32⟩
  | .local _ .vmem, ⟨1, _⟩ => ⟨S32x512, .bf16⟩
  | .local _ .vmem, ⟨2, _⟩ => ⟨S1x1024, .f32⟩
  | .local _ .vmem, ⟨3, _⟩ => ⟨S1024x3072, .bf16⟩
  | .local _ .vmem, ⟨4, _⟩ => ⟨S1x512, .f32⟩
  | .local _ .vmem, ⟨5, _⟩ => ⟨S1x512, .f32⟩
  | .local _ .vmem, ⟨6, _⟩ => ⟨S1x512, .f32⟩
  | .local _ .vmem, ⟨7, _⟩ => ⟨S1x512, .f32⟩
  | .local _ .vmem, ⟨8, _⟩ => ⟨S512x1024, .bf16⟩
  | .local _ .vmem, ⟨9, _⟩ => ⟨S512x1024, .bf16⟩
  | .local _ .vmem, ⟨10, _⟩ => ⟨S1024x1024, .bf16⟩
  | .local _ .vmem, ⟨11, _⟩ => ⟨S1x1024, .f32⟩
  | .local _ .vmem, ⟨12, _⟩ => ⟨S32x1024, .f32⟩
  | .local _ .vmem, ⟨13, _⟩ => ⟨S32x512, .f32⟩
  | _, _ => ⟨S32x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34_0 : Ref sig .tc := ⟨.hbm, 46, rfl⟩
abbrev main_v34_1 : Ref sig .tc := ⟨.hbm, 47, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S32x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S32x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x3072 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S32x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true]

abbrev stage0_13 : Fin 1 → Memref sig .tc .vmem S32x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![true]
-- ==== MixSRefIdeal.lean ====
abbrev S32x1x1024 : Shape := ⟨3, ![32, 1, 1024]⟩
abbrev S32x8x64 : Shape := ⟨3, ![32, 8, 64]⟩
abbrev S1x1024 : Shape := ⟨2, ![1, 1024]⟩
abbrev S1x1024x4376 : Shape := ⟨3, ![1, 1024, 4376]⟩
abbrev S1x512 : Shape := ⟨2, ![1, 512]⟩
abbrev S1x4x128x128 : Shape := ⟨4, ![1, 4, 128, 128]⟩
abbrev S1x4x128 : Shape := ⟨3, ![1, 4, 128]⟩
abbrev S1x512x1024 : Shape := ⟨3, ![1, 512, 1024]⟩
abbrev S1x1024x1024 : Shape := ⟨3, ![1, 1024, 1024]⟩
abbrev S1024 : Shape := ⟨1, ![1024]⟩
abbrev S_ : Shape := ⟨0, ![]⟩
abbrev S32x1 : Shape := ⟨2, ![32, 1]⟩
abbrev S32x1x1 : Shape := ⟨3, ![32, 1, 1]⟩
abbrev S1x1x1024 : Shape := ⟨3, ![1, 1, 1024]⟩
abbrev S1024x4376 : Shape := ⟨2, ![1024, 4376]⟩
abbrev S1024x3072 : Shape := ⟨2, ![1024, 3072]⟩
abbrev S32x1x3072 : Shape := ⟨3, ![32, 1, 3072]⟩
abbrev S32x1x2048 : Shape := ⟨3, ![32, 1, 2048]⟩
abbrev S32x1x512 : Shape := ⟨3, ![32, 1, 512]⟩
abbrev S512 : Shape := ⟨1, ![512]⟩
abbrev S1x1x512 : Shape := ⟨3, ![1, 1, 512]⟩
abbrev S32x128x512 : Shape := ⟨3, ![32, 128, 512]⟩
abbrev S4x128x128 : Shape := ⟨3, ![4, 128, 128]⟩
abbrev S4x128 : Shape := ⟨2, ![4, 128]⟩
abbrev S32x1x128x4x128 : Shape := ⟨5, ![32, 1, 128, 4, 128]⟩
abbrev S128x128 : Shape := ⟨2, ![128, 128]⟩
abbrev S1x128x128 : Shape := ⟨3, ![1, 128, 128]⟩
abbrev S4x32x1x128x128 : Shape := ⟨5, ![4, 32, 1, 128, 128]⟩
abbrev S128x4 : Shape := ⟨2, ![128, 4]⟩
abbrev S1x1x128x4x1 : Shape := ⟨5, ![1, 1, 128, 4, 1]⟩
abbrev S512x1024 : Shape := ⟨2, ![512, 1024]⟩
abbrev S1024x1024 : Shape := ⟨2, ![1024, 1024]⟩
abbrev S32x1024 : Shape := ⟨2, ![32, 1024]⟩
abbrev S32x512 : Shape := ⟨2, ![32, 512]⟩

abbrev nBuf : Space → Nat
  | .hbm => 153
  | .vmem => 0
  | .smem => 0
  | _ => 0

abbrev hbmTy0_0 (i : Nat) : BufTy := match i % 128 with
  | 0 => ⟨S32x1x1024, .f32⟩
  | 1 => ⟨S32x8x64, .f32⟩
  | 2 => ⟨S1x1024, .f32⟩
  | 3 => ⟨S1x1024x4376, .f32⟩
  | 4 => ⟨S1x512, .f32⟩
  | 5 => ⟨S1x512, .f32⟩
  | 6 => ⟨S1x4x128x128, .f32⟩
  | 7 => ⟨S1x4x128, .f32⟩
  | 8 => ⟨S1x512x1024, .f32⟩
  | 9 => ⟨S1x512x1024, .f32⟩
  | 10 => ⟨S1x1024x1024, .f32⟩
  | 11 => ⟨S1x1024, .f32⟩
  | 12 => ⟨S1024, .f32⟩
  | 13 => ⟨S32x1x1024, .f32⟩
  | 14 => ⟨S_, .f32⟩
  | 15 => ⟨S32x1, .f32⟩
  | 16 => ⟨S32x1x1, .f32⟩
  | 17 => ⟨S_, .f32⟩
  | 18 => ⟨S32x1x1, .f32⟩
  | 19 => ⟨S32x1x1, .f32⟩
  | 20 => ⟨S_, .f32⟩
  | 21 => ⟨S32x1x1, .f32⟩
  | 22 => ⟨S32x1x1, .f32⟩
  | 23 => ⟨S32x1x1, .f32⟩
  | 24 => ⟨S32x1x1024, .f32⟩
  | 25 => ⟨S32x1x1024, .f32⟩
  | 26 => ⟨S1x1x1024, .f32⟩
  | 27 => ⟨S32x1x1024, .f32⟩
  | 28 => ⟨S32x1x1024, .f32⟩
  | 29 => ⟨S1024x4376, .f32⟩
  | 30 => ⟨S1024x3072, .f32⟩
  | 31 => ⟨S32x1x3072, .f32⟩
  | 32 => ⟨S32x1x1024, .f32⟩
  | 33 => ⟨S32x1x2048, .f32⟩
  | 34 => ⟨S32x1x1024, .f32⟩
  | 35 => ⟨S32x1x1024, .f32⟩
  | 36 => ⟨S_, .f32⟩
  | 37 => ⟨S32x1x1024, .f32⟩
  | 38 => ⟨S32x1x1024, .f32⟩
  | 39 => ⟨S32x1x1024, .f32⟩
  | 40 => ⟨S_, .f32⟩
  | 41 => ⟨S32x1x1024, .f32⟩
  | 42 => ⟨S32x1x1024, .f32⟩
  | 43 => ⟨S32x1x1024, .f32⟩
  | 44 => ⟨S_, .f32⟩
  | 45 => ⟨S32x1x1024, .f32⟩
  | 46 => ⟨S32x1x1024, .f32⟩
  | 47 => ⟨S_, .f32⟩
  | 48 => ⟨S32x1x1024, .f32⟩
  | 49 => ⟨S32x1x1024, .f32⟩
  | 50 => ⟨S32x1x1024, .f32⟩
  | 51 => ⟨S32x1x512, .f32⟩
  | 52 => ⟨S32x1x512, .f32⟩
  | 53 => ⟨S512, .f32⟩
  | 54 => ⟨S512, .f32⟩
  | 55 => ⟨S_, .f32⟩
  | 56 => ⟨S32x1, .f32⟩
  | 57 => ⟨S32x1x1, .f32⟩
  | 58 => ⟨S_, .f32⟩
  | 59 => ⟨S32x1x1, .f32⟩
  | 60 => ⟨S32x1x1, .f32⟩
  | 61 => ⟨S32x1x512, .f32⟩
  | 62 => ⟨S32x1x512, .f32⟩
  | 63 => ⟨S32x1x512, .f32⟩
  | 64 => ⟨S_, .f32⟩
  | 65 => ⟨S32x1, .f32⟩
  | 66 => ⟨S32x1x1, .f32⟩
  | 67 => ⟨S_, .f32⟩
  | 68 => ⟨S32x1x1, .f32⟩
  | 69 => ⟨S32x1x1, .f32⟩
  | 70 => ⟨S32x1x512, .f32⟩
  | 71 => ⟨S32x1x512, .f32⟩
  | 72 => ⟨S_, .f32⟩
  | 73 => ⟨S32x1x1, .f32⟩
  | 74 => ⟨S32x1x1, .f32⟩
  | 75 => ⟨S32x1x1, .f32⟩
  | 76 => ⟨S32x1x512, .f32⟩
  | 77 => ⟨S32x1x512, .f32⟩
  | 78 => ⟨S1x1x512, .f32⟩
  | 79 => ⟨S32x1x512, .f32⟩
  | 80 => ⟨S32x1x512, .f32⟩
  | 81 => ⟨S1x1x512, .f32⟩
  | 82 => ⟨S32x1x512, .f32⟩
  | 83 => ⟨S32x1x512, .f32⟩
  | 84 => ⟨S_, .i32⟩
  | 85 => ⟨S_, .f32⟩
  | 86 => ⟨S32x128x512, .f32⟩
  | 87 => ⟨S4x128x128, .f32⟩
  | 88 => ⟨S4x128, .f32⟩
  | 89 => ⟨S32x1x128x4x128, .f32⟩
  | 90 => ⟨S_, .f32⟩
  | 91 => ⟨S128x128, .f32⟩
  | 92 => ⟨S128x128, .i32⟩
  | 93 => ⟨S_, .i32⟩
  | 94 => ⟨S128x128, .i32⟩
  | 95 => ⟨S128x128, .i32⟩
  | 96 => ⟨S128x128, .i32⟩
  | 97 => ⟨S128x128, .i1⟩
  | 98 => ⟨S_, .f32⟩
  | 99 => ⟨S128x128, .f32⟩
  | 100 => ⟨S128x128, .f32⟩
  | 101 => ⟨S1x128x128, .f32⟩
  | 102 => ⟨S4x128x128, .f32⟩
  | 103 => ⟨S4x128x128, .f32⟩
  | 104 => ⟨S4x32x1x128x128, .f32⟩
  | 105 => ⟨S32x1x128x4x128, .f32⟩
  | 106 => ⟨S128x4, .f32⟩
  | 107 => ⟨S1x1x128x4x1, .f32⟩
  | 108 => ⟨S32x1x128x4x128, .f32⟩
  | 109 => ⟨S32x1x128x4x128, .f32⟩
  | 110 => ⟨S32x128x512, .f32⟩
  | 111 => ⟨S32x1x512, .f32⟩
  | 112 => ⟨S32x1x512, .f32⟩
  | 113 => ⟨S32x1x2048, .f32⟩
  | 114 => ⟨S32x1x2048, .f32⟩
  | 115 => ⟨S_, .f32⟩
  | 116 => ⟨S32x1x2048, .f32⟩
  | 117 => ⟨S32x1x2048, .f32⟩
  | 118 => ⟨S_, .f32⟩
  | 119 => ⟨S32x1x2048, .f32⟩
  | 120 => ⟨S32x1x2048, .f32⟩
  | 121 => ⟨S32x1x1024, .f32⟩
  | 122 => ⟨S32x1x1024, .f32⟩
  | 123 => ⟨S32x1x512, .f32⟩
  | 124 => ⟨S512x1024, .f32⟩
  | 125 => ⟨S32x1x1024, .f32⟩
  | 126 => ⟨S32x1x1024, .f32⟩
  | 127 => ⟨S512x1024, .f32⟩
  | _ => ⟨S32x1x1024, .f32⟩

abbrev hbmTy0_1 (i : Nat) : BufTy := match i % 128 with
  | 0 => ⟨S32x1x1024, .f32⟩
  | 1 => ⟨S32x1x1024, .f32⟩
  | 2 => ⟨S32x1x1024, .f32⟩
  | 3 => ⟨S1024x1024, .f32⟩
  | 4 => ⟨S32x1x1024, .f32⟩
  | 5 => ⟨S1024, .f32⟩
  | 6 => ⟨S32x1x1024, .f32⟩
  | 7 => ⟨S_, .f32⟩
  | 8 => ⟨S32x1, .f32⟩
  | 9 => ⟨S32x1x1, .f32⟩
  | 10 => ⟨S_, .f32⟩
  | 11 => ⟨S32x1x1, .f32⟩
  | 12 => ⟨S32x1x1, .f32⟩
  | 13 => ⟨S_, .f32⟩
  | 14 => ⟨S32x1x1, .f32⟩
  | 15 => ⟨S32x1x1, .f32⟩
  | 16 => ⟨S32x1x1, .f32⟩
  | 17 => ⟨S32x1x1024, .f32⟩
  | 18 => ⟨S32x1x1024, .f32⟩
  | 19 => ⟨S1x1x1024, .f32⟩
  | 20 => ⟨S32x1x1024, .f32⟩
  | 21 => ⟨S32x1x1024, .f32⟩
  | 22 => ⟨S32x1x1024, .f32⟩
  | 23 => ⟨S32x1024, .f32⟩
  | 24 => ⟨S32x512, .f32⟩
  | _ => ⟨S32x1x1024, .f32⟩

abbrev hbmTy (i : Nat) : BufTy := match i / 128 with
  | 0 => hbmTy0_0 i
  | 1 => hbmTy0_1 i
  | _ => ⟨S32x1x1024, .f32⟩

abbrev bufTy : (tb : Table) → Fin (tcTables nBuf tb) → BufTy
  | .hbm, ⟨i, _⟩ => hbmTy i
  | _, _ => ⟨S32x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_cst : Ref sig .tc := ⟨.hbm, 14, rfl⟩
abbrev main_v2 : Ref sig .tc := ⟨.hbm, 15, rfl⟩
abbrev main_v3 : Ref sig .tc := ⟨.hbm, 16, rfl⟩
abbrev main_cst_0 : Ref sig .tc := ⟨.hbm, 17, rfl⟩
abbrev main_v4 : Ref sig .tc := ⟨.hbm, 18, rfl⟩
abbrev main_v5 : Ref sig .tc := ⟨.hbm, 19, rfl⟩
abbrev main_cst_1 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_2 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_3 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_4 : Ref sig .tc := ⟨.hbm, 44, rfl⟩
abbrev main_v27 : Ref sig .tc := ⟨.hbm, 45, rfl⟩
abbrev main_v28 : Ref sig .tc := ⟨.hbm, 46, rfl⟩
abbrev main_cst_5 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst_6 : Ref sig .tc := ⟨.hbm, 55, rfl⟩
abbrev main_v36 : Ref sig .tc := ⟨.hbm, 56, rfl⟩
abbrev main_v37 : Ref sig .tc := ⟨.hbm, 57, rfl⟩
abbrev main_cst_7 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_8 : Ref sig .tc := ⟨.hbm, 64, rfl⟩
abbrev main_v43 : Ref sig .tc := ⟨.hbm, 65, rfl⟩
abbrev main_v44 : Ref sig .tc := ⟨.hbm, 66, rfl⟩
abbrev main_cst_9 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_cst_10 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_c : Ref sig .tc := ⟨.hbm, 84, rfl⟩
abbrev main_call0_v0 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_cst_11 : Ref sig .tc := ⟨.hbm, 90, rfl⟩
abbrev main_v64 : Ref sig .tc := ⟨.hbm, 91, rfl⟩
abbrev main_call1_v0 : Ref sig .tc := ⟨.hbm, 92, rfl⟩
abbrev main_call1_c : Ref sig .tc := ⟨.hbm, 93, rfl⟩
abbrev main_call1_v1 : Ref sig .tc := ⟨.hbm, 94, rfl⟩
abbrev main_call1_v2 : Ref sig .tc := ⟨.hbm, 95, rfl⟩
abbrev main_call1_v3 : Ref sig .tc := ⟨.hbm, 96, rfl⟩
abbrev main_call1_v4 : Ref sig .tc := ⟨.hbm, 97, rfl⟩
abbrev main_call1_cst : Ref sig .tc := ⟨.hbm, 98, rfl⟩
abbrev main_call1_v5 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_cst_12 : Ref sig .tc := ⟨.hbm, 115, rfl⟩
abbrev main_v80 : Ref sig .tc := ⟨.hbm, 116, rfl⟩
abbrev main_v81 : Ref sig .tc := ⟨.hbm, 117, rfl⟩
abbrev main_cst_13 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_cst_14 : Ref sig .tc := ⟨.hbm, 135, rfl⟩
abbrev main_v98 : Ref sig .tc := ⟨.hbm, 136, rfl⟩
abbrev main_v99 : Ref sig .tc := ⟨.hbm, 137, rfl⟩
abbrev main_cst_15 : Ref sig .tc := ⟨.hbm, 138, rfl⟩
abbrev main_v100 : Ref sig .tc := ⟨.hbm, 139, rfl⟩
abbrev main_v101 : Ref sig .tc := ⟨.hbm, 140, rfl⟩
abbrev main_cst_16 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩

abbrev nD : Nat := 1
abbrev τ : Topo := Topo.v7x

variable {F : FTy → Type} [FloatOps F]
-- ==== FfnS.lean ====
abbrev S32x1024 : Shape := ⟨2, ![32, 1024]⟩
abbrev S1x32x1x256 : Shape := ⟨4, ![1, 32, 1, 256]⟩
abbrev S1x1024 : Shape := ⟨2, ![1, 1024]⟩
abbrev S1x1024x2816 : Shape := ⟨3, ![1, 1024, 2816]⟩
abbrev S1x2816x1024 : Shape := ⟨3, ![1, 2816, 1024]⟩
abbrev S1x256x1024 : Shape := ⟨3, ![1, 256, 1024]⟩
abbrev S1x1024x1024 : Shape := ⟨3, ![1, 1024, 1024]⟩
abbrev S1024 : Shape := ⟨1, ![1024]⟩
abbrev S1024x2816 : Shape := ⟨2, ![1024, 2816]⟩
abbrev S2816x1024 : Shape := ⟨2, ![2816, 1024]⟩
abbrev S256x1024 : Shape := ⟨2, ![256, 1024]⟩
abbrev S1024x1024 : Shape := ⟨2, ![1024, 1024]⟩
abbrev S32x1x256 : Shape := ⟨3, ![32, 1, 256]⟩
abbrev S32x256 : Shape := ⟨2, ![32, 256]⟩
abbrev S32 : Shape := ⟨1, ![32]⟩
abbrev S32x1 : Shape := ⟨2, ![32, 1]⟩
abbrev S32x2816 : Shape := ⟨2, ![32, 2816]⟩

abbrev nBuf : Space → Nat
  | .hbm => 29
  | .vmem => 11
  | .smem => 0
  | _ => 0

abbrev bufTy : (tb : Table) → Fin (tcTables nBuf tb) → BufTy
  | .hbm, ⟨0, _⟩ => ⟨S32x1024, .f32⟩
  | .hbm, ⟨1, _⟩ => ⟨S1x32x1x256, .f32⟩
  | .hbm, ⟨2, _⟩ => ⟨S1x1024, .f32⟩
  | .hbm, ⟨3, _⟩ => ⟨S1x1024x2816, .f32⟩
  | .hbm, ⟨4, _⟩ => ⟨S1x1024x2816, .f32⟩
  | .hbm, ⟨5, _⟩ => ⟨S1x2816x1024, .f32⟩
  | .hbm, ⟨6, _⟩ => ⟨S1x1024, .f32⟩
  | .hbm, ⟨7, _⟩ => ⟨S1x256x1024, .f32⟩
  | .hbm, ⟨8, _⟩ => ⟨S1x1024x1024, .f32⟩
  | .hbm, ⟨9, _⟩ => ⟨S1x1024, .f32⟩
  | .hbm, ⟨10, _⟩ => ⟨S1024, .f32⟩
  | .hbm, ⟨11, _⟩ => ⟨S1x1024, .f32⟩
  | .hbm, ⟨12, _⟩ => ⟨S1024x2816, .f32⟩
  | .hbm, ⟨13, _⟩ => ⟨S1024x2816, .bf16⟩
  | .hbm, ⟨14, _⟩ => ⟨S1024x2816, .f32⟩
  | .hbm, ⟨15, _⟩ => ⟨S1024x2816, .bf16⟩
  | .hbm, ⟨16, _⟩ => ⟨S2816x1024, .f32⟩
  | .hbm, ⟨17, _⟩ => ⟨S2816x1024, .bf16⟩
  | .hbm, ⟨18, _⟩ => ⟨S1024, .f32⟩
  | .hbm, ⟨19, _⟩ => ⟨S1x1024, .f32⟩
  | .hbm, ⟨20, _⟩ => ⟨S256x1024, .f32⟩
  | .hbm, ⟨21, _⟩ => ⟨S256x1024, .bf16⟩
  | .hbm, ⟨22, _⟩ => ⟨S1024x1024, .f32⟩
  | .hbm, ⟨23, _⟩ => ⟨S1024x1024, .bf16⟩
  | .hbm, ⟨24, _⟩ => ⟨S1024, .f32⟩
  | .hbm, ⟨25, _⟩ => ⟨S1x1024, .f32⟩
  | .hbm, ⟨26, _⟩ => ⟨S32x1x256, .f32⟩
  | .hbm, ⟨27, _⟩ => ⟨S32x256, .f32⟩
  | .hbm, ⟨28, _⟩ => ⟨S32x1024, .f32⟩
  | .local _ .vmem, ⟨0, _⟩ => ⟨S32x1024, .f32⟩
  | .local _ .vmem, ⟨1, _⟩ => ⟨S32x256, .f32⟩
  | .local _ .vmem, ⟨2, _⟩ => ⟨S1x1024, .f32⟩
  | .local _ .vmem, ⟨3, _⟩ => ⟨S1024x2816, .bf16⟩
  | .local _ .vmem, ⟨4, _⟩ => ⟨S1024x2816, .bf16⟩
  | .local _ .vmem, ⟨5, _⟩ => ⟨S2816x1024, .bf16⟩
  | .local _ .vmem, ⟨6, _⟩ => ⟨S1x1024, .f32⟩
  | .local _ .vmem, ⟨7, _⟩ => ⟨S256x1024, .bf16⟩
  | .local _ .vmem, ⟨8, _⟩ => ⟨S1024x1024, .bf16⟩
  | .local _ .vmem, ⟨9, _⟩ => ⟨S1x1024, .f32⟩
  | .local _ .vmem, ⟨10, _⟩ => ⟨S32x1024, .f32⟩
  | _, _ => ⟨S32x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S32x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S32x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2816 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S32x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]
-- ==== FfnSRefIdeal.lean ====
abbrev S32x1024 : Shape := ⟨2, ![32, 1024]⟩
abbrev S1x32x1x256 : Shape := ⟨4, ![1, 32, 1, 256]⟩
abbrev S1x1024 : Shape := ⟨2, ![1, 1024]⟩
abbrev S1x1024x2816 : Shape := ⟨3, ![1, 1024, 2816]⟩
abbrev S1x2816x1024 : Shape := ⟨3, ![1, 2816, 1024]⟩
abbrev S1x256x1024 : Shape := ⟨3, ![1, 256, 1024]⟩
abbrev S1x1024x1024 : Shape := ⟨3, ![1, 1024, 1024]⟩
abbrev S32x1x1024 : Shape := ⟨3, ![32, 1, 1024]⟩
abbrev S32x1x256 : Shape := ⟨3, ![32, 1, 256]⟩
abbrev S1024 : Shape := ⟨1, ![1024]⟩
abbrev S_ : Shape := ⟨0, ![]⟩
abbrev S32x1 : Shape := ⟨2, ![32, 1]⟩
abbrev S32x1x1 : Shape := ⟨3, ![32, 1, 1]⟩
abbrev S1x1x1024 : Shape := ⟨3, ![1, 1, 1024]⟩
abbrev S1024x2816 : Shape := ⟨2, ![1024, 2816]⟩
abbrev S32x1x2816 : Shape := ⟨3, ![32, 1, 2816]⟩
abbrev S2816x1024 : Shape := ⟨2, ![2816, 1024]⟩
abbrev S256x1024 : Shape := ⟨2, ![256, 1024]⟩
abbrev S1024x1024 : Shape := ⟨2, ![1024, 1024]⟩

abbrev nBuf : Space → Nat
  | .hbm => 95
  | .vmem => 0
  | .smem => 0
  | _ => 0

abbrev bufTy : (tb : Table) → Fin (tcTables nBuf tb) → BufTy
  | .hbm, ⟨0, _⟩ => ⟨S32x1024, .f32⟩
  | .hbm, ⟨1, _⟩ => ⟨S1x32x1x256, .f32⟩
  | .hbm, ⟨2, _⟩ => ⟨S1x1024, .f32⟩
  | .hbm, ⟨3, _⟩ => ⟨S1x1024x2816, .f32⟩
  | .hbm, ⟨4, _⟩ => ⟨S1x1024x2816, .f32⟩
  | .hbm, ⟨5, _⟩ => ⟨S1x2816x1024, .f32⟩
  | .hbm, ⟨6, _⟩ => ⟨S1x1024, .f32⟩
  | .hbm, ⟨7, _⟩ => ⟨S1x256x1024, .f32⟩
  | .hbm, ⟨8, _⟩ => ⟨S1x1024x1024, .f32⟩
  | .hbm, ⟨9, _⟩ => ⟨S1x1024, .f32⟩
  | .hbm, ⟨10, _⟩ => ⟨S32x1x1024, .f32⟩
  | .hbm, ⟨11, _⟩ => ⟨S32x1x256, .f32⟩
  | .hbm, ⟨12, _⟩ => ⟨S1024, .f32⟩
  | .hbm, ⟨13, _⟩ => ⟨S32x1x1024, .f32⟩
  | .hbm, ⟨14, _⟩ => ⟨S_, .f32⟩
  | .hbm, ⟨15, _⟩ => ⟨S32x1, .f32⟩
  | .hbm, ⟨16, _⟩ => ⟨S32x1x1, .f32⟩
  | .hbm, ⟨17, _⟩ => ⟨S_, .f32⟩
  | .hbm, ⟨18, _⟩ => ⟨S32x1x1, .f32⟩
  | .hbm, ⟨19, _⟩ => ⟨S32x1x1, .f32⟩
  | .hbm, ⟨20, _⟩ => ⟨S_, .f32⟩
  | .hbm, ⟨21, _⟩ => ⟨S32x1x1, .f32⟩
  | .hbm, ⟨22, _⟩ => ⟨S32x1x1, .f32⟩
  | .hbm, ⟨23, _⟩ => ⟨S32x1x1, .f32⟩
  | .hbm, ⟨24, _⟩ => ⟨S32x1x1024, .f32⟩
  | .hbm, ⟨25, _⟩ => ⟨S32x1x1024, .f32⟩
  | .hbm, ⟨26, _⟩ => ⟨S1x1x1024, .f32⟩
  | .hbm, ⟨27, _⟩ => ⟨S32x1x1024, .f32⟩
  | .hbm, ⟨28, _⟩ => ⟨S32x1x1024, .f32⟩
  | .hbm, ⟨29, _⟩ => ⟨S1024x2816, .f32⟩
  | .hbm, ⟨30, _⟩ => ⟨S32x1x2816, .f32⟩
  | .hbm, ⟨31, _⟩ => ⟨S32x1x2816, .f32⟩
  | .hbm, ⟨32, _⟩ => ⟨S32x1x2816, .f32⟩
  | .hbm, ⟨33, _⟩ => ⟨S_, .f32⟩
  | .hbm, ⟨34, _⟩ => ⟨S32x1x2816, .f32⟩
  | .hbm, ⟨35, _⟩ => ⟨S32x1x2816, .f32⟩
  | .hbm, ⟨36, _⟩ => ⟨S_, .f32⟩
  | .hbm, ⟨37, _⟩ => ⟨S32x1x2816, .f32⟩
  | .hbm, ⟨38, _⟩ => ⟨S32x1x2816, .f32⟩
  | .hbm, ⟨39, _⟩ => ⟨S32x1x2816, .f32⟩
  | .hbm, ⟨40, _⟩ => ⟨S1024x2816, .f32⟩
  | .hbm, ⟨41, _⟩ => ⟨S32x1x2816, .f32⟩
  | .hbm, ⟨42, _⟩ => ⟨S32x1x2816, .f32⟩
  | .hbm, ⟨43, _⟩ => ⟨S2816x1024, .f32⟩
  | .hbm, ⟨44, _⟩ => ⟨S32x1x1024, .f32⟩
  | .hbm, ⟨45, _⟩ => ⟨S1024, .f32⟩
  | .hbm, ⟨46, _⟩ => ⟨S32x1x1024, .f32⟩
  | .hbm, ⟨47, _⟩ => ⟨S_, .f32⟩
  | .hbm, ⟨48, _⟩ => ⟨S32x1, .f32⟩
  | .hbm, ⟨49, _⟩ => ⟨S32x1x1, .f32⟩
  | .hbm, ⟨50, _⟩ => ⟨S_, .f32⟩
  | .hbm, ⟨51, _⟩ => ⟨S32x1x1, .f32⟩
  | .hbm, ⟨52, _⟩ => ⟨S32x1x1, .f32⟩
  | .hbm, ⟨53, _⟩ => ⟨S_, .f32⟩
  | .hbm, ⟨54, _⟩ => ⟨S32x1x1, .f32⟩
  | .hbm, ⟨55, _⟩ => ⟨S32x1x1, .f32⟩
  | .hbm, ⟨56, _⟩ => ⟨S32x1x1, .f32⟩
  | .hbm, ⟨57, _⟩ => ⟨S32x1x1024, .f32⟩
  | .hbm, ⟨58, _⟩ => ⟨S32x1x1024, .f32⟩
  | .hbm, ⟨59, _⟩ => ⟨S1x1x1024, .f32⟩
  | .hbm, ⟨60, _⟩ => ⟨S32x1x1024, .f32⟩
  | .hbm, ⟨61, _⟩ => ⟨S32x1x1024, .f32⟩
  | .hbm, ⟨62, _⟩ => ⟨S32x1x1024, .f32⟩
  | .hbm, ⟨63, _⟩ => ⟨S256x1024, .f32⟩
  | .hbm, ⟨64, _⟩ => ⟨S32x1x1024, .f32⟩
  | .hbm, ⟨65, _⟩ => ⟨S1024x1024, .f32⟩
  | .hbm, ⟨66, _⟩ => ⟨S32x1x1024, .f32⟩
  | .hbm, ⟨67, _⟩ => ⟨S32x1x1024, .f32⟩
  | .hbm, ⟨68, _⟩ => ⟨S32x1x1024, .f32⟩
  | .hbm, ⟨69, _⟩ => ⟨S_, .f32⟩
  | .hbm, ⟨70, _⟩ => ⟨S32x1x1024, .f32⟩
  | .hbm, ⟨71, _⟩ => ⟨S32x1x1024, .f32⟩
  | .hbm, ⟨72, _⟩ => ⟨S_, .f32⟩
  | .hbm, ⟨73, _⟩ => ⟨S32x1x1024, .f32⟩
  | .hbm, ⟨74, _⟩ => ⟨S32x1x1024, .f32⟩
  | .hbm, ⟨75, _⟩ => ⟨S32x1x1024, .f32⟩
  | .hbm, ⟨76, _⟩ => ⟨S1024, .f32⟩
  | .hbm, ⟨77, _⟩ => ⟨S32x1x1024, .f32⟩
  | .hbm, ⟨78, _⟩ => ⟨S_, .f32⟩
  | .hbm, ⟨79, _⟩ => ⟨S32x1, .f32⟩
  | .hbm, ⟨80, _⟩ => ⟨S32x1x1, .f32⟩
  | .hbm, ⟨81, _⟩ => ⟨S_, .f32⟩
  | .hbm, ⟨82, _⟩ => ⟨S32x1x1, .f32⟩
  | .hbm, ⟨83, _⟩ => ⟨S32x1x1, .f32⟩
  | .hbm, ⟨84, _⟩ => ⟨S_, .f32⟩
  | .hbm, ⟨85, _⟩ => ⟨S32x1x1, .f32⟩
  | .hbm, ⟨86, _⟩ => ⟨S32x1x1, .f32⟩
  | .hbm, ⟨87, _⟩ => ⟨S32x1x1, .f32⟩
  | .hbm, ⟨88, _⟩ => ⟨S32x1x1024, .f32⟩
  | .hbm, ⟨89, _⟩ => ⟨S32x1x1024, .f32⟩
  | .hbm, ⟨90, _⟩ => ⟨S1x1x1024, .f32⟩
  | .hbm, ⟨91, _⟩ => ⟨S32x1x1024, .f32⟩
  | .hbm, ⟨92, _⟩ => ⟨S32x1x1024, .f32⟩
  | .hbm, ⟨93, _⟩ => ⟨S32x1x1024, .f32⟩
  | .hbm, ⟨94, _⟩ => ⟨S32x1024, .f32⟩
  | _, _ => ⟨S32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_call0_v0 : Ref sig .tc := ⟨.hbm, 31, rfl⟩
abbrev main_call0_v1 : Ref sig .tc := ⟨.hbm, 32, rfl⟩
abbrev main_call0_cst : Ref sig .tc := ⟨.hbm, 33, rfl⟩
abbrev main_call0_v2 : Ref sig .tc := ⟨.hbm, 34, rfl⟩
abbrev main_call0_v3 : Ref sig .tc := ⟨.hbm, 35, rfl⟩
abbrev main_call0_cst_0 : Ref sig .tc := ⟨.hbm, 36, rfl⟩
abbrev main_call0_v4 : Ref sig .tc := ⟨.hbm, 37, rfl⟩
abbrev main_call0_v5 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_cst_2 : Ref sig .tc := ⟨.hbm, 47, rfl⟩
abbrev main_v26 : Ref sig .tc := ⟨.hbm, 48, rfl⟩
abbrev main_v27 : Ref sig .tc := ⟨.hbm, 49, rfl⟩
abbrev main_cst_3 : Ref sig .tc := ⟨.hbm, 50, rfl⟩
abbrev main_v28 : Ref sig .tc := ⟨.hbm, 51, rfl⟩
abbrev main_v29 : Ref sig .tc := ⟨.hbm, 52, rfl⟩
abbrev main_cst_4 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_cst_5 : Ref sig .tc := ⟨.hbm, 69, rfl⟩
abbrev main_v45 : Ref sig .tc := ⟨.hbm, 70, rfl⟩
abbrev main_v46 : Ref sig .tc := ⟨.hbm, 71, rfl⟩
abbrev main_cst_6 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_cst_7 : Ref sig .tc := ⟨.hbm, 78, rfl⟩
abbrev main_v52 : Ref sig .tc := ⟨.hbm, 79, rfl⟩
abbrev main_v53 : Ref sig .tc := ⟨.hbm, 80, rfl⟩
abbrev main_cst_8 : Ref sig .tc := ⟨.hbm, 81, rfl⟩
abbrev main_v54 : Ref sig .tc := ⟨.hbm, 82, rfl⟩
abbrev main_v55 : Ref sig .tc := ⟨.hbm, 83, rfl⟩
abbrev main_cst_9 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩

abbrev nD : Nat := 1
abbrev τ : Topo := Topo.v7x

variable {F : FTy → Type} [FloatOps F]
-- ==== CmpS.lean ====
abbrev S32x8x64 : Shape := ⟨3, ![32, 8, 64]⟩
abbrev S32x1024x256 : Shape := ⟨3, ![32, 1024, 256]⟩
abbrev S8x1024 : Shape := ⟨2, ![8, 1024]⟩
abbrev S8 : Shape := ⟨1, ![8]⟩
abbrev S_ : Shape := ⟨0, ![]⟩
abbrev S8x1 : Shape := ⟨2, ![8, 1]⟩
abbrev S2 : Shape := ⟨1, ![2]⟩
abbrev S1x2 : Shape := ⟨2, ![1, 2]⟩
abbrev S8x2 : Shape := ⟨2, ![8, 2]⟩
abbrev S1024 : Shape := ⟨1, ![1024]⟩
abbrev S1024x1 : Shape := ⟨2, ![1024, 1]⟩
abbrev S257 : Shape := ⟨1, ![257]⟩
abbrev S1x257 : Shape := ⟨2, ![1, 257]⟩
abbrev S1024x257 : Shape := ⟨2, ![1024, 257]⟩
abbrev S1024x384 : Shape := ⟨2, ![1024, 384]⟩
abbrev S32x8x1x64 : Shape := ⟨4, ![32, 8, 1, 64]⟩
abbrev S1x8x2x1 : Shape := ⟨4, ![1, 8, 2, 1]⟩
abbrev S32x8x2x64 : Shape := ⟨4, ![32, 8, 2, 64]⟩
abbrev S32x8x128 : Shape := ⟨3, ![32, 8, 128]⟩
abbrev S32x8x384 : Shape := ⟨3, ![32, 8, 384]⟩
abbrev S1x8x128 : Shape := ⟨3, ![1, 8, 128]⟩
abbrev S1x1024x256 : Shape := ⟨3, ![1, 1024, 256]⟩
abbrev S1x8x384 : Shape := ⟨3, ![1, 8, 384]⟩
abbrev S8x128 : Shape := ⟨2, ![8, 128]⟩
abbrev S1024x256 : Shape := ⟨2, ![1024, 256]⟩
abbrev S1024x128 : Shape := ⟨2, ![1024, 128]⟩
abbrev S4x1024 : Shape := ⟨2, ![4, 1024]⟩
abbrev S1x1024 : Shape := ⟨2, ![1, 1024]⟩
abbrev S8x384 : Shape := ⟨2, ![8, 384]⟩
abbrev S1x8x1 : Shape := ⟨3, ![1, 8, 1]⟩
abbrev S32x2x257 : Shape := ⟨3, ![32, 2, 257]⟩

abbrev nBuf : Space → Nat
  | .hbm => 94
  | .vmem => 10
  | .smem => 0
  | _ => 0

abbrev bufTy : (tb : Table) → Fin (tcTables nBuf tb) → BufTy
  | .hbm, ⟨0, _⟩ => ⟨S32x8x64, .f32⟩
  | .hbm, ⟨1, _⟩ => ⟨S32x1024x256, .bf16⟩
  | .hbm, ⟨2, _⟩ => ⟨S8x1024, .f32⟩
  | .hbm, ⟨3, _⟩ => ⟨S8, .i32⟩
  | .hbm, ⟨4, _⟩ => ⟨S_, .i32⟩
  | .hbm, ⟨5, _⟩ => ⟨S_, .i32⟩
  | .hbm, ⟨6, _⟩ => ⟨S8, .i32⟩
  | .hbm, ⟨7, _⟩ => ⟨S8, .i32⟩
  | .hbm, ⟨8, _⟩ => ⟨S8, .i32⟩
  | .hbm, ⟨9, _⟩ => ⟨S_, .i32⟩
  | .hbm, ⟨10, _⟩ => ⟨S8, .i32⟩
  | .hbm, ⟨11, _⟩ => ⟨S8, .i1⟩
  | .hbm, ⟨12, _⟩ => ⟨S8, .i32⟩
  | .hbm, ⟨13, _⟩ => ⟨S8, .i32⟩
  | .hbm, ⟨14, _⟩ => ⟨S_, .i32⟩
  | .hbm, ⟨15, _⟩ => ⟨S8, .i32⟩
  | .hbm, ⟨16, _⟩ => ⟨S8, .i1⟩
  | .hbm, ⟨17, _⟩ => ⟨S8, .i1⟩
  | .hbm, ⟨18, _⟩ => ⟨S_, .i32⟩
  | .hbm, ⟨19, _⟩ => ⟨S8, .i32⟩
  | .hbm, ⟨20, _⟩ => ⟨S8, .i32⟩
  | .hbm, ⟨21, _⟩ => ⟨S8, .i32⟩
  | .hbm, ⟨22, _⟩ => ⟨S8x1, .i32⟩
  | .hbm, ⟨23, _⟩ => ⟨S2, .i32⟩
  | .hbm, ⟨24, _⟩ => ⟨S1x2, .i32⟩
  | .hbm, ⟨25, _⟩ => ⟨S8x2, .i32⟩
  | .hbm, ⟨26, _⟩ => ⟨S8x2, .i32⟩
  | .hbm, ⟨27, _⟩ => ⟨S8x2, .i1⟩
  | .hbm, ⟨28, _⟩ => ⟨S1024, .i32⟩
  | .hbm, ⟨29, _⟩ => ⟨S1024x1, .i32⟩
  | .hbm, ⟨30, _⟩ => ⟨S_, .i32⟩
  | .hbm, ⟨31, _⟩ => ⟨S1024x1, .i32⟩
  | .hbm, ⟨32, _⟩ => ⟨S1024x1, .i32⟩
  | .hbm, ⟨33, _⟩ => ⟨S_, .i32⟩
  | .hbm, ⟨34, _⟩ => ⟨S1024x1, .i32⟩
  | .hbm, ⟨35, _⟩ => ⟨S1024x1, .i32⟩
  | .hbm, ⟨36, _⟩ => ⟨S257, .i32⟩
  | .hbm, ⟨37, _⟩ => ⟨S1x257, .i32⟩
  | .hbm, ⟨38, _⟩ => ⟨S_, .i32⟩
  | .hbm, ⟨39, _⟩ => ⟨S1x257, .i32⟩
  | .hbm, ⟨40, _⟩ => ⟨S1x257, .i32⟩
  | .hbm, ⟨41, _⟩ => ⟨S_, .i32⟩
  | .hbm, ⟨42, _⟩ => ⟨S1x257, .i32⟩
  | .hbm, ⟨43, _⟩ => ⟨S1x257, .i32⟩
  | .hbm, ⟨44, _⟩ => ⟨S_, .i32⟩
  | .hbm, ⟨45, _⟩ => ⟨S1x257, .i32⟩
  | .hbm, ⟨46, _⟩ => ⟨S1x257, .i32⟩
  | .hbm, ⟨47, _⟩ => ⟨S1024x257, .i32⟩
  | .hbm, ⟨48, _⟩ => ⟨S1024x257, .i32⟩
  | .hbm, ⟨49, _⟩ => ⟨S1024x257, .i1⟩
  | .hbm, ⟨50, _⟩ => ⟨S_, .i32⟩
  | .hbm, ⟨51, _⟩ => ⟨S1024x1, .i32⟩
  | .hbm, ⟨52, _⟩ => ⟨S1024x1, .i32⟩
  | .hbm, ⟨53, _⟩ => ⟨S_, .i32⟩
  | .hbm, ⟨54, _⟩ => ⟨S1024x1, .i32⟩
  | .hbm, ⟨55, _⟩ => ⟨S1024x1, .i32⟩
  | .hbm, ⟨56, _⟩ => ⟨S1024x257, .i32⟩
  | .hbm, ⟨57, _⟩ => ⟨S1024x257, .i32⟩
  | .hbm, ⟨58, _⟩ => ⟨S1024x257, .i1⟩
  | .hbm, ⟨59, _⟩ => ⟨S1024x257, .i1⟩
  | .hbm, ⟨60, _⟩ => ⟨S1024, .i32⟩
  | .hbm, ⟨61, _⟩ => ⟨S1024x1, .i32⟩
  | .hbm, ⟨62, _⟩ => ⟨S_, .i32⟩
  | .hbm, ⟨63, _⟩ => ⟨S1024x1, .i32⟩
  | .hbm, ⟨64, _⟩ => ⟨S1024x1, .i1⟩
  | .hbm, ⟨65, _⟩ => ⟨S1024x257, .i1⟩
  | .hbm, ⟨66, _⟩ => ⟨S1024x257, .i1⟩
  | .hbm, ⟨67, _⟩ => ⟨S_, .i32⟩
  | .hbm, ⟨68, _⟩ => ⟨S_, .i32⟩
  | .hbm, ⟨69, _⟩ => ⟨S_, .i32⟩
  | .hbm, ⟨70, _⟩ => ⟨S_, .i1⟩
  | .hbm, ⟨71, _⟩ => ⟨S_, .i1⟩
  | .hbm, ⟨72, _⟩ => ⟨S1024x384, .i1⟩
  | .hbm, ⟨73, _⟩ => ⟨S1024x384, .bf16⟩
  | .hbm, ⟨74, _⟩ => ⟨S32x8x1x64, .f32⟩
  | .hbm, ⟨75, _⟩ => ⟨S1x8x2x1, .i1⟩
  | .hbm, ⟨76, _⟩ => ⟨S1x8x2x1, .f32⟩
  | .hbm, ⟨77, _⟩ => ⟨S32x8x2x64, .f32⟩
  | .hbm, ⟨78, _⟩ => ⟨S32x8x2x64, .f32⟩
  | .hbm, ⟨79, _⟩ => ⟨S32x8x2x64, .f32⟩
  | .hbm, ⟨80, _⟩ => ⟨S32x8x128, .f32⟩
  | .hbm, ⟨81, _⟩ => ⟨S32x8x128, .bf16⟩
  | .hbm, ⟨82, _⟩ => ⟨S32x8x128, .f32⟩
  | .hbm, ⟨83, _⟩ => ⟨S32x8x384, .f32⟩
  | .hbm, ⟨84, _⟩ => ⟨S8, .i32⟩
  | .hbm, ⟨85, _⟩ => ⟨S_, .i32⟩
  | .hbm, ⟨86, _⟩ => ⟨S8, .i32⟩
  | .hbm, ⟨87, _⟩ => ⟨S8, .i1⟩
  | .hbm, ⟨88, _⟩ => ⟨S1x8x1, .i1⟩
  | .hbm, ⟨89, _⟩ => ⟨S32x8x64, .f32⟩
  | .hbm, ⟨90, _⟩ => ⟨S32x8x64, .f32⟩
  | .hbm, ⟨91, _⟩ => ⟨S32x8x64, .i1⟩
  | .hbm, ⟨92, _⟩ => ⟨S32x8x64, .f32⟩
  | .hbm, ⟨93, _⟩ => ⟨S32x2x257, .f32⟩
  | .local _ .vmem, ⟨0, _⟩ => ⟨S1x8x128, .bf16⟩
  | .local _ .vmem, ⟨1, _⟩ => ⟨S1x8x128, .bf16⟩
  | .local _ .vmem, ⟨2, _⟩ => ⟨S1x1024x256, .bf16⟩
  | .local _ .vmem, ⟨3, _⟩ => ⟨S1x1024x256, .bf16⟩
  | .local _ .vmem, ⟨4, _⟩ => ⟨S8x1024, .f32⟩
  | .local _ .vmem, ⟨5, _⟩ => ⟨S1024x384, .bf16⟩
  | .local _ .vmem, ⟨6, _⟩ => ⟨S1x8x128, .f32⟩
  | .local _ .vmem, ⟨7, _⟩ => ⟨S1x8x128, .f32⟩
  | .local _ .vmem, ⟨8, _⟩ => ⟨S1x8x384, .f32⟩
  | .local _ .vmem, ⟨9, _⟩ => ⟨S1x8x384, .f32⟩
  | _, _ => ⟨S32x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_v6 : Ref sig .tc := ⟨.hbm, 11, rfl⟩
abbrev main_call0_v7 : Ref sig .tc := ⟨.hbm, 12, rfl⟩
abbrev main_call0_v8 : Ref sig .tc := ⟨.hbm, 13, rfl⟩
abbrev main_call0_c : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_0 : Ref sig .tc := ⟨.hbm, 18, rfl⟩
abbrev main_call0_v12 : Ref sig .tc := ⟨.hbm, 19, rfl⟩
abbrev main_call0_v13 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_c_0 : Ref sig .tc := ⟨.hbm, 30, rfl⟩
abbrev main_v10 : Ref sig .tc := ⟨.hbm, 31, rfl⟩
abbrev main_v11 : Ref sig .tc := ⟨.hbm, 32, rfl⟩
abbrev main_c_1 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_c_2 : Ref sig .tc := ⟨.hbm, 38, rfl⟩
abbrev main_v16 : Ref sig .tc := ⟨.hbm, 39, rfl⟩
abbrev main_v17 : Ref sig .tc := ⟨.hbm, 40, rfl⟩
abbrev main_c_3 : Ref sig .tc := ⟨.hbm, 41, rfl⟩
abbrev main_v18 : Ref sig .tc := ⟨.hbm, 42, rfl⟩
abbrev main_v19 : Ref sig .tc := ⟨.hbm, 43, rfl⟩
abbrev main_c_4 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_c_5 : Ref sig .tc := ⟨.hbm, 50, rfl⟩
abbrev main_v25 : Ref sig .tc := ⟨.hbm, 51, rfl⟩
abbrev main_v26 : Ref sig .tc := ⟨.hbm, 52, rfl⟩
abbrev main_c_6 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_c_7 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_c_8 : Ref sig .tc := ⟨.hbm, 67, rfl⟩
abbrev main_call1_c : Ref sig .tc := ⟨.hbm, 68, rfl⟩
abbrev main_call1_v0 : Ref sig .tc := ⟨.hbm, 69, rfl⟩
abbrev main_call1_v1 : Ref sig .tc := ⟨.hbm, 70, rfl⟩
abbrev main_call1_v2 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49_0 : Ref sig .tc := ⟨.hbm, 82, rfl⟩
abbrev main_v49_1 : Ref sig .tc := ⟨.hbm, 83, rfl⟩
abbrev main_v50 : Ref sig .tc := ⟨.hbm, 84, rfl⟩
abbrev main_c_9 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_call2_v0 : Ref sig .tc := ⟨.hbm, 91, rfl⟩
abbrev main_v56 : Ref sig .tc := ⟨.hbm, 92, rfl⟩
abbrev main_v57 : Ref sig .tc := ⟨.hbm, 93, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x8x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x384 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x8x384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== CmpSRefIdeal.lean ====
abbrev S32x8x64 : Shape := ⟨3, ![32, 8, 64]⟩
abbrev S32x1024x256 : Shape := ⟨3, ![32, 1024, 256]⟩
abbrev S8x1024 : Shape := ⟨2, ![8, 1024]⟩
abbrev S32x2x4x64 : Shape := ⟨4, ![32, 2, 4, 64]⟩
abbrev S32x1023x256 : Shape := ⟨3, ![32, 1023, 256]⟩
abbrev S32x1023x128 : Shape := ⟨3, ![32, 1023, 128]⟩
abbrev S32x1023x2x64 : Shape := ⟨4, ![32, 1023, 2, 64]⟩
abbrev S1023 : Shape := ⟨1, ![1023]⟩
abbrev S_ : Shape := ⟨0, ![]⟩
abbrev S32x2x4x1023 : Shape := ⟨4, ![32, 2, 4, 1023]⟩
abbrev S8x1023 : Shape := ⟨2, ![8, 1023]⟩
abbrev S1x2x4x1023 : Shape := ⟨4, ![1, 2, 4, 1023]⟩
abbrev S1x1x1x1023 : Shape := ⟨4, ![1, 1, 1, 1023]⟩
abbrev S32x2x4 : Shape := ⟨3, ![32, 2, 4]⟩
abbrev S32x2x4x1 : Shape := ⟨4, ![32, 2, 4, 1]⟩
abbrev S1023x1 : Shape := ⟨2, ![1023, 1]⟩
abbrev S257 : Shape := ⟨1, ![257]⟩
abbrev S1x257 : Shape := ⟨2, ![1, 257]⟩
abbrev S1023x257 : Shape := ⟨2, ![1023, 257]⟩
abbrev S32x2x1023 : Shape := ⟨3, ![32, 2, 1023]⟩
abbrev S32x2x257 : Shape := ⟨3, ![32, 2, 257]⟩

abbrev nBuf : Space → Nat
  | .hbm => 88
  | .vmem => 0
  | .smem => 0
  | _ => 0

abbrev bufTy : (tb : Table) → Fin (tcTables nBuf tb) → BufTy
  | .hbm, ⟨0, _⟩ => ⟨S32x8x64, .f32⟩
  | .hbm, ⟨1, _⟩ => ⟨S32x1024x256, .bf16⟩
  | .hbm, ⟨2, _⟩ => ⟨S8x1024, .f32⟩
  | .hbm, ⟨3, _⟩ => ⟨S32x2x4x64, .f32⟩
  | .hbm, ⟨4, _⟩ => ⟨S32x1023x256, .bf16⟩
  | .hbm, ⟨5, _⟩ => ⟨S32x1023x256, .f32⟩
  | .hbm, ⟨6, _⟩ => ⟨S32x1023x128, .f32⟩
  | .hbm, ⟨7, _⟩ => ⟨S32x1023x2x64, .f32⟩
  | .hbm, ⟨8, _⟩ => ⟨S32x1023x128, .f32⟩
  | .hbm, ⟨9, _⟩ => ⟨S32x1023x2x64, .f32⟩
  | .hbm, ⟨10, _⟩ => ⟨S1023, .i32⟩
  | .hbm, ⟨11, _⟩ => ⟨S_, .i32⟩
  | .hbm, ⟨12, _⟩ => ⟨S1023, .i32⟩
  | .hbm, ⟨13, _⟩ => ⟨S1023, .i32⟩
  | .hbm, ⟨14, _⟩ => ⟨S_, .i32⟩
  | .hbm, ⟨15, _⟩ => ⟨S1023, .i32⟩
  | .hbm, ⟨16, _⟩ => ⟨S1023, .i32⟩
  | .hbm, ⟨17, _⟩ => ⟨S_, .i32⟩
  | .hbm, ⟨18, _⟩ => ⟨S1023, .i32⟩
  | .hbm, ⟨19, _⟩ => ⟨S1023, .i32⟩
  | .hbm, ⟨20, _⟩ => ⟨S32x2x4x1023, .f32⟩
  | .hbm, ⟨21, _⟩ => ⟨S8x1023, .f32⟩
  | .hbm, ⟨22, _⟩ => ⟨S1x2x4x1023, .f32⟩
  | .hbm, ⟨23, _⟩ => ⟨S32x2x4x1023, .f32⟩
  | .hbm, ⟨24, _⟩ => ⟨S32x2x4x1023, .f32⟩
  | .hbm, ⟨25, _⟩ => ⟨S_, .i32⟩
  | .hbm, ⟨26, _⟩ => ⟨S1023, .i32⟩
  | .hbm, ⟨27, _⟩ => ⟨S1023, .i1⟩
  | .hbm, ⟨28, _⟩ => ⟨S1x1x1x1023, .i1⟩
  | .hbm, ⟨29, _⟩ => ⟨S_, .f32⟩
  | .hbm, ⟨30, _⟩ => ⟨S_, .f32⟩
  | .hbm, ⟨31, _⟩ => ⟨S32x2x4x1023, .i1⟩
  | .hbm, ⟨32, _⟩ => ⟨S32x2x4x1023, .f32⟩
  | .hbm, ⟨33, _⟩ => ⟨S32x2x4x1023, .f32⟩
  | .hbm, ⟨34, _⟩ => ⟨S_, .f32⟩
  | .hbm, ⟨35, _⟩ => ⟨S32x2x4, .f32⟩
  | .hbm, ⟨36, _⟩ => ⟨S_, .f32⟩
  | .hbm, ⟨37, _⟩ => ⟨S32x2x4, .f32⟩
  | .hbm, ⟨38, _⟩ => ⟨S32x2x4, .f32⟩
  | .hbm, ⟨39, _⟩ => ⟨S32x2x4x1, .f32⟩
  | .hbm, ⟨40, _⟩ => ⟨S32x2x4x1023, .f32⟩
  | .hbm, ⟨41, _⟩ => ⟨S32x2x4x1023, .f32⟩
  | .hbm, ⟨42, _⟩ => ⟨S32x2x4x1023, .f32⟩
  | .hbm, ⟨43, _⟩ => ⟨S_, .f32⟩
  | .hbm, ⟨44, _⟩ => ⟨S32x2x4, .f32⟩
  | .hbm, ⟨45, _⟩ => ⟨S32x2x4x1, .f32⟩
  | .hbm, ⟨46, _⟩ => ⟨S32x2x4x1023, .f32⟩
  | .hbm, ⟨47, _⟩ => ⟨S32x2x4x1023, .f32⟩
  | .hbm, ⟨48, _⟩ => ⟨S_, .f32⟩
  | .hbm, ⟨49, _⟩ => ⟨S_, .f32⟩
  | .hbm, ⟨50, _⟩ => ⟨S32x2x4x1023, .i1⟩
  | .hbm, ⟨51, _⟩ => ⟨S32x2x4x1023, .f32⟩
  | .hbm, ⟨52, _⟩ => ⟨S32x2x4x1023, .f32⟩
  | .hbm, ⟨53, _⟩ => ⟨S32x2x4x64, .f32⟩
  | .hbm, ⟨54, _⟩ => ⟨S1023, .i32⟩
  | .hbm, ⟨55, _⟩ => ⟨S1023x1, .i32⟩
  | .hbm, ⟨56, _⟩ => ⟨S_, .i32⟩
  | .hbm, ⟨57, _⟩ => ⟨S1023x1, .i32⟩
  | .hbm, ⟨58, _⟩ => ⟨S1023x1, .i32⟩
  | .hbm, ⟨59, _⟩ => ⟨S257, .i32⟩
  | .hbm, ⟨60, _⟩ => ⟨S1x257, .i32⟩
  | .hbm, ⟨61, _⟩ => ⟨S_, .i32⟩
  | .hbm, ⟨62, _⟩ => ⟨S1x257, .i32⟩
  | .hbm, ⟨63, _⟩ => ⟨S1x257, .i32⟩
  | .hbm, ⟨64, _⟩ => ⟨S_, .i32⟩
  | .hbm, ⟨65, _⟩ => ⟨S1x257, .i32⟩
  | .hbm, ⟨66, _⟩ => ⟨S1x257, .i32⟩
  | .hbm, ⟨67, _⟩ => ⟨S_, .i32⟩
  | .hbm, ⟨68, _⟩ => ⟨S1x257, .i32⟩
  | .hbm, ⟨69, _⟩ => ⟨S1x257, .i32⟩
  | .hbm, ⟨70, _⟩ => ⟨S1023x257, .i32⟩
  | .hbm, ⟨71, _⟩ => ⟨S1023x257, .i32⟩
  | .hbm, ⟨72, _⟩ => ⟨S1023x257, .i1⟩
  | .hbm, ⟨73, _⟩ => ⟨S_, .i32⟩
  | .hbm, ⟨74, _⟩ => ⟨S1023x1, .i32⟩
  | .hbm, ⟨75, _⟩ => ⟨S1023x1, .i32⟩
  | .hbm, ⟨76, _⟩ => ⟨S_, .i32⟩
  | .hbm, ⟨77, _⟩ => ⟨S1023x1, .i32⟩
  | .hbm, ⟨78, _⟩ => ⟨S1023x1, .i32⟩
  | .hbm, ⟨79, _⟩ => ⟨S1023x257, .i32⟩
  | .hbm, ⟨80, _⟩ => ⟨S1023x257, .i32⟩
  | .hbm, ⟨81, _⟩ => ⟨S1023x257, .i1⟩
  | .hbm, ⟨82, _⟩ => ⟨S1023x257, .i1⟩
  | .hbm, ⟨83, _⟩ => ⟨S1023x257, .f32⟩
  | .hbm, ⟨84, _⟩ => ⟨S_, .f32⟩
  | .hbm, ⟨85, _⟩ => ⟨S32x2x1023, .f32⟩
  | .hbm, ⟨86, _⟩ => ⟨S32x2x257, .f32⟩
  | .hbm, ⟨87, _⟩ => ⟨S32x8x64, .f32⟩
  | _, _ => ⟨S32x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_c : Ref sig .tc := ⟨.hbm, 11, rfl⟩
abbrev main_v8 : Ref sig .tc := ⟨.hbm, 12, rfl⟩
abbrev main_v9 : Ref sig .tc := ⟨.hbm, 13, rfl⟩
abbrev main_c_0 : Ref sig .tc := ⟨.hbm, 14, rfl⟩
abbrev main_v10 : Ref sig .tc := ⟨.hbm, 15, rfl⟩
abbrev main_v11 : Ref sig .tc := ⟨.hbm, 16, rfl⟩
abbrev main_c_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_c_2 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst : Ref sig .tc := ⟨.hbm, 29, rfl⟩
abbrev main_call0_v0 : Ref sig .tc := ⟨.hbm, 30, rfl⟩
abbrev main_call0_v1 : Ref sig .tc := ⟨.hbm, 31, rfl⟩
abbrev main_call0_v2 : Ref sig .tc := ⟨.hbm, 32, rfl⟩
abbrev main_v22 : Ref sig .tc := ⟨.hbm, 33, rfl⟩
abbrev main_cst_3 : Ref sig .tc := ⟨.hbm, 34, rfl⟩
abbrev main_v23 : Ref sig .tc := ⟨.hbm, 35, rfl⟩
abbrev main_cst_4 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_5 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_6 : Ref sig .tc := ⟨.hbm, 48, rfl⟩
abbrev main_call1_v0 : Ref sig .tc := ⟨.hbm, 49, rfl⟩
abbrev main_call1_v1 : Ref sig .tc := ⟨.hbm, 50, rfl⟩
abbrev main_call1_v2 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_c_7 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_c_8 : Ref sig .tc := ⟨.hbm, 61, rfl⟩
abbrev main_v42 : Ref sig .tc := ⟨.hbm, 62, rfl⟩
abbrev main_v43 : Ref sig .tc := ⟨.hbm, 63, rfl⟩
abbrev main_c_9 : Ref sig .tc := ⟨.hbm, 64, rfl⟩
abbrev main_v44 : Ref sig .tc := ⟨.hbm, 65, rfl⟩
abbrev main_v45 : Ref sig .tc := ⟨.hbm, 66, rfl⟩
abbrev main_c_10 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_c_11 : Ref sig .tc := ⟨.hbm, 73, rfl⟩
abbrev main_v51 : Ref sig .tc := ⟨.hbm, 74, rfl⟩
abbrev main_v52 : Ref sig .tc := ⟨.hbm, 75, rfl⟩
abbrev main_c_12 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_cst_13 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩

abbrev nD : Nat := 1
abbrev τ : Topo := Topo.v7x

variable {F : FTy → Type} [FloatOps F]
-- ==== Proof.Rows.lean ====
/- Row functions over the extended reals: what the layer's row-wise stages do to one row, for any row length. -/
module

public import Idealize.ShloMosaic.PureOps.Ideal

@[expose] public section

noncomputable section

namespace Cert.Rows

open Idealize.ShloMosaic
open scoped BigOperators

/-- A row times a matrix. -/
def dot {k n : Nat} (x : Fin k → EReal) (w : Fin k → Fin n → EReal) (j : Fin n) : EReal := ∑ i : Fin k, x i * w i j

/-- The mean square of a row plus the small constant, as a reciprocal root; `n` is the literal for the row's length. -/
def rinv {d : Nat} (n : EReal) (x : Fin d → EReal) : EReal :=
  Ideal.rsqrt (Ideal.div (∑ k : Fin d, x k * x k) n + Ideal.ofBits .f32 0x358637BD#32)

/-- A row normalised by its root mean square and scaled by a gain. -/
def rms {d : Nat} (n : EReal) (g x : Fin d → EReal) (j : Fin d) : EReal := x j * rinv n x * g j

/-- The logistic function. -/
def sigm (x : EReal) : EReal := Ideal.div 1 (1 + Ideal.exp (-x))

/-- A literal for a row length of 1024. -/
def c1024 : EReal := Ideal.ofBits .f32 0x44800000#32

/-- The gated feed-forward product of a normalised row. -/
def ffn {d f : Nat} (wg wu : Fin d → Fin f → EReal) (wd : Fin f → Fin d → EReal) (h : Fin d → EReal) : Fin d → EReal :=
  dot (fun k => dot h wg k * sigm (dot h wg k) * dot h wu k) wd

/-- The residual row after the feed-forward stage. -/
def ffnRes (g1 g2 : Fin 1024 → EReal) (wg wu : Fin 1024 → Fin 2816 → EReal) (wd : Fin 2816 → Fin 1024 → EReal)
    (x : Fin 1024 → EReal) (j : Fin 1024) : EReal :=
  x j + rms c1024 g2 (ffn wg wu wd (rms c1024 g1 x)) j

/-- The residual row after the per-layer embedding stage. -/
def pleRes (g3 : Fin 1024 → EReal) (wp : Fin 256 → Fin 1024 → EReal) (wpg : Fin 1024 → Fin 1024 → EReal) (p : Fin 256 → EReal)
    (x : Fin 1024 → EReal) (j : Fin 1024) : EReal :=
  x j + rms c1024 g3 (fun k => sigm (dot x wpg k) * dot p wp k) j

end Cert.Rows

end
-- ==== Proof.FfnPay.lean ====
/- The feed-forward kernel's payloads read at an index, as row functions. -/
module

public import proofs.«01_k».proof.Proof.Gen.FfnIdeal.Frame
public import proofs.«01_k».proof.Proof.Rows
public import Idealize.ShloMosaic.Lib.Pointwise

@[expose] public section

set_option maxRecDepth 16384

noncomputable section

namespace Cert.FfnPay

open Cert.FfnIdeal Cert.FfnIdeal.Gen Cert.Rows Idealize.ShloMosaic
open scoped BigOperators

theorem pay3_at (v0 : Vec Ideal S256x256 .f32) (v3 : Vec Ideal S256x1024 .bf16) (r : Fin 256) (c : Fin 1024) :
    k0_pay3 v0 v3 (ix2 r c) = dot (fun k => v0 (ix2 r k)) (fun k j => v3 (ix2 k j)) c := by
  pointwise [k0_pay3]
  rfl

theorem pay4_at (v0 : Vec Ideal S256x256 .f32) (v3 : Vec Ideal S256x1024 .bf16) (r : Fin 256) (c : Fin 1024) :
    k0_pay4 v0 v3 (ix2 r c) = dot (fun k => v0 (ix2 r k)) (fun k j => v3 (ix2 k j)) c := by
  pointwise [k0_pay4]
  rfl

theorem pay5_at (v12 : Vec Ideal S256x1024 .f32) (v14 : Vec Ideal S1x1024 .f32) (r : Fin 256) (c : Fin 1024) :
    k0_pay5 v12 v14 (ix2 r c) = rms c1024 (fun k => v14 (ix2 0 k)) (fun k => v12 (ix2 r k)) c := by
  pointwise [k0_pay5]
  rfl

theorem pay8_at (v28 : FVec Ideal S256x1024 .bf16) (v44 v47 : Vec Ideal S1024x2816 .bf16) (v60 : Vec Ideal S2816x1024 .bf16) (r : Fin 256) (c : Fin 1024) :
    k0_pay8 v28 v44 v47 v60 (ix2 r c) = ffn (fun k j => v44 (ix2 k j)) (fun k j => v47 (ix2 k j)) (fun k j => v60 (ix2 k j)) (fun k => v28 (ix2 r k)) c := by
  pointwise [k0_pay8]
  rfl

/-- The second half's feed-forward product, normalisation included. -/
theorem pay9_at (x : Vec Ideal S256x1024 .f32) (g : Vec Ideal S1x1024 .f32) (v44 v47 : Vec Ideal S1024x2816 .bf16) (v60 : Vec Ideal S2816x1024 .bf16) (r : Fin 256) (c : Fin 1024) :
    k0_pay9 x (k0_pay6 g) (k0_pay7 x) v44 v47 v60 (ix2 r c)
      = ffn (fun k j => v44 (ix2 k j)) (fun k j => v47 (ix2 k j)) (fun k j => v60 (ix2 k j)) (rms c1024 (fun k => g (ix2 0 k)) (fun k => x (ix2 r k))) c := by
  pointwise [k0_pay9, k0_pay6, k0_pay7]
  rfl

theorem pay12_at (x : Vec Ideal S256x1024 .f32) (h : FVec Ideal S256x1024 .bf16) (wg wu : Vec Ideal S1024x2816 .bf16) (wd : Vec Ideal S2816x1024 .bf16)
    (g : Vec Ideal S1x1024 .f32) (r : Fin 256) (c : Fin 1024) :
    k0_pay12 x (k0_pay8 h wg wu wd) (k0_pay10 g) (k0_pay11 h wg wu wd) (ix2 r c)
      = x (ix2 r c) + rms c1024 (fun k => g (ix2 0 k)) (fun k => k0_pay8 h wg wu wd (ix2 r k)) c := by
  pointwise [k0_pay12, k0_pay10, k0_pay11]
  rfl

theorem pay13_at (x y : Vec Ideal S256x1024 .f32) (g : Vec Ideal S1x1024 .f32) (r : Fin 256) (c : Fin 1024) :
    k0_pay13 x y g (ix2 r c) = x (ix2 r c) + rms c1024 (fun k => g (ix2 0 k)) (fun k => y (ix2 r k)) c := by
  pointwise [k0_pay13]
  rfl

theorem pay14_at (x y : Vec Ideal S256x1024 .f32) (g : Vec Ideal S1x1024 .f32) (w : Vec Ideal S1024x1024 .bf16) (r : Fin 256) (c : Fin 1024) :
    k0_pay14 x y g w (ix2 r c) = sigm (dot (fun k => k0_pay13 x y g (ix2 r k)) (fun k j => w (ix2 k j)) c) := by
  pointwise [k0_pay14]
  rfl

theorem pay15_at (p x y : Vec Ideal S256x1024 .f32) (g : FVec Ideal S1x1024 .f32) (s : FVec Ideal S256 .f32) (w : Vec Ideal S1024x1024 .bf16) (r : Fin 256) (c : Fin 1024) :
    k0_pay15 p x y g s w (ix2 r c) = sigm (dot (fun k => k0_pay12 x y g s (ix2 r k)) (fun k j => w (ix2 k j)) c) * p (ix2 r c) := by
  pointwise [k0_pay15]
  rfl

theorem pay1_at (a p x y : Vec Ideal S256x1024 .f32) (g : FVec Ideal S1x1024 .f32) (s : FVec Ideal S256 .f32) (w : Vec Ideal S1024x1024 .bf16)
    (g3 : Vec Ideal S1x1024 .f32) (r : Fin 256) (c : Fin 1024) :
    k0_pay1 a (k0_pay15 p x y g s w) (k0_pay16 g3) (k0_pay17 p x y g s w) k0_pay18 (ix2 r c)
      = a (ix2 r c) + rms c1024 (fun k => g3 (ix2 0 k)) (fun k => k0_pay15 p x y g s w (ix2 r k)) c := by
  pointwise [k0_pay1, k0_pay16, k0_pay17, k0_pay18]
  rfl

theorem pay2_at (p a y : Vec Ideal S256x1024 .f32) (g : Vec Ideal S1x1024 .f32) (r : Fin 256) (c : Fin 1024) :
    k0_pay2 p a y g (ix2 r c) = a (ix2 r c) + rms c1024 (fun k => g (ix2 0 k)) (fun k => y (ix2 r k) * p (ix2 r k)) c := by
  pointwise [k0_pay2]
  rfl

/-- The first half's stored block. -/
theorem piece0 (x : Vec Ideal S256x1024 .f32) (p : Vec Ideal S256x256 .f32) (g1 g2 g3 : Vec Ideal S1x1024 .f32) (wg wu : Vec Ideal S1024x2816 .bf16)
    (wd : Vec Ideal S2816x1024 .bf16) (wp : Vec Ideal S256x1024 .bf16) (wpg : Vec Ideal S1024x1024 .bf16) (r : Fin 256) (c : Fin 1024) :
    k0_pay1 (k0_pay12 x (k0_pay8 (k0_pay5 x g1) wg wu wd) (k0_pay10 g2) (k0_pay11 (k0_pay5 x g1) wg wu wd))
      (k0_pay15 (k0_pay3 p wp) x (k0_pay8 (k0_pay5 x g1) wg wu wd) (k0_pay10 g2) (k0_pay11 (k0_pay5 x g1) wg wu wd) wpg) (k0_pay16 g3)
      (k0_pay17 (k0_pay3 p wp) x (k0_pay8 (k0_pay5 x g1) wg wu wd) (k0_pay10 g2) (k0_pay11 (k0_pay5 x g1) wg wu wd) wpg) k0_pay18 (ix2 r c)
      = pleRes (fun k => g3 (ix2 0 k)) (fun k j => wp (ix2 k j)) (fun k j => wpg (ix2 k j)) (fun k => p (ix2 r k))
          (ffnRes (fun k => g1 (ix2 0 k)) (fun k => g2 (ix2 0 k)) (fun k j => wg (ix2 k j)) (fun k j => wu (ix2 k j)) (fun k j => wd (ix2 k j))
            (fun k => x (ix2 r k))) c := by
  rw [pay1_at]
  simp only [pay15_at, pay12_at, pay8_at, pay5_at, pay3_at]
  rfl

/-- The second half's stored block. -/
theorem piece1 (x : Vec Ideal S256x1024 .f32) (p : Vec Ideal S256x256 .f32) (g1 g2 g3 : Vec Ideal S1x1024 .f32) (wg wu : Vec Ideal S1024x2816 .bf16)
    (wd : Vec Ideal S2816x1024 .bf16) (wp : Vec Ideal S256x1024 .bf16) (wpg : Vec Ideal S1024x1024 .bf16) (r : Fin 256) (c : Fin 1024) :
    k0_pay2 (k0_pay4 p wp) (k0_pay13 x (k0_pay9 x (k0_pay6 g1) (k0_pay7 x) wg wu wd) g2)
      (k0_pay14 x (k0_pay9 x (k0_pay6 g1) (k0_pay7 x) wg wu wd) g2 wpg) g3 (ix2 r c)
      = pleRes (fun k => g3 (ix2 0 k)) (fun k j => wp (ix2 k j)) (fun k j => wpg (ix2 k j)) (fun k => p (ix2 r k))
          (ffnRes (fun k => g1 (ix2 0 k)) (fun k => g2 (ix2 0 k)) (fun k j => wg (ix2 k j)) (fun k j => wu (ix2 k j)) (fun k j => wd (ix2 k j))
            (fun k => x (ix2 r k))) c := by
  rw [pay2_at]
  simp only [pay14_at, pay13_at, pay9_at, pay4_at]
  rfl

end Cert.FfnPay

end
-- ==== Proof.FfnValue.lean ====
/- The feed-forward kernel's result array as row functions of its arguments. -/
module

public import proofs.«01_k».proof.Proof.Gen.FfnIdeal.Value
public import proofs.«01_k».proof.Proof.FfnPay
public import Idealize.ShloMosaic.Lib.Pipeline.ValueKit
public import Idealize.ShloMosaic.Lib.Pointwise
public import Idealize.ShloMosaic.Lib.Claim

@[expose] public section

set_option maxRecDepth 16384

noncomputable section

namespace Cert.FfnVal

open Cert.FfnIdeal Cert.FfnIdeal.Gen Cert.Rows Idealize.ShloMosaic Idealize.ShloMosaic.TcCoe
open scoped BigOperators

/-- Row `r` of the result, from the argument arrays. -/
def rowG (x : Vec Ideal S32768x1024 .f32) (p : Vec Ideal S1x4x8192x256 .f32) (g1 : Vec Ideal S1x1024 .f32) (wg wu : Vec Ideal S1x1024x2816 .f32)
    (wd : Vec Ideal S1x2816x1024 .f32) (g2 : Vec Ideal S1x1024 .f32) (wp : Vec Ideal S1x256x1024 .f32) (wpg : Vec Ideal S1x1024x1024 .f32)
    (g3 : Vec Ideal S1x1024 .f32) (r : Fin 32768) : Fin 1024 → EReal :=
  pleRes (fun k => g3 (ix2 0 k)) (fun k j => wp (ix3 0 k j)) (fun k j => wpg (ix3 0 k j))
    (fun k => p (ix4 0 ⟨r.val / 8192, by omega⟩ ⟨r.val % 8192, by omega⟩ k))
    (ffnRes (fun k => g1 (ix2 0 k)) (fun k => g2 (ix2 0 k)) (fun k j => wg (ix3 0 k j)) (fun k j => wu (ix3 0 k j)) (fun k j => wd (ix3 0 k j))
      (fun k => x (ix2 r k)))

/-- The result array. -/
def G (x : Vec Ideal S32768x1024 .f32) (p : Vec Ideal S1x4x8192x256 .f32) (g1 : Vec Ideal S1x1024 .f32) (wg wu : Vec Ideal S1x1024x2816 .f32)
    (wd : Vec Ideal S1x2816x1024 .f32) (g2 : Vec Ideal S1x1024 .f32) (wp : Vec Ideal S1x256x1024 .f32) (wpg : Vec Ideal S1x1024x1024 .f32)
    (g3 : Vec Ideal S1x1024 .f32) : Vec Ideal S32768x1024 .f32 :=
  fun i => rowG x p g1 wg wu wd g2 wp wpg g3 (i 0) (i 1)

/-- The row functions of equal rows are equal. -/
theorem row_congr (g1 g2 g3 : Fin 1024 → EReal) (wg wu : Fin 1024 → Fin 2816 → EReal) (wd : Fin 2816 → Fin 1024 → EReal) (wp : Fin 256 → Fin 1024 → EReal)
    (wpg : Fin 1024 → Fin 1024 → EReal) {x x' : Fin 1024 → EReal} {p p' : Fin 256 → EReal} {b b' : Fin 1024} (hx : x = x') (hp : p = p') (hb : b = b') :
    pleRes g3 wp wpg p (ffnRes g1 g2 wg wu wd x) b = pleRes g3 wp wpg p' (ffnRes g1 g2 wg wu wd x') b' := by
  subst hx hp hb; rfl

/-- The block a point leaves, at an index: the row functions of the point's input blocks. -/
theorem out_at (x0 : Vec Ideal S512x1024 .f32) (x1 : Vec Ideal S512x256 .f32) (x2 : Vec Ideal S1x1024 .f32) (x3 x4 : Vec Ideal S1024x2816 .bf16)
    (x5 : Vec Ideal S2816x1024 .bf16) (x6 : Vec Ideal S1x1024 .f32) (x7 : Vec Ideal S256x1024 .bf16) (x8 : Vec Ideal S1024x1024 .bf16)
    (x9 : Vec Ideal S1x1024 .f32) (ya : Fin 512) (yb : Fin 1024) :
    out0_10 x0 x1 x2 x3 x4 x5 x6 x7 x8 x9 (ix2 ya yb)
      = pleRes (fun k => x9 (ix2 0 k)) (fun k j => x7 (ix2 k j)) (fun k j => x8 (ix2 k j)) (fun k => x1 (ix2 ya k))
          (ffnRes (fun k => x2 (ix2 0 k)) (fun k => x6 (ix2 0 k)) (fun k j => x3 (ix2 k j)) (fun k j => x4 (ix2 k j)) (fun k j => x5 (ix2 k j))
            (fun k => x0 (ix2 ya k))) yb := by
  obtain ⟨y, hy⟩ : ∃ y, y = (ix2 ya yb : S512x1024.Idx) := ⟨_, rfl⟩
  have hya : (y 0).val = ya.val := by rw [hy]; rfl
  have hyb : (y 1).val = yb.val := by rw [hy]; rfl
  rw [← hy]
  unfold_out out0_10
  simp (disch := decide) only [View.ld_unit_lit]
  canon_tiles x h
  · obtain ⟨a, b, rfl⟩ : ∃ a b, x = ix2 a b := ⟨x 0, x 1, eq_ix2 x⟩
    have e1 : yb = b := Fin.ext (hyb.symm.trans h1)
    have h0 : ya.val = 256 + a.val := hya.symm.trans h0
    have ex : ∀ k, View.ld x0 r0_4 (ix2 a k) = x0 (ix2 ya k) := fun k =>
      View.ld_unit_apply_of _ _ _ _ _ _ (by intro q; fin_cases q <;> simp at x0_lt ⊢ <;> omega)
    have ep : ∀ k, View.ld x1 r0_2 (ix2 a k) = x1 (ix2 ya k) := fun k =>
      View.ld_unit_apply_of _ _ _ _ _ _ (by intro q; fin_cases q <;> simp at x0_lt ⊢ <;> omega)
    exact (FfnPay.piece1 _ _ _ _ _ _ _ _ _ _ a b).trans (row_congr _ _ _ _ _ _ _ _ (funext ex) (funext ep) e1.symm)
  · obtain ⟨a, b, rfl⟩ : ∃ a b, x = ix2 a b := ⟨x 0, x 1, eq_ix2 x⟩
    have e1 : yb = b := Fin.ext (hyb.symm.trans h1)
    have h0 : ya.val = a.val := hya.symm.trans h0
    have ex : ∀ k, View.ld x0 r0_3 (ix2 a k) = x0 (ix2 ya k) := fun k =>
      View.ld_unit_apply_of _ _ _ _ _ _ (by intro q; fin_cases q <;> simp at x0_lt ⊢ <;> omega)
    have ep : ∀ k, View.ld x1 r0_0 (ix2 a k) = x1 (ix2 ya k) := fun k =>
      View.ld_unit_apply_of _ _ _ _ _ _ (by intro q; fin_cases q <;> simp at x0_lt ⊢ <;> omega)
    exact (FfnPay.piece0 _ _ _ _ _ _ _ _ _ _ a b).trans (row_congr _ _ _ _ _ _ _ _ (funext ex) (funext ep) e1.symm)

variable (m : (ℓ : Loc nD τ sig) → Buf (Elt Ideal) ℓ)

/-- The result array of a core's arguments. -/
def Gm (c : Dev nD) : Vec Ideal S32768x1024 .f32 :=
  G (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9))

theorem idx : ∀ t : Fin grid0.N, win0_0.index t = ![t.val, 0] ∧ win0_1.index t = ![t.val, 0] ∧ win0_10.index t = ![t.val, 0] := by
  decide +kernel

theorem idxw : ∀ t : Fin grid0.N, win0_2.index t = ![0, 0] ∧ win0_3.index t = ![0, 0] ∧ win0_4.index t = ![0, 0] ∧ win0_5.index t = ![0, 0]
    ∧ win0_6.index t = ![0, 0] ∧ win0_7.index t = ![0, 0] ∧ win0_8.index t = ![0, 0] ∧ win0_9.index t = ![0, 0] := by
  decide +kernel

theorem blk0 (c : Dev nD) (t : Fin grid0.N) (a : Fin 512) (r : Fin 32768) (h : r.val = 512 * t.val + a.val) (k : Fin 1024) :
    iblk m c 0 t (ix2 a k) = m ((c : Thread nD τ).loc main_arg0) (ix2 r k) := by
  blk_ext! [iblk, V, (idx t).1]

theorem blk1 (c : Dev nD) (t : Fin grid0.N) (a : Fin 512) (r : Fin 32768) (h : r.val = 512 * t.val + a.val) (k : Fin 256) :
    iblk m c 1 t (ix2 a k) = m ((c : Thread nD τ).loc main_arg1) (ix4 0 ⟨r.val / 8192, by omega⟩ ⟨r.val % 8192, by omega⟩ k) := by
  blk_ext! [iblk, V, (idx t).2.1]

theorem blk2 (c : Dev nD) (t : Fin grid0.N) (k : Fin 1024) : iblk m c 2 t (ix2 0 k) = m ((c : Thread nD τ).loc main_arg2) (ix2 0 k) := by
  blk_ext! [iblk, V, (idxw t).1]

theorem blk3 (c : Dev nD) (t : Fin grid0.N) (a : Fin 1024) (k : Fin 2816) : iblk m c 3 t (ix2 a k) = m ((c : Thread nD τ).loc main_arg3) (ix3 0 a k) := by
  blk_ext! [iblk, V, (idxw t).2.1]

theorem blk4 (c : Dev nD) (t : Fin grid0.N) (a : Fin 1024) (k : Fin 2816) : iblk m c 4 t (ix2 a k) = m ((c : Thread nD τ).loc main_arg4) (ix3 0 a k) := by
  blk_ext! [iblk, V, (idxw t).2.2.1]

theorem blk5 (c : Dev nD) (t : Fin grid0.N) (a : Fin 2816) (k : Fin 1024) : iblk m c 5 t (ix2 a k) = m ((c : Thread nD τ).loc main_arg5) (ix3 0 a k) := by
  blk_ext! [iblk, V, (idxw t).2.2.2.1]

theorem blk6 (c : Dev nD) (t : Fin grid0.N) (k : Fin 1024) : iblk m c 6 t (ix2 0 k) = m ((c : Thread nD τ).loc main_arg6) (ix2 0 k) := by
  blk_ext! [iblk, V, (idxw t).2.2.2.2.1]

theorem blk7 (c : Dev nD) (t : Fin grid0.N) (a : Fin 256) (k : Fin 1024) : iblk m c 7 t (ix2 a k) = m ((c : Thread nD τ).loc main_arg7) (ix3 0 a k) := by
  blk_ext! [iblk, V, (idxw t).2.2.2.2.2.1]

theorem blk8 (c : Dev nD) (t : Fin grid0.N) (a k : Fin 1024) : iblk m c 8 t (ix2 a k) = m ((c : Thread nD τ).loc main_arg8) (ix3 0 a k) := by
  blk_ext! [iblk, V, (idxw t).2.2.2.2.2.2.1]

theorem blk9 (c : Dev nD) (t : Fin grid0.N) (k : Fin 1024) : iblk m c 9 t (ix2 0 k) = m ((c : Thread nD τ).loc main_arg9) (ix2 0 k) := by
  blk_ext! [iblk, V, (idxw t).2.2.2.2.2.2.2]

/-- The kernel's result array after the run. -/
theorem arr (c : Dev nD) : (dats m 0 c).arrAt 10 cfg0.N = Gm m c := by
  refine (dats m 0 c).arrAt_eq_of_covers 10 _ (by decide +kernel) fun t hf y => ?_
  blk_simp
  rw [after0_10]
  have ht : t.val < 64 := t.isLt
  obtain ⟨a, b, rfl⟩ : ∃ (a : Fin 512) (b : Fin 1024), y = ix2 a b := ⟨y 0, y 1, eq_ix2 y⟩
  have hr : 512 * t.val + a.val < 32768 := by omega
  have e0 : (win0_10.blk t).view.emb (ix2 a b) = ix2 (⟨512 * t.val + a.val, hr⟩ : Fin 32768) b := by
    blk_ext [(idx t).2.2]
  refine (out_at _ _ _ _ _ _ _ _ _ _ a b).trans (Eq.trans ?_ (congrArg (Gm m c) e0).symm)
  simp only [Gm, G, rowG, blk2, blk3, blk4, blk5, blk6, blk7, blk8, blk9, blk0 m c t a ⟨512 * t.val + a.val, hr⟩ rfl,
    blk1 m c t a ⟨512 * t.val + a.val, hr⟩ rfl, ix2_0, ix2_1]

end Cert.FfnVal

end
-- ==== Proof.FfnRefRead.lean ====
/- The feed-forward reference's result read as the same row functions. -/
module

public import proofs.«01_k».proof.Proof.Gen.FfnRefIdeal.Read
public import proofs.«01_k».proof.Proof.FfnValue
public import Idealize.ShloMosaic.Lib.Pointwise

@[expose] public section

set_option maxRecDepth 16384

noncomputable section

namespace Cert.FfnRef

open Cert.FfnRefIdeal Cert.FfnRefIdeal.Read Cert.Rows Idealize.ShloMosaic Idealize.ShloMosaic.TcCoe
open scoped BigOperators

variable (x0 : (⟨S32768x1024, .f32⟩ : BufTy).Contents (Elt Ideal)) (x1 : (⟨S1x4x8192x256, .f32⟩ : BufTy).Contents (Elt Ideal))
  (x2 : (⟨S1x1024, .f32⟩ : BufTy).Contents (Elt Ideal)) (x3 x4 : (⟨S1x1024x2816, .f32⟩ : BufTy).Contents (Elt Ideal))
  (x5 : (⟨S1x2816x1024, .f32⟩ : BufTy).Contents (Elt Ideal)) (x6 : (⟨S1x1024, .f32⟩ : BufTy).Contents (Elt Ideal))
  (x7 : (⟨S1x256x1024, .f32⟩ : BufTy).Contents (Elt Ideal)) (x8 : (⟨S1x1024x1024, .f32⟩ : BufTy).Contents (Elt Ideal))
  (x9 : (⟨S1x1024, .f32⟩ : BufTy).Contents (Elt Ideal))

theorem v15_at (r : Fin 32768) (c : Fin 1024) : val_main_v15 (F := Ideal) x0 x2 (ix2 r c) = rms c1024 (fun k => x2 (ix2 0 k)) (fun k => x0 (ix2 r k)) c := by
  pointwise [val_main_v15, val_main_v14, val_main_v13, val_main_v12, val_main_v11, val_main_v10, val_main_v9, val_main_v8, val_main_cst_1, val_main_v7, val_main_v6, val_main_cst_0, val_main_v5, val_main_v4, val_main_cst, val_main_v3, val_main_v2]
  rfl

theorem v17_at (r : Fin 32768) (c : Fin 2816) : val_main_v17 (F := Ideal) x0 x2 x3 (ix2 r c)
    = dot (fun k => val_main_v15 (F := Ideal) x0 x2 (ix2 r k)) (fun k j => x3 (ix3 0 k j)) c := by
  pointwise [val_main_v17, val_main_v16]
  rfl

theorem v20_at (r : Fin 32768) (c : Fin 2816) : val_main_v20 (F := Ideal) x0 x2 x4 (ix2 r c)
    = dot (fun k => val_main_v15 (F := Ideal) x0 x2 (ix2 r k)) (fun k j => x4 (ix3 0 k j)) c := by
  pointwise [val_main_v20, val_main_v19]
  rfl

theorem v18_at (r : Fin 32768) (c : Fin 2816) : val_main_v18 (F := Ideal) x0 x2 x3 (ix2 r c)
    = val_main_v17 (F := Ideal) x0 x2 x3 (ix2 r c) * sigm (val_main_v17 (F := Ideal) x0 x2 x3 (ix2 r c)) := by
  pointwise [val_main_v18, val_main_call0_v5, val_main_call0_v4, val_main_call0_cst_0, val_main_call0_v3, val_main_call0_v2, val_main_call0_cst, val_main_call0_v1, val_main_call0_v0]
  rfl

theorem v23_at (r : Fin 32768) (c : Fin 1024) : val_main_v23 (F := Ideal) x0 x2 x3 x4 x5 (ix2 r c)
    = dot (fun k => val_main_v18 (F := Ideal) x0 x2 x3 (ix2 r k) * val_main_v20 (F := Ideal) x0 x2 x4 (ix2 r k)) (fun k j => x5 (ix3 0 k j)) c := by
  pointwise [val_main_v23, val_main_v22, val_main_v21]
  rfl

theorem v38_at (r : Fin 32768) (c : Fin 1024) : val_main_v38 (F := Ideal) x0 x2 x3 x4 x5 x6 (ix2 r c)
    = x0 (ix2 r c) + rms c1024 (fun k => x6 (ix2 0 k)) (fun k => val_main_v23 (F := Ideal) x0 x2 x3 x4 x5 (ix2 r k)) c := by
  pointwise [val_main_v38, val_main_v37, val_main_v36, val_main_v35, val_main_v34, val_main_v33, val_main_v32, val_main_v31, val_main_v30, val_main_cst_4, val_main_v29, val_main_v28, val_main_cst_3, val_main_v27, val_main_v26, val_main_cst_2, val_main_v25, val_main_v24]
  rfl

theorem v49_at (r : Fin 32768) (c : Fin 1024) : val_main_v49 (F := Ideal) x0 x1 x2 x3 x4 x5 x6 x7 x8 (ix2 r c)
    = sigm (dot (fun k => val_main_v38 (F := Ideal) x0 x2 x3 x4 x5 x6 (ix2 r k)) (fun k j => x8 (ix3 0 k j)) c)
      * dot (fun k => x1 (ix4 0 ⟨r.val / 8192, by omega⟩ ⟨r.val % 8192, by omega⟩ k)) (fun k j => x7 (ix3 0 k j)) c := by
  pointwise [val_main_v49, val_main_v48, val_main_v47, val_main_cst_6, val_main_v46, val_main_v45, val_main_cst_5, val_main_v44, val_main_v43, val_main_v42, val_main_v41, val_main_v40, val_main_v39, val_main_v1, val_main_v0]
  rfl

theorem v64_at (r : Fin 32768) (c : Fin 1024) : val_main_v64 (F := Ideal) x0 x1 x2 x3 x4 x5 x6 x7 x8 x9 (ix2 r c)
    = val_main_v38 (F := Ideal) x0 x2 x3 x4 x5 x6 (ix2 r c)
      + rms c1024 (fun k => x9 (ix2 0 k)) (fun k => val_main_v49 (F := Ideal) x0 x1 x2 x3 x4 x5 x6 x7 x8 (ix2 r k)) c := by
  pointwise [val_main_v64, val_main_v63, val_main_v62, val_main_v61, val_main_v60, val_main_v59, val_main_v58, val_main_v57, val_main_v56, val_main_cst_9, val_main_v55, val_main_v54, val_main_cst_8, val_main_v53, val_main_v52, val_main_cst_7, val_main_v51, val_main_v50]
  rfl

/-- The reference's result array. -/
theorem ref_eq : val_main_v64 (F := Ideal) x0 x1 x2 x3 x4 x5 x6 x7 x8 x9 = FfnVal.G x0 x1 x2 x3 x4 x5 x6 x7 x8 x9 := by
  funext i
  obtain ⟨r, c, rfl⟩ : ∃ r c, i = ix2 r c := ⟨i 0, i 1, eq_ix2 i⟩
  rw [v64_at]
  simp only [v49_at, v38_at, v23_at, v18_at, v20_at, v17_at, v15_at]
  rfl

end Cert.FfnRef

end
-- ==== Proof.FfnClaim.lean ====
/- The feed-forward claim: the kernel's result is the reference's. -/
module

public import proofs.«01_k».proof.Defs
public import proofs.«01_k».proof.Proof.Gen.Ffn
public import proofs.«01_k».proof.Proof.Gen.FfnRefIdeal
public import proofs.«01_k».proof.Proof.Gen.FfnRefIdeal.Run
public import proofs.«01_k».proof.Proof.FfnRefRead
public import Idealize.ShloMosaic.Adequacy

@[expose] public section

set_option maxRecDepth 16384

noncomputable section

namespace Cert.FfnClaim

open Idealize.ShloMosaic Idealize.SL.Sem Cert.FfnRefIdeal

theorem algebraic : algebraic_FfnIdeal_FfnRefIdeal (hFfnIdeal := Cert.FfnIdeal.Gen.facts) (hFfnRefIdeal := Cert.FfnRefIdeal.Gen.facts) := by
  intro m ρ m' ρ' _ hag
  refine ⟨fun c => FfnVal.Gm m c, ?_, ?_⟩
  · exact (θ_run _ _ _).mono (fun r h c => ⟨(h c).1.trans (FfnVal.arr m c), (h c).2⟩) (Cert.FfnIdeal.Value.run_blocks m ρ)
  · refine (θ_run _ _ _).mono (fun r h c => ⟨(h c).1.trans ?_, (h c).2⟩) (Cert.FfnRefIdeal.Value.run m' ρ')
    obtain ⟨h0, h1, h2, h3, h4, h5, h6, h7, h8, h9⟩ := hag c
    rw [Read.val_main_v64_eq, FfnRef.ref_eq, h0, h1, h2, h3, h4, h5, h6, h7, h8, h9]
    rfl

end Cert.FfnClaim

end
-- ==== Proof.InProjValue.lean ====
/- The input projection's prompt results as row functions of the arguments. -/
module

public import proofs.«01_k».proof.Proof.Gen.InProjIdeal.Value
public import proofs.«01_k».proof.Proof.Rows
public import Idealize.ShloMosaic.Lib.Pipeline.ValueKit
public import Idealize.ShloMosaic.Lib.Pointwise
public import Idealize.ShloMosaic.Lib.Claim

@[expose] public section

set_option maxRecDepth 16384

noncomputable section

namespace Cert.InProjVal

open Cert.InProjIdeal Cert.InProjIdeal.Gen Cert.Rows Idealize.ShloMosaic Idealize.ShloMosaic.TcCoe
open scoped BigOperators

/-- Column `j` of the projection of position `s` of sequence `b`, with the columns shifted by `off`. -/
def G (off : Nat) (h : off + 256 ≤ 4376) (x : Vec Ideal S4x8192x1024 .f32) (g : Vec Ideal S1x1024 .f32) (w : Vec Ideal S1x1024x4376 .f32) : Vec Ideal S4x256x8192 .f32 :=
  fun i => dot (rms c1024 (fun k => g (ix2 0 k)) (fun k => x (ix3 (i 0) (i 2) k))) (fun k (j : Fin 256) => w (ix3 0 k ⟨off + j.val, by omega⟩)) (i 1)

theorem pay9 (x : Vec Ideal S1x256x1024 .f32) (g : Vec Ideal S1x1024 .f32) (w : Vec Ideal S1024x1920 .bf16) (a : Fin 256) (j : Fin 1920) :
    k0_pay9 x g w (ix2 a j) = dot (rms c1024 (fun k => g (ix2 0 k)) (fun k => x (ix3 0 a k))) (fun k j => w (ix2 k j)) j := by
  pointwise [k0_pay9]
  rfl

theorem pay8 (x : Vec Ideal S1x256x1024 .f32) (g : Vec Ideal S1x1024 .f32) (a : Fin 256) (j : Fin 1024) :
    k0_pay8 x g (ix2 a j) = rms c1024 (fun k => g (ix2 0 k)) (fun k => x (ix3 0 a k)) j := by
  pointwise [k0_pay8]
  rfl

theorem pay11 (h : FVec Ideal S256x1024 .bf16) (w : FVec Ideal S1024x1920 .bf16) (a : Fin 256) (j : Fin 1920) :
    k0_pay11 h w (ix2 a j) = dot (fun k => h (ix2 a k)) (fun k j => w (ix2 k j)) j := by
  pointwise [k0_pay11]
  rfl

theorem pay10 (w : Vec Ideal S1024x1920 .bf16) (k : Fin 1024) (j : Fin 1920) : k0_pay10 w (ix2 k j) = w (ix2 k j) := by
  pointwise [k0_pay10]

theorem pay13 (v : FVec Ideal S256x1920 .f32) (r a : Fin 256) (j : Fin 768) (hj : j.val = 0 + r.val) :
    k0_pay13 v (ix3 0 r a) = v (ix2 a ⟨1024 + j.val, by omega⟩) := by
  pointwise [k0_pay13]
  exact congrArg v (congrArg (ix2 a) (Fin.ext (by simp only []; omega)))

theorem pay18 (v : FVec Ideal S256x1920 .f32) (r a : Fin 256) (j : Fin 768) (hj : j.val = 256 + r.val) :
    k0_pay18 v (ix3 0 r a) = v (ix2 a ⟨1024 + j.val, by omega⟩) := by
  pointwise [k0_pay18, k0_pay16, k0_pay14]
  exact congrArg v (congrArg (ix2 a) (Fin.ext (by simp only []; omega)))

theorem pay19 (v : FVec Ideal S256x1920 .f32) (r a : Fin 256) (j : Fin 768) (hj : j.val = 512 + r.val) :
    k0_pay19 v (ix3 0 r a) = v (ix2 a ⟨1024 + j.val, by omega⟩) := by
  pointwise [k0_pay19, k0_pay17, k0_pay15]
  exact congrArg v (congrArg (ix2 a) (Fin.ext (by simp only []; omega)))

theorem pay30 (v : FVec Ideal S256x1920 .f32) (r a : Fin 256) (j : Fin 768) (hj : j.val = 0 + r.val) :
    k0_pay30 v (ix3 0 r a) = v (ix2 a ⟨1024 + j.val, by omega⟩) := by
  pointwise [k0_pay30]
  exact congrArg v (congrArg (ix2 a) (Fin.ext (by simp only []; omega)))

theorem pay35 (v : FVec Ideal S256x1920 .f32) (r a : Fin 256) (j : Fin 768) (hj : j.val = 256 + r.val) :
    k0_pay35 v (ix3 0 r a) = v (ix2 a ⟨1024 + j.val, by omega⟩) := by
  pointwise [k0_pay35, k0_pay33, k0_pay31]
  exact congrArg v (congrArg (ix2 a) (Fin.ext (by simp only []; omega)))

theorem pay36 (v : FVec Ideal S256x1920 .f32) (r a : Fin 256) (j : Fin 768) (hj : j.val = 512 + r.val) :
    k0_pay36 v (ix3 0 r a) = v (ix2 a ⟨1024 + j.val, by omega⟩) := by
  pointwise [k0_pay36, k0_pay34, k0_pay32]
  exact congrArg v (congrArg (ix2 a) (Fin.ext (by simp only []; omega)))

variable (m : (ℓ : Loc nD τ sig) → Buf (Elt Ideal) ℓ)

theorem V29 (c : Dev nD) (k : Fin 1024) : V m c main_v29 (ix2 0 k) = m ((c : Thread nD τ).loc main_arg1) (ix2 0 k) := by
  simp only [V, hostOps0, hostOps0_1, hostOps0_2, hostOps0_3, hostOps0_4, List.flatten_cons, List.flatten_nil, List.append_nil, List.cons_append, List.nil_append,
    StableHlo.TRef.binary, StableHlo.TRef.nullary, StableHlo.TRef.unary, StableHlo.TRef.ternary, StableHlo.TRef.toBuf, StableHlo.TRef.ofBuf, cast_eq]
  after_results_simp
  pointwise

theorem V27 (c : Dev nD) (k : Fin 1024) (j : Fin 768) : V m c main_v27 (ix2 k ⟨1024 + j.val, by omega⟩) = m ((c : Thread nD τ).loc main_arg2) (ix3 0 k ⟨512 + j.val, by omega⟩) := by
  simp only [V, hostOps0, hostOps0_1, hostOps0_2, hostOps0_3, hostOps0_4, List.flatten_cons, List.flatten_nil, List.append_nil, List.cons_append, List.nil_append,
    StableHlo.TRef.binary, StableHlo.TRef.nullary, StableHlo.TRef.unary, StableHlo.TRef.ternary, StableHlo.TRef.toBuf, StableHlo.TRef.ofBuf, cast_eq]
  after_results_simp
  pointwise
  after_results_simp
  pointwise

theorem idx : ∀ t : Fin grid0.N, win0_0.index t = ![t.val / 17, t.val % 17 - 1, 0] ∧ win0_1.index t = ![0, 0] ∧ win0_2.index t = ![0, 0] := by
  decide +kernel

theorem idxo : ∀ t : Fin grid0.N, win0_7.index t = ![t.val / 17, 0, t.val % 17 - 1] ∧ win0_8.index t = ![t.val / 17, 0, t.val % 17 - 1]
    ∧ win0_9.index t = ![t.val / 17, 0, t.val % 17 - 1] := by
  decide +kernel

theorem fl : ∀ t : Fin cfg0.N, ((cfg0.win 7).flush t = true → t.val % 17 ≠ 0) ∧ ((cfg0.win 8).flush t = true → t.val % 17 ≠ 0)
    ∧ ((cfg0.win 9).flush t = true → t.val % 17 ≠ 0) := by
  decide +kernel

theorem blk0 (c : Dev nD) (t : Fin grid0.N) (a : Fin 512) (b : Fin 4) (s : Fin 8192) (hb : b.val = t.val / 17) (h : s.val = 512 * (t.val % 17 - 1) + a.val) (k : Fin 1024) :
    iblk m c 0 t (ix3 0 a k) = m ((c : Thread nD τ).loc main_arg0) (ix3 b s k) := by
  blk_ext! [iblk, V, (idx t).1]

theorem blk1 (c : Dev nD) (t : Fin grid0.N) (k : Fin 1024) : iblk m c 1 t (ix2 0 k) = m ((c : Thread nD τ).loc main_arg1) (ix2 0 k) := by
  refine Eq.trans ?_ (V29 m c k)
  blk_ext [iblk, (idx t).2.1]

theorem blk2 (c : Dev nD) (t : Fin grid0.N) (k : Fin 1024) (j : Fin 768) :
    iblk m c 2 t (ix2 k ⟨1024 + j.val, by omega⟩) = m ((c : Thread nD τ).loc main_arg2) (ix3 0 k ⟨512 + j.val, by omega⟩) := by
  refine Eq.trans ?_ (V27 m c k j)
  blk_ext [iblk, (idx t).2.2]

/-- A point's first 256 rows projected. -/
theorem row0 (c : Dev nD) (t : Fin grid0.N) (a : Fin 256) (b : Fin 4) (s : Fin 8192) (hb : b.val = t.val / 17) (h : s.val = 512 * (t.val % 17 - 1) + a.val) (j : Fin 768) :
    k0_pay9 (View.ld (iblk m c 0 t) (Rect.unit ![0, 0, 0] ![1, 256, 1024] inb_S1x512x1024_S1x256x1024_0_0_0)) (iblk m c 1 t) (iblk m c 2 t) (ix2 a ⟨1024 + j.val, by omega⟩)
      = dot (rms c1024 (fun k => m ((c : Thread nD τ).loc main_arg1) (ix2 0 k)) (fun k => m ((c : Thread nD τ).loc main_arg0) (ix3 b s k)))
          (fun k (j : Fin 768) => m ((c : Thread nD τ).loc main_arg2) (ix3 0 k ⟨512 + j.val, by omega⟩)) j := by
  have ex : ∀ k : Fin 1024, View.ld (iblk m c 0 t) (Rect.unit ![0, 0, 0] ![1, 256, 1024] inb_S1x512x1024_S1x256x1024_0_0_0) (ix3 0 a k)
      = m ((c : Thread nD τ).loc main_arg0) (ix3 b s k) := fun k =>
    (View.ld_unit_apply_of _ _ _ _ _ (ix3 0 ⟨a.val, by omega⟩ k) (by intro q; fin_cases q <;> simp)).trans (blk0 m c t ⟨a.val, by omega⟩ b s hb h k)
  rw [pay9]
  unfold dot
  refine Finset.sum_congr rfl fun k _ => ?_
  beta_reduce
  rw [blk2 m c t k j]
  simp only [ex, blk1]

/-- A point's last 256 rows projected. -/
theorem row1 (c : Dev nD) (t : Fin grid0.N) (a : Fin 256) (b : Fin 4) (s : Fin 8192) (hb : b.val = t.val / 17) (h : s.val = 512 * (t.val % 17 - 1) + (256 + a.val)) (j : Fin 768) :
    k0_pay11 (k0_pay8 (View.ld (iblk m c 0 t) (Rect.unit ![0, 256, 0] ![1, 256, 1024] inb_S1x512x1024_S1x256x1024_0_256_0)) (iblk m c 1 t)) (k0_pay10 (iblk m c 2 t)) (ix2 a ⟨1024 + j.val, by omega⟩)
      = dot (rms c1024 (fun k => m ((c : Thread nD τ).loc main_arg1) (ix2 0 k)) (fun k => m ((c : Thread nD τ).loc main_arg0) (ix3 b s k)))
          (fun k (j : Fin 768) => m ((c : Thread nD τ).loc main_arg2) (ix3 0 k ⟨512 + j.val, by omega⟩)) j := by
  have ex : ∀ k : Fin 1024, View.ld (iblk m c 0 t) (Rect.unit ![0, 256, 0] ![1, 256, 1024] inb_S1x512x1024_S1x256x1024_0_256_0) (ix3 0 a k)
      = m ((c : Thread nD τ).loc main_arg0) (ix3 b s k) := fun k =>
    (View.ld_unit_apply_of _ _ _ _ _ (ix3 0 ⟨256 + a.val, by omega⟩ k) (by intro q; fin_cases q <;> simp)).trans (blk0 m c t ⟨256 + a.val, by omega⟩ b s hb h k)
  rw [pay11]
  unfold dot
  refine Finset.sum_congr rfl fun k _ => ?_
  beta_reduce
  rw [pay8, pay10, blk2 m c t k j]
  simp only [ex, blk1]

/-- The result array of window 7. -/
theorem arr7 (c : Dev nD) : (dats m 0 c).arrAt 7 cfg0.N = G 512 (by omega) (m ((c : Thread nD τ).loc main_arg0)) (m ((c : Thread nD τ).loc main_arg1)) (m ((c : Thread nD τ).loc main_arg2)) := by
  refine (dats m 0 c).arrAt_eq_of_covers 7 _ (by decide +kernel) fun t hf y => ?_
  have h1 := (fl t).1 hf
  blk_simp
  rw [after0_7, outsAt0_B m c t h1 (by omega)]
  have ht : t.val < 68 := t.isLt
  obtain ⟨u, yb, yc, rfl⟩ : ∃ (u : Fin 1) (yb : Fin 256) (yc : Fin 512), y = ix3 u yb yc := ⟨y 0, y 1, y 2, eq_ix3 y⟩
  have e0 : ((cfg0.win 7).blk t).view.emb (ix3 u yb yc) = ix3 (⟨t.val / 17, by omega⟩ : Fin 4) yb (⟨512 * (t.val % 17 - 1) + yc.val, by omega⟩ : Fin 8192) := by
    blk_ext [(idxo t).1]
  refine Eq.trans ?_ (congrArg (G 512 _ _ _ _) e0).symm
  frame_out
  obtain ⟨y, hy⟩ : ∃ y, y = (ix3 u yb yc : S1x256x512.Idx) := ⟨_, rfl⟩
  have hyb : (y 1).val = yb.val := by rw [hy]; rfl
  have hyc : (y 2).val = yc.val := by rw [hy]; rfl
  rw [← hy]
  canon_tiles x h
  · obtain ⟨v, r, a, rfl⟩ : ∃ (v : Fin 1) (r a : Fin 256), x = ix3 v r a := ⟨x 0, x 1, x 2, eq_ix3 x⟩
    obtain rfl : v = 0 := Subsingleton.elim _ _
    have e1 : yb = r := Fin.ext (hyb.symm.trans h1)
    have e2 : yc.val = 256 + a.val := hyc.symm.trans h2
    subst e1
    refine (pay30 _ yb a ⟨0 + yb.val, by omega⟩ rfl).trans ((row1 m c t a ⟨t.val / 17, by omega⟩ ⟨512 * (t.val % 17 - 1) + yc.val, by omega⟩ rfl (by simp only [e2]) ⟨0 + yb.val, by omega⟩).trans ?_)
    unfold G dot
    exact Finset.sum_congr rfl fun k _ => congrArg₂ (· * ·) rfl (congrArg (m ((c : Thread nD τ).loc main_arg2)) (congrArg (ix3 (0 : Fin 1) k) (Fin.ext (by simp only [ix3_1]; omega))))
  · obtain ⟨v, r, a, rfl⟩ : ∃ (v : Fin 1) (r a : Fin 256), x = ix3 v r a := ⟨x 0, x 1, x 2, eq_ix3 x⟩
    obtain rfl : v = 0 := Subsingleton.elim _ _
    have e1 : yb = r := Fin.ext (hyb.symm.trans h1)
    have e2 : yc.val = a.val := hyc.symm.trans h2
    subst e1
    refine (pay13 _ yb a ⟨0 + yb.val, by omega⟩ rfl).trans ((row0 m c t a ⟨t.val / 17, by omega⟩ ⟨512 * (t.val % 17 - 1) + yc.val, by omega⟩ rfl (by simp only [e2]) ⟨0 + yb.val, by omega⟩).trans ?_)
    unfold G dot
    exact Finset.sum_congr rfl fun k _ => congrArg₂ (· * ·) rfl (congrArg (m ((c : Thread nD τ).loc main_arg2)) (congrArg (ix3 (0 : Fin 1) k) (Fin.ext (by simp only [ix3_1]; omega))))

/-- The result array of window 8. -/
theorem arr8 (c : Dev nD) : (dats m 0 c).arrAt 8 cfg0.N = G 768 (by omega) (m ((c : Thread nD τ).loc main_arg0)) (m ((c : Thread nD τ).loc main_arg1)) (m ((c : Thread nD τ).loc main_arg2)) := by
  refine (dats m 0 c).arrAt_eq_of_covers 8 _ (by decide +kernel) fun t hf y => ?_
  have h1 := (fl t).2.1 hf
  blk_simp
  rw [after0_8, outsAt0_B m c t h1 (by omega)]
  have ht : t.val < 68 := t.isLt
  obtain ⟨u, yb, yc, rfl⟩ : ∃ (u : Fin 1) (yb : Fin 256) (yc : Fin 512), y = ix3 u yb yc := ⟨y 0, y 1, y 2, eq_ix3 y⟩
  have e0 : ((cfg0.win 8).blk t).view.emb (ix3 u yb yc) = ix3 (⟨t.val / 17, by omega⟩ : Fin 4) yb (⟨512 * (t.val % 17 - 1) + yc.val, by omega⟩ : Fin 8192) := by
    blk_ext [(idxo t).2.1]
  refine Eq.trans ?_ (congrArg (G 768 _ _ _ _) e0).symm
  frame_out
  obtain ⟨y, hy⟩ : ∃ y, y = (ix3 u yb yc : S1x256x512.Idx) := ⟨_, rfl⟩
  have hyb : (y 1).val = yb.val := by rw [hy]; rfl
  have hyc : (y 2).val = yc.val := by rw [hy]; rfl
  rw [← hy]
  canon_tiles x h
  · obtain ⟨v, r, a, rfl⟩ : ∃ (v : Fin 1) (r a : Fin 256), x = ix3 v r a := ⟨x 0, x 1, x 2, eq_ix3 x⟩
    obtain rfl : v = 0 := Subsingleton.elim _ _
    have e1 : yb = r := Fin.ext (hyb.symm.trans h1)
    have e2 : yc.val = 256 + a.val := hyc.symm.trans h2
    subst e1
    refine (pay35 _ yb a ⟨256 + yb.val, by omega⟩ rfl).trans ((row1 m c t a ⟨t.val / 17, by omega⟩ ⟨512 * (t.val % 17 - 1) + yc.val, by omega⟩ rfl (by simp only [e2]) ⟨256 + yb.val, by omega⟩).trans ?_)
    unfold G dot
    exact Finset.sum_congr rfl fun k _ => congrArg₂ (· * ·) rfl (congrArg (m ((c : Thread nD τ).loc main_arg2)) (congrArg (ix3 (0 : Fin 1) k) (Fin.ext (by simp only [ix3_1]; omega))))
  · obtain ⟨v, r, a, rfl⟩ : ∃ (v : Fin 1) (r a : Fin 256), x = ix3 v r a := ⟨x 0, x 1, x 2, eq_ix3 x⟩
    obtain rfl : v = 0 := Subsingleton.elim _ _
    have e1 : yb = r := Fin.ext (hyb.symm.trans h1)
    have e2 : yc.val = a.val := hyc.symm.trans h2
    subst e1
    refine (pay18 _ yb a ⟨256 + yb.val, by omega⟩ rfl).trans ((row0 m c t a ⟨t.val / 17, by omega⟩ ⟨512 * (t.val % 17 - 1) + yc.val, by omega⟩ rfl (by simp only [e2]) ⟨256 + yb.val, by omega⟩).trans ?_)
    unfold G dot
    exact Finset.sum_congr rfl fun k _ => congrArg₂ (· * ·) rfl (congrArg (m ((c : Thread nD τ).loc main_arg2)) (congrArg (ix3 (0 : Fin 1) k) (Fin.ext (by simp only [ix3_1]; omega))))

/-- The result array of window 9. -/
theorem arr9 (c : Dev nD) : (dats m 0 c).arrAt 9 cfg0.N = G 1024 (by omega) (m ((c : Thread nD τ).loc main_arg0)) (m ((c : Thread nD τ).loc main_arg1)) (m ((c : Thread nD τ).loc main_arg2)) := by
  refine (dats m 0 c).arrAt_eq_of_covers 9 _ (by decide +kernel) fun t hf y => ?_
  have h1 := (fl t).2.2 hf
  blk_simp
  rw [after0_9, outsAt0_B m c t h1 (by omega)]
  have ht : t.val < 68 := t.isLt
  obtain ⟨u, yb, yc, rfl⟩ : ∃ (u : Fin 1) (yb : Fin 256) (yc : Fin 512), y = ix3 u yb yc := ⟨y 0, y 1, y 2, eq_ix3 y⟩
  have e0 : ((cfg0.win 9).blk t).view.emb (ix3 u yb yc) = ix3 (⟨t.val / 17, by omega⟩ : Fin 4) yb (⟨512 * (t.val % 17 - 1) + yc.val, by omega⟩ : Fin 8192) := by
    blk_ext [(idxo t).2.2]
  refine Eq.trans ?_ (congrArg (G 1024 _ _ _ _) e0).symm
  frame_out
  obtain ⟨y, hy⟩ : ∃ y, y = (ix3 u yb yc : S1x256x512.Idx) := ⟨_, rfl⟩
  have hyb : (y 1).val = yb.val := by rw [hy]; rfl
  have hyc : (y 2).val = yc.val := by rw [hy]; rfl
  rw [← hy]
  canon_tiles x h
  · obtain ⟨v, r, a, rfl⟩ : ∃ (v : Fin 1) (r a : Fin 256), x = ix3 v r a := ⟨x 0, x 1, x 2, eq_ix3 x⟩
    obtain rfl : v = 0 := Subsingleton.elim _ _
    have e1 : yb = r := Fin.ext (hyb.symm.trans h1)
    have e2 : yc.val = 256 + a.val := hyc.symm.trans h2
    subst e1
    refine (pay36 _ yb a ⟨512 + yb.val, by omega⟩ rfl).trans ((row1 m c t a ⟨t.val / 17, by omega⟩ ⟨512 * (t.val % 17 - 1) + yc.val, by omega⟩ rfl (by simp only [e2]) ⟨512 + yb.val, by omega⟩).trans ?_)
    unfold G dot
    exact Finset.sum_congr rfl fun k _ => congrArg₂ (· * ·) rfl (congrArg (m ((c : Thread nD τ).loc main_arg2)) (congrArg (ix3 (0 : Fin 1) k) (Fin.ext (by simp only [ix3_1]; omega))))
  · obtain ⟨v, r, a, rfl⟩ : ∃ (v : Fin 1) (r a : Fin 256), x = ix3 v r a := ⟨x 0, x 1, x 2, eq_ix3 x⟩
    obtain rfl : v = 0 := Subsingleton.elim _ _
    have e1 : yb = r := Fin.ext (hyb.symm.trans h1)
    have e2 : yc.val = a.val := hyc.symm.trans h2
    subst e1
    refine (pay19 _ yb a ⟨512 + yb.val, by omega⟩ rfl).trans ((row0 m c t a ⟨t.val / 17, by omega⟩ ⟨512 * (t.val % 17 - 1) + yc.val, by omega⟩ rfl (by simp only [e2]) ⟨512 + yb.val, by omega⟩).trans ?_)
    unfold G dot
    exact Finset.sum_congr rfl fun k _ => congrArg₂ (· * ·) rfl (congrArg (m ((c : Thread nD τ).loc main_arg2)) (congrArg (ix3 (0 : Fin 1) k) (Fin.ext (by simp only [ix3_1]; omega))))

end Cert.InProjVal

end
-- ==== Proof.InProjRefRead.lean ====
/- The input projection's reference read as the same row functions. -/
module

public import proofs.«01_k».proof.Proof.Gen.InProjRefIdeal.Read
public import proofs.«01_k».proof.Proof.InProjValue
public import Idealize.ShloMosaic.Lib.Pointwise

@[expose] public section

set_option maxRecDepth 16384

noncomputable section

namespace Cert.InProjRef

open Cert.InProjRefIdeal Cert.InProjRefIdeal.Read Cert.Rows Idealize.ShloMosaic Idealize.ShloMosaic.TcCoe
open scoped BigOperators

variable (x0 : (⟨S4x8192x1024, .f32⟩ : BufTy).Contents (Elt Ideal)) (x1 : (⟨S1x1024, .f32⟩ : BufTy).Contents (Elt Ideal))
  (x2 : (⟨S1x1024x4376, .f32⟩ : BufTy).Contents (Elt Ideal))

theorem v13_at (b : Fin 4) (s : Fin 8192) (c : Fin 1024) : val_main_v13 (F := Ideal) x0 x1 (ix3 b s c)
    = rms c1024 (fun k => x1 (ix2 0 k)) (fun k => x0 (ix3 b s k)) c := by
  pointwise [val_main_v13, val_main_v12, val_main_v11, val_main_v10, val_main_v9, val_main_v8, val_main_v7, val_main_v6, val_main_cst_1, val_main_v5, val_main_v4, val_main_cst_0, val_main_v3, val_main_v2, val_main_cst, val_main_v1, val_main_v0]
  rfl

theorem v19_at (b : Fin 4) (r : Fin 256) (s : Fin 8192) : val_main_v19 (F := Ideal) x0 x1 x2 (ix3 b r s)
    = dot (fun k => val_main_v13 (F := Ideal) x0 x1 (ix3 b s k)) (fun k (j : Fin 256) => x2 (ix3 0 k ⟨512 + j.val, by omega⟩)) r := by
  pointwise [val_main_v19, val_main_v16, val_main_v15, val_main_v14]
  rfl

theorem ref19 : val_main_v19 (F := Ideal) x0 x1 x2 = InProjVal.G 512 (by omega) x0 x1 x2 := by
  funext i
  obtain ⟨b, r, s, rfl⟩ : ∃ b r s, i = ix3 b r s := ⟨i 0, i 1, i 2, eq_ix3 i⟩
  rw [v19_at]
  simp only [v13_at]
  rfl

theorem v20_at (b : Fin 4) (r : Fin 256) (s : Fin 8192) : val_main_v20 (F := Ideal) x0 x1 x2 (ix3 b r s)
    = dot (fun k => val_main_v13 (F := Ideal) x0 x1 (ix3 b s k)) (fun k (j : Fin 256) => x2 (ix3 0 k ⟨768 + j.val, by omega⟩)) r := by
  pointwise [val_main_v20, val_main_v17, val_main_v15, val_main_v14]
  rfl

theorem ref20 : val_main_v20 (F := Ideal) x0 x1 x2 = InProjVal.G 768 (by omega) x0 x1 x2 := by
  funext i
  obtain ⟨b, r, s, rfl⟩ : ∃ b r s, i = ix3 b r s := ⟨i 0, i 1, i 2, eq_ix3 i⟩
  rw [v20_at]
  simp only [v13_at]
  rfl

theorem v21_at (b : Fin 4) (r : Fin 256) (s : Fin 8192) : val_main_v21 (F := Ideal) x0 x1 x2 (ix3 b r s)
    = dot (fun k => val_main_v13 (F := Ideal) x0 x1 (ix3 b s k)) (fun k (j : Fin 256) => x2 (ix3 0 k ⟨1024 + j.val, by omega⟩)) r := by
  pointwise [val_main_v21, val_main_v18, val_main_v15, val_main_v14]
  rfl

theorem ref21 : val_main_v21 (F := Ideal) x0 x1 x2 = InProjVal.G 1024 (by omega) x0 x1 x2 := by
  funext i
  obtain ⟨b, r, s, rfl⟩ : ∃ b r s, i = ix3 b r s := ⟨i 0, i 1, i 2, eq_ix3 i⟩
  rw [v21_at]
  simp only [v13_at]
  rfl

end Cert.InProjRef

end
-- ==== Proof.InProjClaim.lean ====
/- The input projection's claim: the three cached rows of the prompt are the reference's. -/
module

public import proofs.«01_k».proof.Defs
public import proofs.«01_k».proof.Proof.Gen.InProj
public import proofs.«01_k».proof.Proof.Gen.InProjRefIdeal
public import proofs.«01_k».proof.Proof.Gen.InProjRefIdeal.Run
public import proofs.«01_k».proof.Proof.InProjRefRead
public import Idealize.ShloMosaic.Adequacy

@[expose] public section

set_option maxRecDepth 16384

noncomputable section

namespace Cert.InProjClaim

open Idealize.ShloMosaic Idealize.ShloMosaic.TcCoe Idealize.SL.Sem Cert.InProjRefIdeal

theorem algebraic : algebraic_InProjIdeal_InProjRefIdeal (hInProjIdeal := Cert.InProjIdeal.Gen.facts) (hInProjRefIdeal := Cert.InProjRefIdeal.Gen.facts) := by
  intro m ρ m' ρ' _ hag
  refine ⟨fun c => InProjVal.G 512 (by omega) (m ((c : Thread InProjIdeal.nD InProjIdeal.τ).loc InProjIdeal.main_arg0)) (m ((c : Thread InProjIdeal.nD InProjIdeal.τ).loc InProjIdeal.main_arg1)) (m ((c : Thread InProjIdeal.nD InProjIdeal.τ).loc InProjIdeal.main_arg2)),
    fun c => InProjVal.G 768 (by omega) (m ((c : Thread InProjIdeal.nD InProjIdeal.τ).loc InProjIdeal.main_arg0)) (m ((c : Thread InProjIdeal.nD InProjIdeal.τ).loc InProjIdeal.main_arg1)) (m ((c : Thread InProjIdeal.nD InProjIdeal.τ).loc InProjIdeal.main_arg2)),
    fun c => InProjVal.G 1024 (by omega) (m ((c : Thread InProjIdeal.nD InProjIdeal.τ).loc InProjIdeal.main_arg0)) (m ((c : Thread InProjIdeal.nD InProjIdeal.τ).loc InProjIdeal.main_arg1)) (m ((c : Thread InProjIdeal.nD InProjIdeal.τ).loc InProjIdeal.main_arg2)), ?_, ?_⟩
  · refine (θ_run _ _ _).mono (fun r h c => ?_) (Cert.InProjIdeal.Value.run_blocks m ρ)
    obtain ⟨_, r7, r8, r9, _, _, _, _, _, rest⟩ := h c
    exact ⟨r7.trans (InProjVal.arr7 m c), r8.trans (InProjVal.arr8 m c), r9.trans (InProjVal.arr9 m c), rest⟩
  · refine (θ_run _ _ _).mono (fun r h c => ?_) (Cert.InProjRefIdeal.Value.run m' ρ')
    obtain ⟨r0, r1, r2, rest⟩ := h c
    obtain ⟨h0, h1, h2, _⟩ := hag c
    refine ⟨r0.trans ?_, r1.trans ?_, r2.trans ?_, rest⟩
    · rw [Read.val_main_v19_eq, InProjRef.ref19, h0, h1, h2]
    · rw [Read.val_main_v20_eq, InProjRef.ref20, h0, h1, h2]
    · rw [Read.val_main_v21_eq, InProjRef.ref21, h0, h1, h2]

end Cert.InProjClaim

end
-- ==== Proof.MixRows.lean ====
/- The mixing stage's row functions over the extended reals. -/
module

public import proofs.«01_k».proof.Proof.Rows

@[expose] public section

noncomputable section

namespace Cert.Rows

open Idealize.ShloMosaic
open scoped BigOperators

/-- The smooth rectifier in its hyperbolic-tangent form. -/
def gelu (x : EReal) : EReal :=
  x * (Ideal.ofBits .f32 0x3F000000#32
    * (1 + Ideal.tanh (Ideal.ofBits .f32 0x3F4C422A#32 * (x + Ideal.ofBits .f32 0x3D372713#32 * (x * (x * x))))))

/-- A literal for a row length of 512. -/
def c512 : EReal := Ideal.ofBits .f32 0x44000000#32

/-- The mean of a row. -/
def mean {d : Nat} (n : EReal) (v : Fin d → EReal) : EReal := Ideal.div (∑ k : Fin d, v k) n

/-- A row with its mean taken off, over the root of its variance. -/
def lnorm0 {d : Nat} (n : EReal) (v : Fin d → EReal) (j : Fin d) : EReal :=
  (v j - mean n v) * Ideal.rsqrt (Ideal.div (∑ k : Fin d, (v k - mean n v) * (v k - mean n v)) n + Ideal.ofBits .f32 0x358637BD#32)

/-- A row normalised by its mean and variance, with a gain and an offset. -/
def lnorm {d : Nat} (n : EReal) (g b v : Fin d → EReal) (j : Fin d) : EReal := lnorm0 n v j * g j + b j

/-- The gated unit's second half of a projected row, rectified and normalised. -/
def gmV (g b : Fin 512 → EReal) (z : Fin 3072 → EReal) : Fin 512 → EReal :=
  lnorm c512 g b fun j => gelu (z ⟨512 + j.val, by omega⟩)

/-- A chunk's rows mixed group by group: row `t` of the chunk. -/
def gmS (ws : Fin 4 → Fin 128 → Fin 128 → EReal) (bs : Fin 128 → Fin 512 → EReal) (v : Fin 128 → Fin 512 → EReal) (t : Fin 128) (d : Fin 512) : EReal :=
  dot (ws ⟨d.val / 128, by omega⟩ t) v d + bs t d

/-- The two branches of a row, each gated, added. -/
def merge (wn wg : Fin 512 → Fin 1024 → EReal) (o u : Fin 512 → EReal) (z : Fin 3072 → EReal) (j : Fin 1024) : EReal :=
  sigm (z ⟨1024 + j.val, by omega⟩) * dot o wn j + sigm (z ⟨2048 + j.val, by omega⟩) * dot u wg j

/-- The residual row after mixing, from a chunk's rows: row `t`. -/
def mixRes (g1 : Fin 1024 → EReal) (w : Fin 1024 → Fin 3072 → EReal) (lg lb : Fin 512 → EReal) (ws : Fin 4 → Fin 128 → Fin 128 → EReal)
    (bs : Fin 128 → Fin 512 → EReal) (wn wg : Fin 512 → Fin 1024 → EReal) (wo : Fin 1024 → Fin 1024 → EReal) (g2 : Fin 1024 → EReal)
    (x : Fin 128 → Fin 1024 → EReal) (o : Fin 512 → EReal) (t : Fin 128) (j : Fin 1024) : EReal :=
  x t j + rms c1024 g2 (dot (merge wn wg o
    (fun d => gelu (dot (rms c1024 g1 (x t)) w ⟨d.val, by omega⟩) * gmS ws bs (fun i => gmV lg lb (dot (rms c1024 g1 (x i)) w)) t d)
    (dot (rms c1024 g1 (x t)) w)) wo) j

end Cert.Rows

end
-- ==== Proof.MixPay.lean ====
/- The mixing kernel's payloads read at an index, as row functions. -/
module

public import proofs.«01_k».proof.Proof.Gen.MixIdeal.Frame
public import proofs.«01_k».proof.Proof.MixRows
public import Idealize.ShloMosaic.Lib.Pointwise

@[expose] public section

set_option maxRecDepth 16384

noncomputable section

namespace Cert.MixPay

open Cert.MixIdeal Cert.MixIdeal.Gen Cert.Rows Idealize.ShloMosaic
open scoped BigOperators

theorem pay2_at (v0 : Vec Ideal S256x512 .bf16) (v1 : Vec Ideal S512x1024 .bf16) (r : Fin 256) (c : Fin 1024) :
    k0_pay2 v0 v1 (ix2 r c) = dot (fun k => v0 (ix2 r k)) (fun k j => v1 (ix2 k j)) c := by
  pointwise [k0_pay2]
  rfl

theorem pay3_at (v0 : Vec Ideal S256x512 .bf16) (v1 : Vec Ideal S512x1024 .bf16) (r : Fin 256) (c : Fin 1024) :
    k0_pay3 v0 v1 (ix2 r c) = dot (fun k => v0 (ix2 r k)) (fun k j => v1 (ix2 k j)) c := by
  pointwise [k0_pay3]
  rfl

theorem pay4_at (x : Vec Ideal S256x1024 .f32) (g : Vec Ideal S1x1024 .f32) (w : Vec Ideal S1024x3072 .bf16) (r : Fin 256) (c : Fin 3072) :
    k0_pay4 x g w (ix2 r c) = dot (rms c1024 (fun k => g (ix2 0 k)) (fun k => x (ix2 r k))) (fun k j => w (ix2 k j)) c := by
  pointwise [k0_pay4]
  rfl

theorem pay7_at (x : Vec Ideal S256x1024 .f32) (g : Vec Ideal S1x1024 .f32) (w : Vec Ideal S1024x3072 .bf16) (r : Fin 256) (c : Fin 3072) :
    k0_pay7 x (k0_pay5 g) (k0_pay6 x) (Scalar.ofBits .f32 0x44800000#32) w (ix2 r c)
      = dot (rms c1024 (fun k => g (ix2 0 k)) (fun k => x (ix2 r k))) (fun k j => w (ix2 k j)) c := by
  pointwise [k0_pay7, k0_pay6, k0_pay5]
  rfl

theorem pay8_at (z : FVec Ideal S256x3072 .f32) (r : Fin 256) (c : Fin 1024) : k0_pay8 z (ix2 r c) = gelu (z (ix2 r ⟨c.val, by omega⟩)) := by
  pointwise [k0_pay8]
  rfl

theorem pay17_at (z : FVec Ideal S256x3072 .f32) (r : Fin 256) (c : Fin 1024) : k0_pay17 z (ix2 r c) = gelu (z (ix2 r ⟨c.val, by omega⟩)) := by
  pointwise [k0_pay17]
  rfl

theorem pay9_at (z : FVec Ideal S256x3072 .f32) (r : Fin 256) (c : Fin 512) : k0_pay9 z (ix2 r c) = gelu (z (ix2 r ⟨c.val, by omega⟩)) := by
  have h : k0_pay9 z (ix2 r c) = k0_pay8 z (ix2 r ⟨c.val, by omega⟩) := by
    pointwise [k0_pay9]
  rw [h, pay8_at]

theorem pay18_at (z : FVec Ideal S256x3072 .f32) (r : Fin 256) (c : Fin 512) : k0_pay18 z (ix2 r c) = gelu (z (ix2 r ⟨c.val, by omega⟩)) := by
  have h : k0_pay18 z (ix2 r c) = k0_pay17 z (ix2 r ⟨c.val, by omega⟩) := by
    pointwise [k0_pay18]
  rw [h, pay17_at]

theorem pay11_at (z : FVec Ideal S256x3072 .f32) (g b : Vec Ideal S1x512 .f32) (r : Fin 256) (c : Fin 512) :
    k0_pay11 (k0_pay10 z) g b (ix2 r c) = gmV (fun k => g (ix2 0 k)) (fun k => b (ix2 0 k)) (fun k => z (ix2 r k)) c := by
  have h : k0_pay11 (k0_pay10 z) g b (ix2 r c)
      = lnorm c512 (fun k => g (ix2 0 k)) (fun k => b (ix2 0 k)) (fun j => k0_pay8 z (ix2 r ⟨512 + j.val, by omega⟩)) c := by
    pointwise [k0_pay11, k0_pay10]
    rfl
  rw [h]
  simp only [pay8_at]
  rfl

theorem pay21_at (z : FVec Ideal S256x3072 .f32) (g b : Vec Ideal S1x512 .f32) (r : Fin 256) (c : Fin 512) :
    k0_pay21 (k0_pay19 z) (k0_pay20 z) g b (ix2 r c) = gmV (fun k => g (ix2 0 k)) (fun k => b (ix2 0 k)) (fun k => z (ix2 r k)) c := by
  have h : k0_pay21 (k0_pay19 z) (k0_pay20 z) g b (ix2 r c)
      = lnorm c512 (fun k => g (ix2 0 k)) (fun k => b (ix2 0 k)) (fun j => k0_pay17 z (ix2 r ⟨512 + j.val, by omega⟩)) c := by
    pointwise [k0_pay21, k0_pay20, k0_pay19]
    rfl
  rw [h]
  simp only [pay17_at]
  rfl

/-- A row of the mixed chunk, its four groups side by side. -/
theorem groups (w0 w1 w2 w3 : Fin 128 → Fin 128 → EReal) (bs : Fin 128 → Fin 512 → EReal) (v : Fin 128 → Fin 512 → EReal) (r : Fin 128) (c : Fin 512) :
    (if h : c.val < 128 then ∑ x, w0 r x * v x c
      else if h : c.val - 128 < 128 then ∑ x, w1 r x * v x ⟨128 + (c.val - 128), by omega⟩
      else if h : c.val - 128 - 128 < 128 then ∑ x, w2 r x * v x ⟨256 + (c.val - 128 - 128), by omega⟩
      else ∑ x, w3 r x * v x ⟨384 + (c.val - 128 - 128 - 128), by omega⟩) + bs r c
      = gmS ![w0, w1, w2, w3] bs v r c := by
  unfold gmS dot
  congr 1
  split_ifs with h0 h1 h2
  · have e : (⟨c.val / 128, by omega⟩ : Fin 4) = 0 := Fin.ext (by simp; omega)
    rw [e]; rfl
  · have e : (⟨c.val / 128, by omega⟩ : Fin 4) = 1 := Fin.ext (by simp; omega)
    have e' : (⟨128 + (c.val - 128), by omega⟩ : Fin 512) = c := Fin.ext (by simp; omega)
    rw [e, e']; rfl
  · have e : (⟨c.val / 128, by omega⟩ : Fin 4) = 2 := Fin.ext (by simp; omega)
    have e' : (⟨256 + (c.val - 128 - 128), by omega⟩ : Fin 512) = c := Fin.ext (by simp; omega)
    rw [e, e']; rfl
  · have e : (⟨c.val / 128, by omega⟩ : Fin 4) = 3 := Fin.ext (by simp; omega)
    have e' : (⟨384 + (c.val - 128 - 128 - 128), by omega⟩ : Fin 512) = c := Fin.ext (by simp; omega)
    rw [e, e']; rfl

/-- The group matrices as loaded, one per group. -/
abbrev quad (w0 w1 w2 w3 : Vec Ideal S1x128x128 .bf16) : Fin 4 → Fin 128 → Fin 128 → EReal :=
  ![fun t i => w0 (ix3 0 t i), fun t i => w1 (ix3 0 t i), fun t i => w2 (ix3 0 t i), fun t i => w3 (ix3 0 t i)]

theorem pay12_at (v79 : FVec Ideal S256x512 .f32) (g b : Vec Ideal S1x512 .f32) (w0 w1 w2 w3 : Vec Ideal S1x128x128 .bf16) (bs : Vec Ideal S128x512 .f32)
    (r : Fin 128) (c : Fin 512) :
    k0_pay12 v79 g b w0 w1 w2 w3 bs (ix2 r c)
      = gmS (quad w0 w1 w2 w3) (fun t d => bs (ix2 t d)) (fun t d => k0_pay11 v79 g b (ix2 ⟨t.val, by omega⟩ d)) r c := by
  pointwise [k0_pay12]
  exact groups (fun t i => w0 (ix3 0 t i)) (fun t i => w1 (ix3 0 t i)) (fun t i => w2 (ix3 0 t i)) (fun t i => w3 (ix3 0 t i)) (fun t d => bs (ix2 t d))
    (fun t d => k0_pay11 v79 g b (ix2 ⟨t.val, by omega⟩ d)) r c

/-- The chunk of a row of the first 128. -/
theorem chunk0 (W : Fin 4 → Fin 128 → Fin 128 → EReal) (B : Fin 128 → Fin 512 → EReal) (v : Fin 256 → Fin 512 → EReal) (r : Fin 256) (c : Fin 512) (h : r.val < 128) :
    gmS W B (fun t d => v ⟨128 * (r.val / 128) + t.val, by omega⟩ d) ⟨r.val % 128, by omega⟩ c
      = gmS W B (fun t d => v ⟨t.val, by omega⟩ d) ⟨r.val, h⟩ c := by
  have e1 : (⟨r.val % 128, by omega⟩ : Fin 128) = ⟨r.val, h⟩ := Fin.ext (by simp; omega)
  have e2 : (fun (t : Fin 128) d => v ⟨128 * (r.val / 128) + t.val, by omega⟩ d) = fun t d => v ⟨t.val, by omega⟩ d := by
    funext t d; exact congrArg (v · d) (Fin.ext (by simp; omega))
  rw [e1, e2]

/-- The chunk of a row of the second 128. -/
theorem chunk1 (W : Fin 4 → Fin 128 → Fin 128 → EReal) (B : Fin 128 → Fin 512 → EReal) (v : Fin 256 → Fin 512 → EReal) (r : Fin 256) (c : Fin 512) (h : ¬ r.val < 128) :
    gmS W B (fun t d => v ⟨128 * (r.val / 128) + t.val, by omega⟩ d) ⟨r.val % 128, by omega⟩ c
      = gmS W B (fun t d => v ⟨128 + t.val, by omega⟩ d) ⟨r.val - 128, by omega⟩ c := by
  have e1 : (⟨r.val % 128, by omega⟩ : Fin 128) = ⟨r.val - 128, by omega⟩ := Fin.ext (by simp; omega)
  have e2 : (fun (t : Fin 128) d => v ⟨128 * (r.val / 128) + t.val, by omega⟩ d) = fun t d => v ⟨128 + t.val, by omega⟩ d := by
    funext t d; exact congrArg (v · d) (Fin.ext (by simp; omega))
  rw [e1, e2]

/-- The first half's gated unit: two chunks of 128 rows. -/
theorem pay16_at (z : FVec Ideal S256x512 .f32) (v79 : FVec Ideal S256x512 .f32) (g b : Vec Ideal S1x512 .f32) (w0 w1 w2 w3 : Vec Ideal S1x128x128 .bf16)
    (bs : Vec Ideal S128x512 .f32) (r : Fin 256) (c : Fin 512) :
    k0_pay16 z (k0_pay12 v79 g b w0 w1 w2 w3 bs) (k0_pay13 v79 g b) (k0_pay14 w0) (k0_pay15 v79 g b) (constant S128x128 .f32 0x00000000#32) w1 w2 w3 bs (ix2 r c)
      = z (ix2 r c) * gmS (quad w0 w1 w2 w3) (fun t d => bs (ix2 t d))
          (fun t d => k0_pay11 v79 g b (ix2 ⟨128 * (r.val / 128) + t.val, by omega⟩ d)) ⟨r.val % 128, by omega⟩ c := by
  pointwise [k0_pay16, k0_pay13, k0_pay14, k0_pay15]
  refine congrArg (z (ix2 r c) * ·) ?_
  by_cases h : r.val < 128
  · rw [dif_pos h, pay12_at]
    exact (chunk0 _ _ (fun i d => k0_pay11 v79 g b (ix2 i d)) r c h).symm
  · rw [dif_neg h]
    refine Eq.trans ?_ (chunk1 _ _ (fun i d => k0_pay11 v79 g b (ix2 i d)) r c h).symm
    exact groups (fun t i => w0 (ix3 0 t i)) (fun t i => w1 (ix3 0 t i)) (fun t i => w2 (ix3 0 t i)) (fun t i => w3 (ix3 0 t i)) (fun t d => bs (ix2 t d))
      (fun t d => k0_pay11 v79 g b (ix2 ⟨128 + t.val, by omega⟩ d)) ⟨r.val - 128, by omega⟩ c

/-- The second half's gated unit. -/
theorem pay27_at (z : FVec Ideal S256x512 .f32) (v149 : FVec Ideal S256x512 .f32) (v153 : FVec Ideal S256x1 .f32) (g b : Vec Ideal S1x512 .f32) (w0 w1 w2 w3 : Vec Ideal S1x128x128 .bf16)
    (bs : Vec Ideal S128x512 .f32) (r : Fin 256) (c : Fin 512) :
    k0_pay27 z (k0_pay21 v149 v153 g b) (k0_pay22 v149 v153 g b) (k0_pay23 v149 v153 g b w0) (k0_pay24 v149 v153 g b w1) (k0_pay25 v149 v153 g b w2) (k0_pay26 w3) bs
        w0 w1 w2 w3 bs (ix2 r c)
      = z (ix2 r c) * gmS (quad w0 w1 w2 w3) (fun t d => bs (ix2 t d))
          (fun t d => k0_pay21 v149 v153 g b (ix2 ⟨128 * (r.val / 128) + t.val, by omega⟩ d)) ⟨r.val % 128, by omega⟩ c := by
  pointwise [k0_pay27, k0_pay22, k0_pay23, k0_pay24, k0_pay25, k0_pay26]
  refine congrArg (z (ix2 r c) * ·) ?_
  by_cases h : r.val < 128
  · rw [dif_pos h]
    refine Eq.trans ?_ (chunk0 _ _ (fun i d => k0_pay21 v149 v153 g b (ix2 i d)) r c h).symm
    exact groups (fun t i => w0 (ix3 0 t i)) (fun t i => w1 (ix3 0 t i)) (fun t i => w2 (ix3 0 t i)) (fun t i => w3 (ix3 0 t i)) (fun t d => bs (ix2 t d))
      (fun t d => k0_pay21 v149 v153 g b (ix2 ⟨t.val, by omega⟩ d)) ⟨r.val, h⟩ c
  · rw [dif_neg h]
    refine Eq.trans ?_ (chunk1 _ _ (fun i d => k0_pay21 v149 v153 g b (ix2 i d)) r c h).symm
    exact groups (fun t i => w0 (ix3 0 t i)) (fun t i => w1 (ix3 0 t i)) (fun t i => w2 (ix3 0 t i)) (fun t i => w3 (ix3 0 t i)) (fun t d => bs (ix2 t d))
      (fun t d => k0_pay21 v149 v153 g b (ix2 ⟨128 + t.val, by omega⟩ d)) ⟨r.val - 128, by omega⟩ c

/-- A half's stored block. -/
theorem pay32_at (x : Vec Ideal S256x1024 .f32) (u : FVec Ideal S256x512 .bf16) (a : FVec Ideal S256x1024 .f32) (z : FVec Ideal S256x3072 .f32)
    (wg : Vec Ideal S512x1024 .bf16) (wo : Vec Ideal S1024x1024 .bf16) (g : Vec Ideal S1x1024 .f32) (r : Fin 256) (c : Fin 1024) :
    k0_pay32 x u (k0_pay28 a z) (k0_pay29 z) (k0_pay30 wg) wo g (ix2 r c)
      = x (ix2 r c) + rms c1024 (fun k => g (ix2 0 k)) (dot (fun j => sigm (z (ix2 r ⟨1024 + j.val, by omega⟩)) * a (ix2 r j)
          + sigm (z (ix2 r ⟨2048 + j.val, by omega⟩)) * dot (fun k => u (ix2 r k)) (fun k j => wg (ix2 k j)) j) (fun k j => wo (ix2 k j))) c := by
  pointwise [k0_pay32, k0_pay28, k0_pay29, k0_pay30]
  rfl

theorem pay31_at (a : FVec Ideal S256x1024 .f32) (z : FVec Ideal S256x3072 .f32) (u : FVec Ideal S256x512 .bf16)
    (wg : Vec Ideal S512x1024 .bf16) (wo : Vec Ideal S1024x1024 .bf16) (r : Fin 256) (c : Fin 1024) :
    k0_pay31 a z u wg wo (ix2 r c)
      = dot (fun j => sigm (z (ix2 r ⟨1024 + j.val, by omega⟩)) * a (ix2 r j)
          + sigm (z (ix2 r ⟨2048 + j.val, by omega⟩)) * dot (fun k => u (ix2 r k)) (fun k j => wg (ix2 k j)) j) (fun k j => wo (ix2 k j)) c := by
  pointwise [k0_pay31]
  rfl

theorem pay1_at (x : Vec Ideal S256x1024 .f32) (a : FVec Ideal S256x1024 .f32) (z : FVec Ideal S256x3072 .f32) (u : FVec Ideal S256x512 .bf16)
    (wg : Vec Ideal S512x1024 .bf16) (wo : Vec Ideal S1024x1024 .bf16) (g : Vec Ideal S1x1024 .f32) (r : Fin 256) (c : Fin 1024) :
    k0_pay1 x (k0_pay31 a z u wg wo) (k0_pay33 g) (k0_pay34 a z u wg wo) (ix2 r c)
      = x (ix2 r c) + rms c1024 (fun k => g (ix2 0 k)) (fun k => k0_pay31 a z u wg wo (ix2 r k)) c := by
  pointwise [k0_pay1, k0_pay33, k0_pay34]
  rfl

/-- Group matrices and a chunk's rows, from the block's rows. -/
abbrev rowsOf (x : Vec Ideal S256x1024 .f32) (r : Fin 256) : Fin 128 → Fin 1024 → EReal :=
  fun t k => x (ix2 ⟨128 * (r.val / 128) + t.val, by omega⟩ k)

theorem self_row (r : Fin 256) (h : 128 * (r.val / 128) + r.val % 128 < 256) : (⟨128 * (r.val / 128) + r.val % 128, h⟩ : Fin 256) = r := Fin.ext (Nat.div_add_mod r.val 128)

/-- The first half's stored block. -/
theorem piece0 (x : Vec Ideal S256x1024 .f32) (o : Vec Ideal S256x512 .bf16) (g1 : Vec Ideal S1x1024 .f32) (w : Vec Ideal S1024x3072 .bf16)
    (lg lb : Vec Ideal S1x512 .f32) (w0 w1 w2 w3 : Vec Ideal S1x128x128 .bf16) (bs : Vec Ideal S128x512 .f32) (wn wg : Vec Ideal S512x1024 .bf16)
    (wo : Vec Ideal S1024x1024 .bf16) (g2 : Vec Ideal S1x1024 .f32) (r : Fin 256) (c : Fin 1024) :
    k0_pay32 x (k0_pay16 (k0_pay9 (k0_pay4 x g1 w)) (k0_pay12 (k0_pay10 (k0_pay4 x g1 w)) lg lb w0 w1 w2 w3 bs) (k0_pay13 (k0_pay10 (k0_pay4 x g1 w)) lg lb)
        (k0_pay14 w0) (k0_pay15 (k0_pay10 (k0_pay4 x g1 w)) lg lb) (constant S128x128 .f32 0x00000000#32) w1 w2 w3 bs)
      (k0_pay28 (k0_pay2 o wn) (k0_pay4 x g1 w)) (k0_pay29 (k0_pay4 x g1 w)) (k0_pay30 wg) wo g2 (ix2 r c)
      = mixRes (fun k => g1 (ix2 0 k)) (fun k j => w (ix2 k j)) (fun k => lg (ix2 0 k)) (fun k => lb (ix2 0 k)) (quad w0 w1 w2 w3) (fun t d => bs (ix2 t d))
          (fun k j => wn (ix2 k j)) (fun k j => wg (ix2 k j)) (fun k j => wo (ix2 k j)) (fun k => g2 (ix2 0 k))
          (rowsOf x r) (fun k => o (ix2 r k)) ⟨r.val % 128, by omega⟩ c := by
  rw [pay32_at]
  simp only [pay16_at, pay2_at, pay9_at, pay11_at, pay4_at]
  unfold mixRes merge rowsOf
  simp only [self_row]

/-- The second half's stored block. -/
theorem piece1 (x : Vec Ideal S256x1024 .f32) (o : Vec Ideal S256x512 .bf16) (g1 : Vec Ideal S1x1024 .f32) (w : Vec Ideal S1024x3072 .bf16)
    (lg lb : Vec Ideal S1x512 .f32) (w0 w1 w2 w3 : Vec Ideal S1x128x128 .bf16) (bs : Vec Ideal S128x512 .f32) (wn wg : Vec Ideal S512x1024 .bf16)
    (wo : Vec Ideal S1024x1024 .bf16) (g2 : Vec Ideal S1x1024 .f32) (z : FVec Ideal S256x3072 .f32)
    (hz : z = k0_pay7 x (k0_pay5 g1) (k0_pay6 x) (Scalar.ofBits .f32 0x44800000#32) w) (u : FVec Ideal S256x512 .bf16)
    (hu : u = k0_pay27 (k0_pay18 z) (k0_pay21 (k0_pay19 z) (k0_pay20 z) lg lb) (k0_pay22 (k0_pay19 z) (k0_pay20 z) lg lb) (k0_pay23 (k0_pay19 z) (k0_pay20 z) lg lb w0)
      (k0_pay24 (k0_pay19 z) (k0_pay20 z) lg lb w1) (k0_pay25 (k0_pay19 z) (k0_pay20 z) lg lb w2) (k0_pay26 w3) bs w0 w1 w2 w3 bs) (r : Fin 256) (c : Fin 1024) :
    k0_pay1 x (k0_pay31 (k0_pay3 o wn) z u wg wo) (k0_pay33 g2) (k0_pay34 (k0_pay3 o wn) z u wg wo) (ix2 r c)
      = mixRes (fun k => g1 (ix2 0 k)) (fun k j => w (ix2 k j)) (fun k => lg (ix2 0 k)) (fun k => lb (ix2 0 k)) (quad w0 w1 w2 w3) (fun t d => bs (ix2 t d))
          (fun k j => wn (ix2 k j)) (fun k j => wg (ix2 k j)) (fun k j => wo (ix2 k j)) (fun k => g2 (ix2 0 k))
          (rowsOf x r) (fun k => o (ix2 r k)) ⟨r.val % 128, by omega⟩ c := by
  rw [pay1_at]
  simp only [pay31_at]
  subst hu
  simp only [pay27_at, pay3_at, pay18_at, pay21_at]
  subst hz
  simp only [pay7_at]
  unfold mixRes merge rowsOf
  simp only [self_row]

end Cert.MixPay

end
-- ==== Proof.MixMask.lean ====
/- The causal mask of the mixing stage's group matrices. -/
module

public import proofs.«01_k».proof.Proof.MixRows
public import Idealize.ShloMosaic.Lib.Pointwise

@[expose] public section

noncomputable section

namespace Cert.MixMask

open Idealize.ShloMosaic

/-- The causal mask of a chunk's group matrices. -/
def low (a b : Fin 128) : EReal := if b.val ≤ a.val then 1 else 0

/-- The lower-triangular selection is a product with the mask. -/
theorem low_sel (x : EReal) (a b : Fin 128) :
    Scalar.select (IntOp.cmpi CmpIPredicate.sge (IntOp.addi (BitVec.ofNat 32 a.val) 0#32) (BitVec.ofNat 32 b.val)) x 0 = x * low a b := by
  have e : IntOp.cmpi CmpIPredicate.sge (IntOp.addi (BitVec.ofNat 32 a.val) 0#32) (BitVec.ofNat 32 b.val) = if b.val ≤ a.val then 1#1 else 0#1 := by
    revert a b; decide +kernel
  rw [e]
  unfold low
  by_cases h : b.val ≤ a.val
  · rw [if_pos h, if_pos h, mul_one]; rfl
  · rw [if_neg h, if_neg h, mul_zero]; rfl

end Cert.MixMask

end
-- ==== Proof.MixValue.lean ====
/- The mixing kernel's result array as row functions of its arguments. -/
module

public import proofs.«01_k».proof.Proof.Gen.MixIdeal.Value
public import proofs.«01_k».proof.Proof.MixPay
public import proofs.«01_k».proof.Proof.MixMask
public import Idealize.ShloMosaic.Lib.Pipeline.ValueKit
public import Idealize.ShloMosaic.Lib.Pointwise
public import Idealize.ShloMosaic.Lib.Claim

@[expose] public section

set_option maxRecDepth 16384

noncomputable section

namespace Cert.MixVal

open Cert.MixIdeal Cert.MixIdeal.Gen Cert.Rows Idealize.ShloMosaic Idealize.ShloMosaic.TcCoe
open scoped BigOperators

/-- Row `r` of the result, from the argument arrays. -/
def rowG (x : Vec Ideal S32768x1024 .f32) (o : Vec Ideal S32768x512 .bf16) (g1 : Vec Ideal S1x1024 .f32) (w : Vec Ideal S1x1024x4376 .f32)
    (lg lb : Vec Ideal S1x512 .f32) (ws : Vec Ideal S1x4x128x128 .f32) (bs : Vec Ideal S1x4x128 .f32) (wn wg : Vec Ideal S1x512x1024 .f32)
    (wo : Vec Ideal S1x1024x1024 .f32) (g2 : Vec Ideal S1x1024 .f32) (r : Fin 32768) : Fin 1024 → EReal :=
  mixRes (fun k => g1 (ix2 0 k)) (fun k j => w (ix3 0 k ⟨1304 + j.val, by omega⟩)) (fun k => lg (ix2 0 k)) (fun k => lb (ix2 0 k))
    (fun g a b => ws (ix4 0 g a b) * MixMask.low a b) (fun t d => bs (ix3 0 ⟨d.val / 128, by omega⟩ t)) (fun k j => wn (ix3 0 k j)) (fun k j => wg (ix3 0 k j))
    (fun k j => wo (ix3 0 k j)) (fun k => g2 (ix2 0 k)) (fun t k => x (ix2 ⟨128 * (r.val / 128) + t.val, by omega⟩ k)) (fun k => o (ix2 r k))
    ⟨r.val % 128, by omega⟩

/-- The result array. -/
def G (x : Vec Ideal S32768x1024 .f32) (o : Vec Ideal S32768x512 .bf16) (g1 : Vec Ideal S1x1024 .f32) (w : Vec Ideal S1x1024x4376 .f32)
    (lg lb : Vec Ideal S1x512 .f32) (ws : Vec Ideal S1x4x128x128 .f32) (bs : Vec Ideal S1x4x128 .f32) (wn wg : Vec Ideal S1x512x1024 .f32)
    (wo : Vec Ideal S1x1024x1024 .f32) (g2 : Vec Ideal S1x1024 .f32) : Vec Ideal S32768x1024 .f32 :=
  fun i => rowG x o g1 w lg lb ws bs wn wg wo g2 (i 0) (i 1)

/-- The row functions of equal rows are equal. -/
theorem row_congr (g1 g2 : Fin 1024 → EReal) (w : Fin 1024 → Fin 3072 → EReal) (lg lb : Fin 512 → EReal) (bs : Fin 128 → Fin 512 → EReal)
    (wn wg : Fin 512 → Fin 1024 → EReal) (wo : Fin 1024 → Fin 1024 → EReal) {ws ws' : Fin 4 → Fin 128 → Fin 128 → EReal}
    {x x' : Fin 128 → Fin 1024 → EReal} {o o' : Fin 512 → EReal} {t t' : Fin 128} {b b' : Fin 1024}
    (hw : ws = ws') (hx : x = x') (ho : o = o') (ht : t = t') (hb : b = b') :
    mixRes g1 w lg lb ws bs wn wg wo g2 x o t b = mixRes g1 w lg lb ws' bs wn wg wo g2 x' o' t' b' := by
  subst hw hx ho ht hb; rfl

/-- The four group matrices loaded one by one. -/
theorem quad_ld (x6 : Vec Ideal S4x128x128 .bf16) :
    MixPay.quad (View.ld x6 r0_8) (View.ld x6 r0_9) (View.ld x6 r0_10) (View.ld x6 r0_11) = fun g a b => x6 (ix3 g a b) := by
  funext g a b
  fin_cases g
  · exact View.ld_unit_apply_of _ _ _ _ _ _ (by intro q; fin_cases q <;> simp)
  · exact View.ld_unit_apply_of _ _ _ _ _ _ (by intro q; fin_cases q <;> simp)
  · exact View.ld_unit_apply_of _ _ _ _ _ _ (by intro q; fin_cases q <;> simp)
  · exact View.ld_unit_apply_of _ _ _ _ _ _ (by intro q; fin_cases q <;> simp)

/-- The block a point leaves, at an index: the row functions of the point's input blocks. -/
theorem out_at (x0 : Vec Ideal S512x1024 .f32) (x1 : Vec Ideal S512x512 .bf16) (x2 : Vec Ideal S1x1024 .f32) (x3 : Vec Ideal S1024x3072 .bf16)
    (x4 x5 : Vec Ideal S1x512 .f32) (x6 : Vec Ideal S4x128x128 .bf16) (x7 : Vec Ideal S128x512 .f32) (x8 x9 : Vec Ideal S512x1024 .bf16)
    (x10 : Vec Ideal S1024x1024 .bf16) (x11 : Vec Ideal S1x1024 .f32) (ya : Fin 512) (yb : Fin 1024) :
    out0_12 x0 x1 x2 x3 x4 x5 x6 x7 x8 x9 x10 x11 (ix2 ya yb)
      = mixRes (fun k => x2 (ix2 0 k)) (fun k j => x3 (ix2 k j)) (fun k => x4 (ix2 0 k)) (fun k => x5 (ix2 0 k)) (fun g a b => x6 (ix3 g a b))
          (fun t d => x7 (ix2 t d)) (fun k j => x8 (ix2 k j)) (fun k j => x9 (ix2 k j)) (fun k j => x10 (ix2 k j)) (fun k => x11 (ix2 0 k))
          (fun t k => x0 (ix2 ⟨128 * (ya.val / 128) + t.val, by omega⟩ k)) (fun k => x1 (ix2 ya k)) ⟨ya.val % 128, by omega⟩ yb := by
  obtain ⟨y, hy⟩ : ∃ y, y = (ix2 ya yb : S512x1024.Idx) := ⟨_, rfl⟩
  have hya : (y 0).val = ya.val := by rw [hy]; rfl
  have hyb : (y 1).val = yb.val := by rw [hy]; rfl
  rw [← hy]
  unfold_out out0_12
  simp (disch := decide) only [View.ld_unit_lit]
  canon_tiles x h
  · obtain ⟨a, b, rfl⟩ : ∃ a b, x = ix2 a b := ⟨x 0, x 1, eq_ix2 x⟩
    have e1 : yb = b := Fin.ext (hyb.symm.trans h1)
    have h0 : ya.val = 256 + a.val := hya.symm.trans h0
    have ex : ∀ (t : Fin 128) (k : Fin 1024), View.ld x0 r0_4 (ix2 ⟨128 * (a.val / 128) + t.val, by omega⟩ k) = x0 (ix2 ⟨128 * (ya.val / 128) + t.val, by omega⟩ k) := fun t k =>
      View.ld_unit_apply_of _ _ _ _ _ _ (by intro q; fin_cases q <;> simp at x0_lt ⊢ <;> omega)
    have ep : ∀ k, View.ld x1 r0_2 (ix2 a k) = x1 (ix2 ya k) := fun k =>
      View.ld_unit_apply_of _ _ _ _ _ _ (by intro q; fin_cases q <;> simp at x0_lt ⊢ <;> omega)
    exact (MixPay.piece1 _ _ _ _ _ _ _ _ _ _ _ _ _ _ _ _ rfl _ rfl a b).trans
      (row_congr _ _ _ _ _ _ _ _ _ (quad_ld x6) (funext fun t => funext (ex t)) (funext ep) (Fin.ext (by simp; omega)) e1.symm)
  · obtain ⟨a, b, rfl⟩ : ∃ a b, x = ix2 a b := ⟨x 0, x 1, eq_ix2 x⟩
    have e1 : yb = b := Fin.ext (hyb.symm.trans h1)
    have h0 : ya.val = a.val := hya.symm.trans h0
    have ex : ∀ (t : Fin 128) (k : Fin 1024), View.ld x0 r0_3 (ix2 ⟨128 * (a.val / 128) + t.val, by omega⟩ k) = x0 (ix2 ⟨128 * (ya.val / 128) + t.val, by omega⟩ k) := fun t k =>
      View.ld_unit_apply_of _ _ _ _ _ _ (by intro q; fin_cases q <;> simp at x0_lt ⊢ <;> omega)
    have ep : ∀ k, View.ld x1 r0_0 (ix2 a k) = x1 (ix2 ya k) := fun k =>
      View.ld_unit_apply_of _ _ _ _ _ _ (by intro q; fin_cases q <;> simp at x0_lt ⊢ <;> omega)
    exact (MixPay.piece0 _ _ _ _ _ _ _ _ _ _ _ _ _ _ _ a b).trans
      (row_congr _ _ _ _ _ _ _ _ _ (quad_ld x6) (funext fun t => funext (ex t)) (funext ep) (Fin.ext (by simp; omega)) e1.symm)

variable (m : (ℓ : Loc nD τ sig) → Buf (Elt Ideal) ℓ)

/-- The result array of a core's arguments. -/
def Gm (c : Dev nD) : Vec Ideal S32768x1024 .f32 :=
  G (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10)) (m ((c : Thread nD τ).loc main_arg11))

theorem idx : ∀ t : Fin grid0.N, win0_0.index t = ![t.val, 0] ∧ win0_1.index t = ![t.val, 0] ∧ win0_12.index t = ![t.val, 0] := by
  decide +kernel

theorem idxw : ∀ t : Fin grid0.N, win0_2.index t = ![0, 0] ∧ win0_3.index t = ![0, 0] ∧ win0_4.index t = ![0, 0] ∧ win0_5.index t = ![0, 0]
    ∧ win0_6.index t = ![0, 0, 0] ∧ win0_7.index t = ![0, 0] ∧ win0_8.index t = ![0, 0] ∧ win0_9.index t = ![0, 0] ∧ win0_10.index t = ![0, 0]
    ∧ win0_11.index t = ![0, 0] := by
  decide +kernel

theorem blk0 (c : Dev nD) (t : Fin grid0.N) (a : Fin 512) (r : Fin 32768) (h : r.val = 512 * t.val + a.val) (k : Fin 1024) :
    iblk m c 0 t (ix2 a k) = m ((c : Thread nD τ).loc main_arg0) (ix2 r k) := by
  blk_ext! [iblk, V, (idx t).1]

theorem blk1 (c : Dev nD) (t : Fin grid0.N) (a : Fin 512) (r : Fin 32768) (h : r.val = 512 * t.val + a.val) (k : Fin 512) :
    iblk m c 1 t (ix2 a k) = m ((c : Thread nD τ).loc main_arg1) (ix2 r k) := by
  blk_ext! [iblk, V, (idx t).2.1]

theorem V15 (c : Dev nD) (k : Fin 1024) : V m c main_v15 (ix2 0 k) = m ((c : Thread nD τ).loc main_arg2) (ix2 0 k) := by
  simp only [V, hostOps0, hostOps0_1, hostOps0_2, List.flatten_cons, List.flatten_nil, List.append_nil, List.cons_append, List.nil_append,
    StableHlo.TRef.binary, StableHlo.TRef.nullary, StableHlo.TRef.unary, StableHlo.TRef.ternary, StableHlo.TRef.toBuf, StableHlo.TRef.ofBuf, cast_eq]
  after_results_simp
  pointwise

theorem blk2 (c : Dev nD) (t : Fin grid0.N) (k : Fin 1024) : iblk m c 2 t (ix2 0 k) = m ((c : Thread nD τ).loc main_arg2) (ix2 0 k) := by
  refine Eq.trans ?_ (V15 m c k)
  blk_ext [iblk, (idxw t).1]

theorem V2 (c : Dev nD) (a : Fin 1024) (k : Fin 3072) : V m c main_v2 (ix2 a k) = m ((c : Thread nD τ).loc main_arg3) (ix3 0 a ⟨1304 + k.val, by omega⟩) := by
  simp only [V, hostOps0, hostOps0_1, hostOps0_2, List.flatten_cons, List.flatten_nil, List.append_nil, List.cons_append, List.nil_append,
    StableHlo.TRef.binary, StableHlo.TRef.nullary, StableHlo.TRef.unary, StableHlo.TRef.ternary, StableHlo.TRef.toBuf, StableHlo.TRef.ofBuf, cast_eq]
  after_results_simp
  pointwise

theorem blk3 (c : Dev nD) (t : Fin grid0.N) (a : Fin 1024) (k : Fin 3072) : iblk m c 3 t (ix2 a k) = m ((c : Thread nD τ).loc main_arg3) (ix3 0 a ⟨1304 + k.val, by omega⟩) := by
  refine Eq.trans ?_ (V2 m c a k)
  blk_ext [iblk, (idxw t).2.1]

theorem V17 (c : Dev nD) (k : Fin 512) : V m c main_v17 (ix2 0 k) = m ((c : Thread nD τ).loc main_arg4) (ix2 0 k) := by
  simp only [V, hostOps0, hostOps0_1, hostOps0_2, List.flatten_cons, List.flatten_nil, List.append_nil, List.cons_append, List.nil_append,
    StableHlo.TRef.binary, StableHlo.TRef.nullary, StableHlo.TRef.unary, StableHlo.TRef.ternary, StableHlo.TRef.toBuf, StableHlo.TRef.ofBuf, cast_eq]
  after_results_simp
  pointwise

theorem blk4 (c : Dev nD) (t : Fin grid0.N) (k : Fin 512) : iblk m c 4 t (ix2 0 k) = m ((c : Thread nD τ).loc main_arg4) (ix2 0 k) := by
  refine Eq.trans ?_ (V17 m c k)
  blk_ext [iblk, (idxw t).2.2.1]

theorem V19 (c : Dev nD) (k : Fin 512) : V m c main_v19 (ix2 0 k) = m ((c : Thread nD τ).loc main_arg5) (ix2 0 k) := by
  simp only [V, hostOps0, hostOps0_1, hostOps0_2, List.flatten_cons, List.flatten_nil, List.append_nil, List.cons_append, List.nil_append,
    StableHlo.TRef.binary, StableHlo.TRef.nullary, StableHlo.TRef.unary, StableHlo.TRef.ternary, StableHlo.TRef.toBuf, StableHlo.TRef.ofBuf, cast_eq]
  after_results_simp
  pointwise

theorem blk5 (c : Dev nD) (t : Fin grid0.N) (k : Fin 512) : iblk m c 5 t (ix2 0 k) = m ((c : Thread nD τ).loc main_arg5) (ix2 0 k) := by
  refine Eq.trans ?_ (V19 m c k)
  blk_ext [iblk, (idxw t).2.2.2.1]

theorem V9 (c : Dev nD) (g : Fin 4) (a b : Fin 128) : V m c main_v9 (ix3 g a b) = (show EReal from m ((c : Thread nD τ).loc main_arg6) (ix4 0 g a b)) * MixMask.low a b := by
  simp only [V, hostOps0, hostOps0_1, hostOps0_2, List.flatten_cons, List.flatten_nil, List.append_nil, List.cons_append, List.nil_append,
    StableHlo.TRef.binary, StableHlo.TRef.nullary, StableHlo.TRef.unary, StableHlo.TRef.ternary, StableHlo.TRef.toBuf, StableHlo.TRef.ofBuf, cast_eq]
  after_results_simp
  pointwise
  exact MixMask.low_sel _ a b

theorem blk6 (c : Dev nD) (t : Fin grid0.N) (g : Fin 4) (a b : Fin 128) : iblk m c 6 t (ix3 g a b) = (show EReal from m ((c : Thread nD τ).loc main_arg6) (ix4 0 g a b)) * MixMask.low a b := by
  refine Eq.trans ?_ (V9 m c g a b)
  blk_ext [iblk, (idxw t).2.2.2.2.1]

theorem V13 (c : Dev nD) (a : Fin 128) (k : Fin 512) : V m c main_v13 (ix2 a k) = m ((c : Thread nD τ).loc main_arg7) (ix3 0 ⟨k.val / 128, by omega⟩ a) := by
  simp only [V, hostOps0, hostOps0_1, hostOps0_2, List.flatten_cons, List.flatten_nil, List.append_nil, List.cons_append, List.nil_append,
    StableHlo.TRef.binary, StableHlo.TRef.nullary, StableHlo.TRef.unary, StableHlo.TRef.ternary, StableHlo.TRef.toBuf, StableHlo.TRef.ofBuf, cast_eq]
  after_results_simp
  pointwise

theorem blk7 (c : Dev nD) (t : Fin grid0.N) (a : Fin 128) (k : Fin 512) : iblk m c 7 t (ix2 a k) = m ((c : Thread nD τ).loc main_arg7) (ix3 0 ⟨k.val / 128, by omega⟩ a) := by
  refine Eq.trans ?_ (V13 m c a k)
  blk_ext [iblk, (idxw t).2.2.2.2.2.1]

theorem V21 (c : Dev nD) (a : Fin 512) (k : Fin 1024) : V m c main_v21 (ix2 a k) = m ((c : Thread nD τ).loc main_arg8) (ix3 0 a k) := by
  simp only [V, hostOps0, hostOps0_1, hostOps0_2, List.flatten_cons, List.flatten_nil, List.append_nil, List.cons_append, List.nil_append,
    StableHlo.TRef.binary, StableHlo.TRef.nullary, StableHlo.TRef.unary, StableHlo.TRef.ternary, StableHlo.TRef.toBuf, StableHlo.TRef.ofBuf, cast_eq]
  after_results_simp
  pointwise

theorem blk8 (c : Dev nD) (t : Fin grid0.N) (a : Fin 512) (k : Fin 1024) : iblk m c 8 t (ix2 a k) = m ((c : Thread nD τ).loc main_arg8) (ix3 0 a k) := by
  refine Eq.trans ?_ (V21 m c a k)
  blk_ext [iblk, (idxw t).2.2.2.2.2.2.1]

theorem V23 (c : Dev nD) (a : Fin 512) (k : Fin 1024) : V m c main_v23 (ix2 a k) = m ((c : Thread nD τ).loc main_arg9) (ix3 0 a k) := by
  simp only [V, hostOps0, hostOps0_1, hostOps0_2, List.flatten_cons, List.flatten_nil, List.append_nil, List.cons_append, List.nil_append,
    StableHlo.TRef.binary, StableHlo.TRef.nullary, StableHlo.TRef.unary, StableHlo.TRef.ternary, StableHlo.TRef.toBuf, StableHlo.TRef.ofBuf, cast_eq]
  after_results_simp
  pointwise

theorem blk9 (c : Dev nD) (t : Fin grid0.N) (a : Fin 512) (k : Fin 1024) : iblk m c 9 t (ix2 a k) = m ((c : Thread nD τ).loc main_arg9) (ix3 0 a k) := by
  refine Eq.trans ?_ (V23 m c a k)
  blk_ext [iblk, (idxw t).2.2.2.2.2.2.2.1]

theorem V25 (c : Dev nD) (a k : Fin 1024) : V m c main_v25 (ix2 a k) = m ((c : Thread nD τ).loc main_arg10) (ix3 0 a k) := by
  simp only [V, hostOps0, hostOps0_1, hostOps0_2, List.flatten_cons, List.flatten_nil, List.append_nil, List.cons_append, List.nil_append,
    StableHlo.TRef.binary, StableHlo.TRef.nullary, StableHlo.TRef.unary, StableHlo.TRef.ternary, StableHlo.TRef.toBuf, StableHlo.TRef.ofBuf, cast_eq]
  after_results_simp
  pointwise

theorem blk10 (c : Dev nD) (t : Fin grid0.N) (a k : Fin 1024) : iblk m c 10 t (ix2 a k) = m ((c : Thread nD τ).loc main_arg10) (ix3 0 a k) := by
  refine Eq.trans ?_ (V25 m c a k)
  blk_ext [iblk, (idxw t).2.2.2.2.2.2.2.2.1]

theorem V27 (c : Dev nD) (k : Fin 1024) : V m c main_v27 (ix2 0 k) = m ((c : Thread nD τ).loc main_arg11) (ix2 0 k) := by
  simp only [V, hostOps0, hostOps0_1, hostOps0_2, List.flatten_cons, List.flatten_nil, List.append_nil, List.cons_append, List.nil_append,
    StableHlo.TRef.binary, StableHlo.TRef.nullary, StableHlo.TRef.unary, StableHlo.TRef.ternary, StableHlo.TRef.toBuf, StableHlo.TRef.ofBuf, cast_eq]
  after_results_simp
  pointwise

theorem blk11 (c : Dev nD) (t : Fin grid0.N) (k : Fin 1024) : iblk m c 11 t (ix2 0 k) = m ((c : Thread nD τ).loc main_arg11) (ix2 0 k) := by
  refine Eq.trans ?_ (V27 m c k)
  blk_ext [iblk, (idxw t).2.2.2.2.2.2.2.2.2]

/-- The kernel's result array after the run. -/
theorem arr (c : Dev nD) : (dats m 0 c).arrAt 12 cfg0.N = Gm m c := by
  refine (dats m 0 c).arrAt_eq_of_covers 12 _ (by decide +kernel) fun t hf y => ?_
  blk_simp
  rw [after0_12]
  have ht : t.val < 64 := t.isLt
  obtain ⟨a, b, rfl⟩ : ∃ (a : Fin 512) (b : Fin 1024), y = ix2 a b := ⟨y 0, y 1, eq_ix2 y⟩
  have hr : 512 * t.val + a.val < 32768 := by omega
  have e0 : (win0_12.blk t).view.emb (ix2 a b) = ix2 (⟨512 * t.val + a.val, hr⟩ : Fin 32768) b := by
    blk_ext [(idx t).2.2]
  refine (out_at _ _ _ _ _ _ _ _ _ _ _ _ a b).trans (Eq.trans ?_ (congrArg (Gm m c) e0).symm)
  simp only [Gm, G, rowG, ix2_0, ix2_1]
  simp only [blk2, blk3, blk4, blk5, blk6, blk7, blk8, blk9, blk10, blk11]
  refine row_congr _ _ _ _ _ _ _ _ _ rfl (funext fun i => funext fun k => blk0 m c t _ _ ?_ k) (funext fun k => blk1 m c t a _ rfl k) (Fin.ext ?_) rfl
  · simp; omega
  · simp; omega

end Cert.MixVal

end
-- ==== Proof.MixRefRead.lean ====
/- The mixing reference's result read as the same row functions. -/
module

public import proofs.«01_k».proof.Proof.Gen.MixRefIdeal.Read
public import proofs.«01_k».proof.Proof.MixValue
public import Idealize.ShloMosaic.Lib.Pointwise

@[expose] public section

set_option maxRecDepth 16384

noncomputable section

namespace Cert.MixRef

open Cert.MixRefIdeal Cert.MixRefIdeal.Read Cert.Rows Idealize.ShloMosaic Idealize.ShloMosaic.TcCoe
open scoped BigOperators

variable (x0 : (⟨S32768x1024, .f32⟩ : BufTy).Contents (Elt Ideal)) (x1 : (⟨S32768x512, .bf16⟩ : BufTy).Contents (Elt Ideal))
  (x2 : (⟨S1x1024, .f32⟩ : BufTy).Contents (Elt Ideal)) (x3 : (⟨S1x1024x4376, .f32⟩ : BufTy).Contents (Elt Ideal))
  (x4 x5 : (⟨S1x512, .f32⟩ : BufTy).Contents (Elt Ideal)) (x6 : (⟨S1x4x128x128, .f32⟩ : BufTy).Contents (Elt Ideal))
  (x7 : (⟨S1x4x128, .f32⟩ : BufTy).Contents (Elt Ideal)) (x8 x9 : (⟨S1x512x1024, .f32⟩ : BufTy).Contents (Elt Ideal))
  (x10 : (⟨S1x1024x1024, .f32⟩ : BufTy).Contents (Elt Ideal)) (x11 : (⟨S1x1024, .f32⟩ : BufTy).Contents (Elt Ideal))

theorem v13_at (r : Fin 32768) (c : Fin 1024) : val_main_v13 (F := Ideal) x0 x2 (ix2 r c)
    = rms c1024 (fun k => x2 (ix2 0 k)) (fun k => x0 (ix2 r k)) c := by
  pointwise [val_main_v13, val_main_v10, val_main_v9, val_main_v8, val_main_v7, val_main_v5, val_main_v3, val_main_v2, val_main_v1, val_main_cst, val_main_v4, val_main_cst_0, val_main_v6, val_main_cst_1, val_main_v12, val_main_v11, val_main_v0]
  rfl

theorem v16_at (r : Fin 32768) (c : Fin 3072) : val_main_v16 (F := Ideal) x0 x2 x3 (ix2 r c)
    = dot (fun k => val_main_v13 (F := Ideal) x0 x2 (ix2 r k)) (fun k j => x3 (ix3 0 k ⟨1304 + j.val, by omega⟩)) c := by
  pointwise [val_main_v16, val_main_v15, val_main_v14]
  rfl

theorem v31_at (r : Fin 32768) (c : Fin 1024) : val_main_v31 (F := Ideal) x0 x2 x3 (ix2 r c)
    = gelu (val_main_v16 (F := Ideal) x0 x2 x3 (ix2 r ⟨c.val, by omega⟩)) := by
  pointwise [val_main_v31, val_main_v17, val_main_v30, val_main_v29, val_main_cst_5, val_main_v28, val_main_v27, val_main_cst_4, val_main_v26, val_main_v25, val_main_v24, val_main_cst_3, val_main_v23, val_main_v22, val_main_v21, val_main_cst_2, val_main_v20, val_main_v19]
  unfold gelu
  rw [mul_assoc (G := EReal)]

theorem v59_at (r : Fin 32768) (d : Fin 512) : val_main_v59 (F := Ideal) x0 x2 x3 x4 x5 (ix2 r d)
    = lnorm c512 (fun k => x4 (ix2 0 k)) (fun k => x5 (ix2 0 k)) (fun j => val_main_v31 (F := Ideal) x0 x2 x3 (ix2 r ⟨512 + j.val, by omega⟩)) d := by
  pointwise [val_main_v59, val_main_v56, val_main_v53, val_main_v48, val_main_v33, val_main_v47, val_main_v39, val_main_v37, val_main_v36, val_main_cst_6, val_main_v38, val_main_cst_7, val_main_v52, val_main_v51, val_main_v50, val_main_v46, val_main_v44, val_main_v43, val_main_v42, val_main_v41, val_main_v40, val_main_cst_8, val_main_v45, val_main_cst_9, val_main_v49, val_main_cst_10, val_main_v55, val_main_v54, val_main_v34, val_main_v58, val_main_v57, val_main_v35]
  rfl

theorem v68_at (g : Fin 4) (a b : Fin 128) : val_main_v68 (F := Ideal) x6 (ix3 g a b)
    = (show EReal from x6 (ix4 0 g a b)) * MixMask.low a b := by
  pointwise [val_main_v68, val_main_v61, val_main_v67, val_main_v66, val_main_v65, val_main_call0_v4, val_main_call0_v2, val_main_call0_v0, val_main_call0_v1, val_main_call0_c, val_main_call0_v3, val_main_v64, val_main_cst_11, val_main_call0_v5, val_main_call0_cst]
  exact MixMask.low_sel _ a b

theorem v74_at (b : Fin 4) (n : Fin 64) (t : Fin 128) (g : Fin 4) (e : Fin 128) : val_main_v74 (F := Ideal) x0 x2 x3 x4 x5 x6 x7 (ix5 b n t g e)
    = (∑ k : Fin 128, (show EReal from val_main_v63 (F := Ideal) x0 x2 x3 x4 x5 (ix5 b n k g e)) * val_main_v68 (F := Ideal) x6 (ix3 g t k)) + x7 (ix3 0 g t) := by
  pointwise [val_main_v74, val_main_v70, val_main_v69, val_main_v73, val_main_v72, val_main_v71, val_main_v62]

theorem v63_at (b : Fin 4) (n : Fin 64) (t : Fin 128) (g : Fin 4) (e : Fin 128) : val_main_v63 (F := Ideal) x0 x2 x3 x4 x5 (ix5 b n t g e)
    = val_main_v59 (F := Ideal) x0 x2 x3 x4 x5 (ix2 ⟨b.val * 8192 + (n.val * 128 + t.val), by omega⟩ ⟨g.val * 128 + e.val, by omega⟩) := by
  pointwise [val_main_v63, val_main_v60]

theorem v75_at (b : Fin 4) (s : Fin 8192) (d : Fin 512) : val_main_v75 (F := Ideal) x0 x2 x3 x4 x5 x6 x7 (ix3 b s d)
    = val_main_v74 (F := Ideal) x0 x2 x3 x4 x5 x6 x7 (ix5 b ⟨s.val / 128, by omega⟩ ⟨s.val % 128, by omega⟩ ⟨d.val / 128, by omega⟩ ⟨d.val % 128, by omega⟩) := by
  pointwise [val_main_v75]

theorem v77_at (r : Fin 32768) (d : Fin 512) : val_main_v77 (F := Ideal) x0 x2 x3 x4 x5 x6 x7 (ix2 r d)
    = val_main_v31 (F := Ideal) x0 x2 x3 (ix2 r ⟨d.val, by omega⟩) * val_main_v75 (F := Ideal) x0 x2 x3 x4 x5 x6 x7 (ix3 ⟨r.val / 8192, by omega⟩ ⟨r.val % 8192, by omega⟩ d) := by
  pointwise [val_main_v77, val_main_v32, val_main_v76]

theorem v93_at (r : Fin 32768) (c : Fin 1024) : val_main_v93 (F := Ideal) x0 x1 x2 x3 x4 x5 x6 x7 x8 x9 (ix2 r c)
    = merge (fun k j => x8 (ix3 0 k j)) (fun k j => x9 (ix3 0 k j)) (fun k => x1 (ix2 r k)) (fun k => val_main_v77 (F := Ideal) x0 x2 x3 x4 x5 x6 x7 (ix2 r k)) (fun k => val_main_v16 (F := Ideal) x0 x2 x3 (ix2 r k)) c := by
  pointwise [val_main_v93, val_main_v89, val_main_v84, val_main_v83, val_main_v82, val_main_cst_13, val_main_v81, val_main_v80, val_main_cst_12, val_main_v79, val_main_v78, val_main_v18, val_main_v88, val_main_v86, val_main_v87, val_main_v92, val_main_v85, val_main_v91, val_main_v90]
  have e : (⟨1024 + (1024 + c.val), by omega⟩ : Fin 3072) = ⟨2048 + c.val, by omega⟩ := Fin.ext (by simp only []; omega)
  rw [e]
  rfl

theorem v95_at (r : Fin 32768) (c : Fin 1024) : val_main_v95 (F := Ideal) x0 x1 x2 x3 x4 x5 x6 x7 x8 x9 x10 (ix2 r c)
    = dot (fun k => val_main_v93 (F := Ideal) x0 x1 x2 x3 x4 x5 x6 x7 x8 x9 (ix2 r k)) (fun k j => x10 (ix3 0 k j)) c := by
  pointwise [val_main_v95, val_main_v94]
  rfl

theorem v110_at (r : Fin 32768) (c : Fin 1024) : val_main_v110 (F := Ideal) x0 x1 x2 x3 x4 x5 x6 x7 x8 x9 x10 x11 (ix2 r c)
    = x0 (ix2 r c) + rms c1024 (fun k => x11 (ix2 0 k)) (fun k => val_main_v95 (F := Ideal) x0 x1 x2 x3 x4 x5 x6 x7 x8 x9 x10 (ix2 r k)) c := by
  pointwise [val_main_v110, val_main_v109, val_main_v106, val_main_v105, val_main_v104, val_main_v103, val_main_v101, val_main_v99, val_main_v98, val_main_v97, val_main_cst_14, val_main_v100, val_main_cst_15, val_main_v102, val_main_cst_16, val_main_v108, val_main_v107, val_main_v96]
  rfl

theorem s_at (r : Fin 32768) (d : Fin 512) : val_main_v75 (F := Ideal) x0 x2 x3 x4 x5 x6 x7 (ix3 ⟨r.val / 8192, by omega⟩ ⟨r.val % 8192, by omega⟩ d)
    = gmS (fun g a b => x6 (ix4 0 g a b) * MixMask.low a b) (fun t d => x7 (ix3 0 ⟨d.val / 128, by omega⟩ t))
        (fun t i => val_main_v59 (F := Ideal) x0 x2 x3 x4 x5 (ix2 ⟨128 * (r.val / 128) + t.val, by omega⟩ i)) ⟨r.val % 128, by omega⟩ d := by
  rw [v75_at, v74_at]
  unfold gmS dot
  have ht : (⟨r.val % 8192 % 128, by omega⟩ : Fin 128) = ⟨r.val % 128, by omega⟩ := Fin.ext (by simp only []; omega)
  have hd : (⟨d.val / 128 * 128 + d.val % 128, by omega⟩ : Fin 512) = d := Fin.ext (by simp only []; omega)
  have hk : ∀ k : Fin 128, (⟨r.val / 8192 * 8192 + (r.val % 8192 / 128 * 128 + k.val), by omega⟩ : Fin 32768) = ⟨128 * (r.val / 128) + k.val, by omega⟩ :=
    fun k => Fin.ext (by simp only []; omega)
  simp only [v63_at, v68_at, ht, hd, hk]
  exact congrArg₂ (· + ·) (Finset.sum_congr rfl fun k _ => mul_comm (G := EReal) _ _) rfl

/-- The reference's result array. -/
theorem ref_eq : val_main_v110 (F := Ideal) x0 x1 x2 x3 x4 x5 x6 x7 x8 x9 x10 x11 = MixVal.G x0 x1 x2 x3 x4 x5 x6 x7 x8 x9 x10 x11 := by
  funext i
  obtain ⟨r, c, rfl⟩ : ∃ r c, i = ix2 r c := ⟨i 0, i 1, eq_ix2 i⟩
  have hr : (⟨128 * (r.val / 128) + r.val % 128, by omega⟩ : Fin 32768) = r := Fin.ext (by simp only []; omega)
  rw [v110_at]
  simp only [v95_at, v93_at, v77_at, s_at, v59_at, v31_at, v16_at, v13_at]
  simp only [MixVal.G, MixVal.rowG, mixRes, gmV, ix2_0, ix2_1, hr]

end Cert.MixRef

end
-- ==== Proof.MixClaim.lean ====
/- The mixing claim: the kernel's result is the reference's. -/
module

public import proofs.«01_k».proof.Defs
public import proofs.«01_k».proof.Proof.Gen.Mix
public import proofs.«01_k».proof.Proof.Gen.MixRefIdeal
public import proofs.«01_k».proof.Proof.Gen.MixRefIdeal.Run
public import proofs.«01_k».proof.Proof.MixRefRead
public import Idealize.ShloMosaic.Adequacy

@[expose] public section

set_option maxRecDepth 16384

noncomputable section

namespace Cert.MixClaim

open Idealize.ShloMosaic Idealize.ShloMosaic.TcCoe Idealize.SL.Sem Cert.MixRefIdeal

theorem algebraic : algebraic_MixIdeal_MixRefIdeal (hMixIdeal := Cert.MixIdeal.Gen.facts) (hMixRefIdeal := Cert.MixRefIdeal.Gen.facts) := by
  intro m ρ m' ρ' _ hag
  refine ⟨fun c => MixVal.Gm m c, ?_, ?_⟩
  · exact (θ_run _ _ _).mono (fun r h c => ⟨(h c).1.trans (MixVal.arr m c), (h c).2⟩) (Cert.MixIdeal.Value.run_blocks m ρ)
  · refine (θ_run _ _ _).mono (fun r h c => ⟨(h c).1.trans ?_, (h c).2⟩) (Cert.MixRefIdeal.Value.run m' ρ')
    obtain ⟨h0, h1, h2, h3, h4, h5, h6, h7, h8, h9, h10, h11⟩ := hag c
    rw [Read.val_main_v110_eq, MixRef.ref_eq]
    refine Eq.trans (b := MixVal.G (m' ((c : Thread nD τ).loc main_arg0)) (m' ((c : Thread nD τ).loc main_arg1)) (m' ((c : Thread nD τ).loc main_arg2)) (m' ((c : Thread nD τ).loc main_arg3)) (m' ((c : Thread nD τ).loc main_arg4)) (m' ((c : Thread nD τ).loc main_arg5)) (m' ((c : Thread nD τ).loc main_arg6)) (m' ((c : Thread nD τ).loc main_arg7)) (m' ((c : Thread nD τ).loc main_arg8)) (m' ((c : Thread nD τ).loc main_arg9)) (m' ((c : Thread nD τ).loc main_arg10)) (m' ((c : Thread nD τ).loc main_arg11))) rfl ?_
    rw [h0, h1, h2, h3, h4, h5, h6, h7, h8, h9, h10, h11]
    rfl

end Cert.MixClaim

end
-- ==== Proof.InRowsValue.lean ====
/- The sample rows' projection as a row function of the arguments. -/
module

public import proofs.«01_k».proof.Proof.Gen.InRowsIdeal.Frame
public import proofs.«01_k».proof.Proof.Rows
public import Idealize.ShloMosaic.Lib.Pipeline.ValueKit
public import Idealize.ShloMosaic.Lib.Pointwise
public import Idealize.ShloMosaic.Lib.Claim

@[expose] public section

set_option maxRecDepth 16384

noncomputable section

namespace Cert.InRowsVal

open Cert.InRowsIdeal Cert.InRowsIdeal.Gen Cert.Rows Idealize.ShloMosaic Idealize.ShloMosaic.TcCoe
open scoped BigOperators

/-- Column `512 + j` of the projection of sample `s`. -/
def Z (x : Vec Ideal S32x1x1024 .f32) (g : Vec Ideal S1x1024 .f32) (w : Vec Ideal S1x1024x4376 .f32) (s : Fin 32) (j : Fin 768) : EReal :=
  dot (rms c1024 (fun k => g (ix2 0 k)) (fun k => x (ix3 s 0 k))) (fun k (j : Fin 768) => w (ix3 0 k ⟨512 + j.val, by omega⟩)) j

/-- A cached row of the samples, its columns split into key/value, head and lane; `off` shifts the columns. -/
def G (off : Nat) (h : off + 256 ≤ 768) (x : Vec Ideal S32x1x1024 .f32) (g : Vec Ideal S1x1024 .f32) (w : Vec Ideal S1x1024x4376 .f32) : Vec Ideal S1x32x1x2x2x64 .f32 :=
  fun i => Z x g w (i 1) ⟨off + ((i 3).val * 128 + (i 4).val * 64 + (i 5).val), by
    have h3 : (i 3).val < 2 := (i 3).isLt
    have h4 : (i 4).val < 2 := (i 4).isLt
    have h5 : (i 5).val < 64 := (i 5).isLt
    omega⟩

/-- The window moved on by one position: the old rows from the second on, then the new row. -/
def W (x : Vec Ideal S32x1x1024 .f32) (g : Vec Ideal S1x1024 .f32) (w : Vec Ideal S1x1024x4376 .f32) (st : Vec Ideal S1x32x512x2x2x64 .f32) : Vec Ideal S1x32x512x2x2x64 .f32 :=
  fun i => if h : (i 2).val < 511 then st (ix6 0 (i 1) ⟨(i 2).val + 1, by omega⟩ (i 3) (i 4) (i 5))
    else G 512 (by omega) x g w (ix6 0 (i 1) 0 (i 3) (i 4) (i 5))

theorem pay1 (x : Vec Ideal S32x1024 .f32) (g : Vec Ideal S1x1024 .f32) (w : Vec Ideal S1024x1408 .bf16) (a : Fin 32) (j : Fin 1408) :
    k0_pay1 x g w (ix2 a j) = dot (rms c1024 (fun k => g (ix2 0 k)) (fun k => x (ix2 a k))) (fun k j => w (ix2 k j)) j := by
  pointwise [k0_pay1]
  rfl

variable (m : (ℓ : Loc nD τ sig) → Buf (Elt Ideal) ℓ)

theorem V10 (c : Dev nD) (k : Fin 1024) : V m c main_v10 (ix2 0 k) = m ((c : Thread nD τ).loc main_arg1) (ix2 0 k) := by
  simp only [V, V0, hostOps0, List.flatten_cons, List.flatten_nil, List.append_nil, List.cons_append, List.nil_append,
    StableHlo.TRef.binary, StableHlo.TRef.nullary, StableHlo.TRef.unary, StableHlo.TRef.ternary, StableHlo.TRef.toBuf, StableHlo.TRef.ofBuf, cast_eq]
  after_results_simp
  pointwise

theorem V00 (c : Dev nD) (s : Fin 32) (k : Fin 1024) : V m c main_v0 (ix2 s k) = m ((c : Thread nD τ).loc main_arg0) (ix3 s 0 k) := by
  simp only [V, V0, hostOps0, List.flatten_cons, List.flatten_nil, List.append_nil, List.cons_append, List.nil_append,
    StableHlo.TRef.binary, StableHlo.TRef.nullary, StableHlo.TRef.unary, StableHlo.TRef.ternary, StableHlo.TRef.toBuf, StableHlo.TRef.ofBuf, cast_eq]
  after_results_simp
  pointwise

theorem V8 (c : Dev nD) (k : Fin 1024) (j : Fin 768) : V m c main_v8 (ix2 k ⟨512 + j.val, by omega⟩) = m ((c : Thread nD τ).loc main_arg2) (ix3 0 k ⟨512 + j.val, by omega⟩) := by
  simp only [V, V0, hostOps0, List.flatten_cons, List.flatten_nil, List.append_nil, List.cons_append, List.nil_append,
    StableHlo.TRef.binary, StableHlo.TRef.nullary, StableHlo.TRef.unary, StableHlo.TRef.ternary, StableHlo.TRef.toBuf, StableHlo.TRef.ofBuf, cast_eq]
  after_results_simp
  pointwise
  after_results_simp
  pointwise
  exact dif_pos (by omega)

/-- The projection's rows, over what the call finds. -/
def A (c : Dev nD) : Vec Ideal S32x1408 .f32 := fun i =>
  dot (rms c1024 (fun k => V m c main_v10 (ix2 0 k)) (fun k => V m c main_v0 (ix2 (i 0) k))) (fun k (j : Fin 1408) => V m c main_v8 (ix2 k j)) (i 1)

theorem idx : ∀ t : Fin grid0.N, win0_0.index t = ![0, 0] ∧ win0_1.index t = ![0, 0] ∧ win0_2.index t = ![0, 0] ∧ win0_3.index t = ![0, 0] := by
  decide +kernel

theorem out_at (v : Vec Ideal S32x1024 .f32) (g : Vec Ideal S1x1024 .f32) (w : Vec Ideal S1024x1408 .bf16) (a : Fin 32) (b : Fin 1408) :
    out0_3 v g w (ix2 a b) = dot (rms c1024 (fun k => g (ix2 0 k)) (fun k => v (ix2 a k))) (fun k j => w (ix2 k j)) b := by
  obtain ⟨y, hy⟩ : ∃ y, y = (ix2 a b : S32x1408.Idx) := ⟨_, rfl⟩
  have hya : (y 0).val = a.val := by rw [hy]; rfl
  have hyb : (y 1).val = b.val := by rw [hy]; rfl
  rw [← hy]
  unfold out0_3
  simp (disch := decide) only [View.ld_unit_lit]
  canon_tiles x h
  obtain ⟨p, q, rfl⟩ : ∃ p q, x = ix2 p q := ⟨x 0, x 1, eq_ix2 x⟩
  obtain rfl : a = p := Fin.ext (hya.symm.trans h0)
  obtain rfl : b = q := Fin.ext (hyb.symm.trans h1)
  exact pay1 _ _ _ a b

theorem arr (c : Dev nD) : (dats m 0 c).arrAt 3 cfg0.N = A m c := by
  refine (dats m 0 c).arrAt_eq_of_covers 3 _ (by decide +kernel) fun t hf y => ?_
  blk_simp
  rw [after0_3]
  obtain ⟨a, b, rfl⟩ : ∃ (a : Fin 32) (b : Fin 1408), y = ix2 a b := ⟨y 0, y 1, eq_ix2 y⟩
  have e0 : ((cfg0.win 3).blk t).view.emb (ix2 a b) = ix2 a b := by blk_ext [(idx t).2.2.2]
  have b0 : ∀ k : Fin 1024, iblk m c 0 t (ix2 a k) = V m c main_v0 (ix2 a k) := fun k => by blk_ext [iblk, (idx t).1]
  have b1 : ∀ k : Fin 1024, iblk m c 1 t (ix2 0 k) = V m c main_v10 (ix2 0 k) := fun k => by blk_ext [iblk, (idx t).2.1]
  have b2 : ∀ (k : Fin 1024) (j : Fin 1408), iblk m c 2 t (ix2 k j) = V m c main_v8 (ix2 k j) := fun k j => by blk_ext [iblk, (idx t).2.2.1]
  refine (out_at _ _ _ a b).trans (Eq.trans ?_ (congrArg (A m c) e0).symm)
  simp only [b0, b1, b2]
  rfl

/-- The columns the caches take, from the arguments. -/
theorem arr_at (c : Dev nD) (s : Fin 32) (j : Fin 768) : A m c (ix2 s ⟨512 + j.val, by omega⟩)
    = Z (m ((c : Thread nD τ).loc main_arg0)) (m ((c : Thread nD τ).loc main_arg1)) (m ((c : Thread nD τ).loc main_arg2)) s j := by
  unfold A Z dot
  refine Finset.sum_congr rfl fun k _ => ?_
  beta_reduce
  refine congrArg₂ (· * ·) ?_ (V8 m c k j)
  exact congrArg₂ (fun u v => rms c1024 u v k) (funext fun k => V10 m c k) (funext fun k => V00 m c s k)

theorem W_lt (x : Vec Ideal S32x1x1024 .f32) (g : Vec Ideal S1x1024 .f32) (w : Vec Ideal S1x1024x4376 .f32) (st : Vec Ideal S1x32x512x2x2x64 .f32)
    (b : Fin 32) (c : Fin 512) (p q : Fin 2) (d : Fin 64) (h : c.val < 511) : W x g w st (ix6 0 b c p q d) = st (ix6 0 b ⟨c.val + 1, by omega⟩ p q d) := by
  unfold W
  exact dif_pos h

theorem W_ge (x : Vec Ideal S32x1x1024 .f32) (g : Vec Ideal S1x1024 .f32) (w : Vec Ideal S1x1024x4376 .f32) (st : Vec Ideal S1x32x512x2x2x64 .f32)
    (b : Fin 32) (c : Fin 512) (p q : Fin 2) (d : Fin 64) (h : ¬ c.val < 511) : W x g w st (ix6 0 b c p q d) = G 512 (by omega) x g w (ix6 0 b 0 p q d) := by
  unfold W
  exact dif_neg h

/-- What the lines after the call leave in the first result. -/
theorem tail19 (U : Valuation τ sig (Elt Ideal)) (s : Fin 32) (p q : Fin 2) (d : Fin 64) :
    (StableHlo.after (List.flatten [hostOps1]) U (Proc.devRef .tc main_v19) : Vec Ideal S1x32x1x2x2x64 .f32) (ix6 0 s 0 p q d)
      = (U (Proc.devRef .tc main_v11) : Vec Ideal S32x1408 .f32) (ix2 s ⟨512 + (0 + (p.val * 128 + q.val * 64 + d.val)), by omega⟩) := by
  simp only [hostOps1, List.flatten_cons, List.flatten_nil, List.append_nil, List.cons_append, List.nil_append,
    StableHlo.TRef.binary, StableHlo.TRef.nullary, StableHlo.TRef.unary, StableHlo.TRef.ternary, StableHlo.TRef.toBuf, StableHlo.TRef.ofBuf, cast_eq]
  after_results_simp
  pointwise

/-- And in the second. -/
theorem tail21 (U : Valuation τ sig (Elt Ideal)) (s : Fin 32) (p q : Fin 2) (d : Fin 64) :
    (StableHlo.after (List.flatten [hostOps1]) U (Proc.devRef .tc main_v21) : Vec Ideal S1x32x1x2x2x64 .f32) (ix6 0 s 0 p q d)
      = (U (Proc.devRef .tc main_v11) : Vec Ideal S32x1408 .f32) (ix2 s ⟨512 + (256 + (p.val * 128 + q.val * 64 + d.val)), by omega⟩) := by
  simp only [hostOps1, List.flatten_cons, List.flatten_nil, List.append_nil, List.cons_append, List.nil_append,
    StableHlo.TRef.binary, StableHlo.TRef.nullary, StableHlo.TRef.unary, StableHlo.TRef.ternary, StableHlo.TRef.toBuf, StableHlo.TRef.ofBuf, cast_eq]
  after_results_simp
  pointwise
  exact congrArg (U (Proc.devRef .tc main_v11) : Vec Ideal S32x1408 .f32) (congrArg (ix2 s) (Fin.ext (by simp only []; omega)))

/-- And in the third. -/
theorem tail23 (U : Valuation τ sig (Elt Ideal)) (s : Fin 32) (e : Fin 512) (p q : Fin 2) (d : Fin 64) :
    (StableHlo.after (List.flatten [hostOps1]) U (Proc.devRef .tc main_v23) : Vec Ideal S1x32x512x2x2x64 .f32) (ix6 0 s e p q d)
      = if h : e.val < 511 then (U (Proc.devRef .tc main_arg3) : Vec Ideal S1x32x512x2x2x64 .f32) (ix6 0 s ⟨e.val + 1, by omega⟩ p q d)
        else (U (Proc.devRef .tc main_v11) : Vec Ideal S32x1408 .f32) (ix2 s ⟨512 + (512 + (p.val * 128 + q.val * 64 + d.val)), by omega⟩) := by
  simp only [hostOps1, List.flatten_cons, List.flatten_nil, List.append_nil, List.cons_append, List.nil_append,
    StableHlo.TRef.binary, StableHlo.TRef.nullary, StableHlo.TRef.unary, StableHlo.TRef.ternary, StableHlo.TRef.toBuf, StableHlo.TRef.ofBuf, cast_eq]
  after_results_simp
  pointwise
  by_cases h : e.val < 511
  · rw [dif_pos h, dif_pos (by omega)]
    after_results_simp
    pointwise
    exact congrArg (U (Proc.devRef .tc main_arg3) : Vec Ideal S1x32x512x2x2x64 .f32) (congrArg (fun k => ix6 (0 : Fin 1) s k p q d) (Fin.ext (by simp only []; omega)))
  · rw [dif_neg h, dif_neg (by omega)]
    after_results_simp
    pointwise
    exact congrArg (U (Proc.devRef .tc main_v11) : Vec Ideal S32x1408 .f32) (congrArg (ix2 s) (Fin.ext (by simp only []; omega)))

/-- The device's buffers when the call is over. -/
abbrev U (c : Dev nD) : Valuation τ sig (Elt Ideal) := Pipeline.withArrays (cfgs 0).spec c (V0 m c) fun w => (dats m 0 c).arrAt w (cfgs 0).N

theorem U11 (c : Dev nD) (s : Fin 32) (j : Fin 768) : (U m c (Proc.devRef .tc main_v11) : Vec Ideal S32x1408 .f32) (ix2 s ⟨512 + j.val, by omega⟩)
    = Z (m ((c : Thread nD τ).loc main_arg0)) (m ((c : Thread nD τ).loc main_arg1)) (m ((c : Thread nD τ).loc main_arg2)) s j := by
  have h : U m c (Proc.devRef .tc main_v11) = (dats m 0 c).arrAt 3 cfg0.N := Pipeline.withArrays_arr (cfgs 0).spec (by decide) c _ _ 3
  exact (congrFun h _).trans ((congrFun (arr m c) _).trans (arr_at m c s j))

theorem U3 (c : Dev nD) : U m c (Proc.devRef .tc main_arg3) = m ((c : Thread nD τ).loc main_arg3) :=
  (Pipeline.withArrays_of_ne (cfgs 0).spec c _ _ main_arg3 (by decide)).trans (V_main_arg3 m c)

theorem out19 (c : Dev nD) : Pipeline.afterTail₀ cfgs (dats m) 0 (V0 m) [hostOps1] c main_v19
    = G 0 (by omega) (m ((c : Thread nD τ).loc main_arg0)) (m ((c : Thread nD τ).loc main_arg1)) (m ((c : Thread nD τ).loc main_arg2)) := by
  refine funext fun (i : S1x32x1x2x2x64.Idx) => ?_
  obtain ⟨a, b, e, p, q, d, rfl⟩ : ∃ a b c d e f, i = ix6 a b c d e f := ⟨i 0, i 1, i 2, i 3, i 4, i 5, eq_ix6 i⟩
  obtain rfl : a = 0 := Subsingleton.elim _ _
  obtain rfl : e = 0 := Subsingleton.elim _ _
  exact (tail19 (U m c) b p q d).trans (U11 m c b ⟨0 + (p.val * 128 + q.val * 64 + d.val), by omega⟩)

theorem out21 (c : Dev nD) : Pipeline.afterTail₀ cfgs (dats m) 0 (V0 m) [hostOps1] c main_v21
    = G 256 (by omega) (m ((c : Thread nD τ).loc main_arg0)) (m ((c : Thread nD τ).loc main_arg1)) (m ((c : Thread nD τ).loc main_arg2)) := by
  refine funext fun (i : S1x32x1x2x2x64.Idx) => ?_
  obtain ⟨a, b, e, p, q, d, rfl⟩ : ∃ a b c d e f, i = ix6 a b c d e f := ⟨i 0, i 1, i 2, i 3, i 4, i 5, eq_ix6 i⟩
  obtain rfl : a = 0 := Subsingleton.elim _ _
  obtain rfl : e = 0 := Subsingleton.elim _ _
  exact (tail21 (U m c) b p q d).trans (U11 m c b ⟨256 + (p.val * 128 + q.val * 64 + d.val), by omega⟩)

theorem out23 (c : Dev nD) : Pipeline.afterTail₀ cfgs (dats m) 0 (V0 m) [hostOps1] c main_v23
    = W (m ((c : Thread nD τ).loc main_arg0)) (m ((c : Thread nD τ).loc main_arg1)) (m ((c : Thread nD τ).loc main_arg2)) (m ((c : Thread nD τ).loc main_arg3)) := by
  refine funext fun (i : S1x32x512x2x2x64.Idx) => ?_
  obtain ⟨a, b, e, p, q, d, rfl⟩ : ∃ a b c d e f, i = ix6 a b c d e f := ⟨i 0, i 1, i 2, i 3, i 4, i 5, eq_ix6 i⟩
  obtain rfl : a = 0 := Subsingleton.elim _ _
  refine (tail23 (U m c) b e p q d).trans ?_
  by_cases h : e.val < 511
  · rw [dif_pos h]
    exact (congrFun (U3 m c) _).trans (W_lt _ _ _ _ b e p q d h).symm
  · rw [dif_neg h]
    exact (U11 m c b ⟨512 + (p.val * 128 + q.val * 64 + d.val), by omega⟩).trans (W_ge _ _ _ _ b e p q d h).symm

end Cert.InRowsVal

end
-- ==== Proof.InRowsRefRead.lean ====
/- The sample rows' reference read as the same row functions. -/
module

public import proofs.«01_k».proof.Proof.Gen.InRowsRefIdeal.Read
public import proofs.«01_k».proof.Proof.InRowsValue
public import Idealize.ShloMosaic.Lib.Pointwise

@[expose] public section

set_option maxRecDepth 16384

noncomputable section

namespace Cert.InRowsRef

open Cert.InRowsRefIdeal Cert.InRowsRefIdeal.Read Cert.Rows Idealize.ShloMosaic Idealize.ShloMosaic.TcCoe
open scoped BigOperators

variable (x0 : (⟨S32x1x1024, .f32⟩ : BufTy).Contents (Elt Ideal)) (x1 : (⟨S1x1024, .f32⟩ : BufTy).Contents (Elt Ideal))
  (x2 : (⟨S1x1024x4376, .f32⟩ : BufTy).Contents (Elt Ideal)) (x3 : (⟨S1x32x512x2x2x64, .f32⟩ : BufTy).Contents (Elt Ideal))

theorem v13_at (s : Fin 32) (c : Fin 1024) : val_main_v13 (F := Ideal) x0 x1 (ix3 s 0 c)
    = rms c1024 (fun k => x1 (ix2 0 k)) (fun k => x0 (ix3 s 0 k)) c := by
  pointwise [val_main_v13, val_main_v12, val_main_v11, val_main_v10, val_main_v9, val_main_v8, val_main_v7, val_main_v6, val_main_cst_1, val_main_v5, val_main_v4, val_main_cst_0, val_main_v3, val_main_v2, val_main_cst, val_main_v1, val_main_v0]
  rfl

theorem v15_at (s : Fin 32) (j : Fin 768) : val_main_v15 (F := Ideal) x0 x1 x2 (ix3 s 0 ⟨512 + j.val, by omega⟩) = InRowsVal.Z x0 x1 x2 s j := by
  have h : ∀ j : Fin 4376, val_main_v15 (F := Ideal) x0 x1 x2 (ix3 s 0 j) = dot (fun k => val_main_v13 (F := Ideal) x0 x1 (ix3 s 0 k)) (fun k (j : Fin 4376) => x2 (ix3 0 k j)) j := by
    intro j
    pointwise [val_main_v15, val_main_v14]
    rfl
  rw [h]
  simp only [v13_at]
  rfl

theorem v17_at (s : Fin 32) (p q : Fin 2) (d : Fin 64) : val_main_v17 (F := Ideal) x0 x1 x2 (ix5 s 0 p q d)
    = InRowsVal.G 0 (by omega) x0 x1 x2 (ix6 0 s 0 p q d) := by
  refine Eq.trans ?_ (v15_at x0 x1 x2 s ⟨0 + (p.val * 128 + q.val * 64 + d.val), by omega⟩)
  pointwise [val_main_v17, val_main_v16]

theorem v19_at (s : Fin 32) (p q : Fin 2) (d : Fin 64) : val_main_v19 (F := Ideal) x0 x1 x2 (ix5 s 0 p q d)
    = InRowsVal.G 256 (by omega) x0 x1 x2 (ix6 0 s 0 p q d) := by
  refine Eq.trans ?_ (v15_at x0 x1 x2 s ⟨256 + (p.val * 128 + q.val * 64 + d.val), by omega⟩)
  pointwise [val_main_v19, val_main_v18]
  exact congrArg (val_main_v15 (F := Ideal) x0 x1 x2) (congrArg (ix3 s 0) (Fin.ext (by simp only []; omega)))

theorem v21_at (s : Fin 32) (p q : Fin 2) (d : Fin 64) : val_main_v21 (F := Ideal) x0 x1 x2 (ix5 s 0 p q d)
    = InRowsVal.G 512 (by omega) x0 x1 x2 (ix6 0 s 0 p q d) := by
  refine Eq.trans ?_ (v15_at x0 x1 x2 s ⟨512 + (p.val * 128 + q.val * 64 + d.val), by omega⟩)
  pointwise [val_main_v21, val_main_v20]
  exact congrArg (val_main_v15 (F := Ideal) x0 x1 x2) (congrArg (ix3 s 0) (Fin.ext (by simp only []; omega)))

theorem ref24 : val_main_v24 (F := Ideal) x0 x1 x2 = InRowsVal.G 0 (by omega) x0 x1 x2 := by
  funext i
  obtain ⟨a, b, c, d, e, f, rfl⟩ : ∃ a b c d e f, i = ix6 a b c d e f := ⟨i 0, i 1, i 2, i 3, i 4, i 5, eq_ix6 i⟩
  obtain rfl : a = 0 := Subsingleton.elim _ _
  obtain rfl : c = 0 := Subsingleton.elim _ _
  pointwise [val_main_v24]
  exact v17_at x0 x1 x2 b d e f

theorem ref25 : val_main_v25 (F := Ideal) x0 x1 x2 = InRowsVal.G 256 (by omega) x0 x1 x2 := by
  funext i
  obtain ⟨a, b, c, d, e, f, rfl⟩ : ∃ a b c d e f, i = ix6 a b c d e f := ⟨i 0, i 1, i 2, i 3, i 4, i 5, eq_ix6 i⟩
  obtain rfl : a = 0 := Subsingleton.elim _ _
  obtain rfl : c = 0 := Subsingleton.elim _ _
  pointwise [val_main_v25]
  exact v19_at x0 x1 x2 b d e f

theorem ref27 : val_main_v27 (F := Ideal) x0 x1 x2 x3 = InRowsVal.W x0 x1 x2 x3 := by
  funext i
  obtain ⟨a, b, c, d, e, f, rfl⟩ : ∃ a b c d e f, i = ix6 a b c d e f := ⟨i 0, i 1, i 2, i 3, i 4, i 5, eq_ix6 i⟩
  obtain rfl : a = 0 := Subsingleton.elim _ _
  pointwise [val_main_v27, val_main_v26, val_main_v23, val_main_v22]
  by_cases h : c.val < 511
  · rw [dif_pos (by omega)]
    refine Eq.trans (congrArg x3 ?_) (InRowsVal.W_lt x0 x1 x2 x3 b c d e f h).symm
    exact congrArg (fun k => ix6 (0 : Fin 1) b k d e f) (Fin.ext (by simp only [ix6_2]; omega))
  · rw [dif_neg (by omega)]
    refine Eq.trans ?_ (InRowsVal.W_ge x0 x1 x2 x3 b c d e f h).symm
    refine Eq.trans (congrArg (val_main_v21 (F := Ideal) x0 x1 x2) ?_) (v21_at x0 x1 x2 b d e f)
    exact congrArg (fun k => ix5 b k d e f) (Subsingleton.elim (α := Fin 1) _ _)

end Cert.InRowsRef

end
-- ==== Proof.InRowsClaim.lean ====
/- The sample rows' claim: the two cached rows and the moved window are the reference's. -/
module

public import proofs.«01_k».proof.Defs
public import proofs.«01_k».proof.Proof.Gen.InRows
public import proofs.«01_k».proof.Proof.Gen.InRowsRefIdeal
public import proofs.«01_k».proof.Proof.Gen.InRowsRefIdeal.Run
public import proofs.«01_k».proof.Proof.InRowsRefRead
public import Idealize.ShloMosaic.Adequacy

@[expose] public section

set_option maxRecDepth 16384

noncomputable section

namespace Cert.InRowsClaim

open Idealize.ShloMosaic Idealize.ShloMosaic.TcCoe Idealize.SL.Sem Cert.InRowsRefIdeal

theorem algebraic : algebraic_InRowsIdeal_InRowsRefIdeal (hInRowsIdeal := Cert.InRowsIdeal.Gen.facts) (hInRowsRefIdeal := Cert.InRowsRefIdeal.Gen.facts) := by
  intro m ρ m' ρ' _ hag
  refine ⟨fun c => InRowsVal.G 0 (by omega) (m ((c : Thread InRowsIdeal.nD InRowsIdeal.τ).loc InRowsIdeal.main_arg0)) (m ((c : Thread InRowsIdeal.nD InRowsIdeal.τ).loc InRowsIdeal.main_arg1)) (m ((c : Thread InRowsIdeal.nD InRowsIdeal.τ).loc InRowsIdeal.main_arg2)),
    fun c => InRowsVal.G 256 (by omega) (m ((c : Thread InRowsIdeal.nD InRowsIdeal.τ).loc InRowsIdeal.main_arg0)) (m ((c : Thread InRowsIdeal.nD InRowsIdeal.τ).loc InRowsIdeal.main_arg1)) (m ((c : Thread InRowsIdeal.nD InRowsIdeal.τ).loc InRowsIdeal.main_arg2)),
    fun c => InRowsVal.W (m ((c : Thread InRowsIdeal.nD InRowsIdeal.τ).loc InRowsIdeal.main_arg0)) (m ((c : Thread InRowsIdeal.nD InRowsIdeal.τ).loc InRowsIdeal.main_arg1)) (m ((c : Thread InRowsIdeal.nD InRowsIdeal.τ).loc InRowsIdeal.main_arg2)) (m ((c : Thread InRowsIdeal.nD InRowsIdeal.τ).loc InRowsIdeal.main_arg3)), ?_, ?_⟩
  · refine (θ_run _ _ _).mono (fun r h c => ?_) (θ_run_and (Cert.InRowsIdeal.Gen.run_main m ρ) (Cert.InRowsIdeal.Gen.unchanged m ρ))
    exact ⟨((h.1 c).2 _ (by decide)).trans (InRowsVal.out19 m c), ((h.1 c).2 _ (by decide)).trans (InRowsVal.out21 m c),
      ((h.1 c).2 _ (by decide)).trans (InRowsVal.out23 m c), h.2 c⟩
  · refine (θ_run _ _ _).mono (fun r h c => ?_) (Cert.InRowsRefIdeal.Value.run m' ρ')
    obtain ⟨r0, r1, r2, rest⟩ := h c
    obtain ⟨h0, h1, h2, h3⟩ := hag c
    refine ⟨r0.trans ?_, r1.trans ?_, r2.trans ?_, rest⟩
    · rw [Read.val_main_v24_eq, InRowsRef.ref24, h0, h1, h2]
    · rw [Read.val_main_v25_eq, InRowsRef.ref25, h0, h1, h2]
    · rw [Read.val_main_v27_eq, InRowsRef.ref27, h0, h1, h2, h3]

end Cert.InRowsClaim

end
-- ==== Proof.MixSValue.lean ====
/- The mixing kernel's sample rows as row functions of its arguments. -/
module

public import proofs.«01_k».proof.Proof.Gen.MixSIdeal.Value
public import proofs.«01_k».proof.Proof.MixRows
public import Idealize.ShloMosaic.Lib.Pipeline.ValueKit
public import Idealize.ShloMosaic.Lib.Pointwise
public import Idealize.ShloMosaic.Lib.Claim

@[expose] public section

set_option maxRecDepth 16384

noncomputable section

namespace Cert.MixSVal

open Cert.MixSIdeal Cert.MixSIdeal.Gen Cert.Rows Idealize.ShloMosaic Idealize.ShloMosaic.TcCoe
open scoped BigOperators

/-- A single row after mixing: its group matrices have shrunk to one weight and one offset per column. -/
def oneRes (g1 : Fin 1024 → EReal) (w : Fin 1024 → Fin 3072 → EReal) (lg lb wr br : Fin 512 → EReal)
    (wn wg : Fin 512 → Fin 1024 → EReal) (wo : Fin 1024 → Fin 1024 → EReal) (g2 : Fin 1024 → EReal)
    (x : Fin 1024 → EReal) (o : Fin 512 → EReal) (j : Fin 1024) : EReal :=
  x j + rms c1024 g2 (dot (merge wn wg o
    (fun d => gelu (dot (rms c1024 g1 x) w ⟨d.val, by omega⟩) * (gmV lg lb (dot (rms c1024 g1 x) w) d * wr d + br d))
    (dot (rms c1024 g1 x) w)) wo) j

/-- The residual row of sequence `r`, from the argument arrays. -/
def rowX (x : Vec Ideal S32x1x1024 .f32) (o : Vec Ideal S32x8x64 .f32) (g1 : Vec Ideal S1x1024 .f32) (w : Vec Ideal S1x1024x4376 .f32)
    (lg lb : Vec Ideal S1x512 .f32) (ws : Vec Ideal S1x4x128x128 .f32) (bs : Vec Ideal S1x4x128 .f32) (wn wg : Vec Ideal S1x512x1024 .f32)
    (wo : Vec Ideal S1x1024x1024 .f32) (g2 : Vec Ideal S1x1024 .f32) (r : Fin 32) : Fin 1024 → EReal :=
  oneRes (fun k => g1 (ix2 0 k)) (fun k j => w (ix3 0 k ⟨1304 + j.val, by omega⟩)) (fun k => lg (ix2 0 k)) (fun k => lb (ix2 0 k))
    (fun d => ws (ix4 0 ⟨d.val / 128, by omega⟩ 0 0)) (fun d => bs (ix3 0 ⟨d.val / 128, by omega⟩ 0)) (fun k j => wn (ix3 0 k j)) (fun k j => wg (ix3 0 k j))
    (fun k j => wo (ix3 0 k j)) (fun k => g2 (ix2 0 k)) (fun k => x (ix3 r 0 k)) (fun k => o (ix3 r ⟨k.val / 64, by omega⟩ ⟨k.val % 64, by omega⟩))

/-- The gated unit's row of sequence `r`, from the argument arrays. -/
def rowV (x : Vec Ideal S32x1x1024 .f32) (g1 : Vec Ideal S1x1024 .f32) (w : Vec Ideal S1x1024x4376 .f32) (lg lb : Vec Ideal S1x512 .f32) (r : Fin 32) : Fin 512 → EReal :=
  gmV (fun k => lg (ix2 0 k)) (fun k => lb (ix2 0 k))
    (dot (rms c1024 (fun k => g1 (ix2 0 k)) (fun k => x (ix3 r 0 k))) (fun k j => w (ix3 0 k ⟨1304 + j.val, by omega⟩)))

/-- The residual rows. -/
def GX (x : Vec Ideal S32x1x1024 .f32) (o : Vec Ideal S32x8x64 .f32) (g1 : Vec Ideal S1x1024 .f32) (w : Vec Ideal S1x1024x4376 .f32)
    (lg lb : Vec Ideal S1x512 .f32) (ws : Vec Ideal S1x4x128x128 .f32) (bs : Vec Ideal S1x4x128 .f32) (wn wg : Vec Ideal S1x512x1024 .f32)
    (wo : Vec Ideal S1x1024x1024 .f32) (g2 : Vec Ideal S1x1024 .f32) : Vec Ideal S32x1024 .f32 :=
  fun i => rowX x o g1 w lg lb ws bs wn wg wo g2 (i 0) (i 1)

/-- The gated unit's rows. -/
def GV (x : Vec Ideal S32x1x1024 .f32) (g1 : Vec Ideal S1x1024 .f32) (w : Vec Ideal S1x1024x4376 .f32) (lg lb : Vec Ideal S1x512 .f32) : Vec Ideal S32x512 .f32 :=
  fun i => rowV x g1 w lg lb (i 0) (i 1)

theorem pay2_at (v0 : Vec Ideal S32x512 .bf16) (v1 : Vec Ideal S512x1024 .bf16) (r : Fin 32) (c : Fin 1024) :
    k0_pay2 v0 v1 (ix2 r c) = dot (fun k => v0 (ix2 r k)) (fun k j => v1 (ix2 k j)) c := by
  pointwise [k0_pay2]
  rfl

theorem pay4_at (x : Vec Ideal S32x1024 .f32) (g : Vec Ideal S1x1024 .f32) (w : Vec Ideal S1024x3072 .bf16) (r : Fin 32) (c : Fin 3072) :
    k0_pay4 x g w (ix2 r c) = dot (rms c1024 (fun k => g (ix2 0 k)) (fun k => x (ix2 r k))) (fun k j => w (ix2 k j)) c := by
  pointwise [k0_pay4, k0_pay3]
  rfl

theorem pay5_at (x : Vec Ideal S32x1024 .f32) (g : Vec Ideal S1x1024 .f32) (w : Vec Ideal S1024x3072 .bf16) (r : Fin 32) (c : Fin 1024) :
    k0_pay5 x g w (ix2 r c) = gelu (dot (rms c1024 (fun k => g (ix2 0 k)) (fun k => x (ix2 r k))) (fun k j => w (ix2 k j)) ⟨c.val, by omega⟩) := by
  have h : k0_pay5 x g w (ix2 r c) = gelu (k0_pay4 x g w (ix2 r ⟨c.val, by omega⟩)) := by
    pointwise [k0_pay5]
    rfl
  rw [h, pay4_at]

theorem pay6_at (x : Vec Ideal S32x1024 .f32) (g : Vec Ideal S1x1024 .f32) (w : Vec Ideal S1024x3072 .bf16) (r : Fin 32) (c : Fin 512) :
    k0_pay6 x g w (ix2 r c) = gelu (dot (rms c1024 (fun k => g (ix2 0 k)) (fun k => x (ix2 r k))) (fun k j => w (ix2 k j)) ⟨c.val, by omega⟩) := by
  have h : k0_pay6 x g w (ix2 r c) = k0_pay5 x g w (ix2 r ⟨c.val, by omega⟩) := by
    pointwise [k0_pay6]
  rw [h, pay5_at]

theorem pay7_at (u : FVec Ideal S32x1024 .f32) (g b : Vec Ideal S1x512 .f32) (r : Fin 32) (c : Fin 512) :
    k0_pay7 u g b (ix2 r c) = lnorm c512 (fun k => g (ix2 0 k)) (fun k => b (ix2 0 k)) (fun j => u (ix2 r ⟨512 + j.val, by omega⟩)) c := by
  pointwise [k0_pay7]
  rfl

theorem pay8_at (u : FVec Ideal S32x1024 .f32) (p : FVec Ideal S32x512 .f32) (g b ws bs : Vec Ideal S1x512 .f32) (r : Fin 32) (c : Fin 512) :
    k0_pay8 u p g b ws bs (ix2 r c) = p (ix2 r c) * (k0_pay7 u g b (ix2 r c) * ws (ix2 0 c) + bs (ix2 0 c)) := by
  pointwise [k0_pay8]

theorem pay9_at (o : FVec Ideal S32x1024 .f32) (z : FVec Ideal S32x3072 .f32) (r : Fin 32) (c : Fin 1024) :
    k0_pay9 o z (ix2 r c) = sigm (z (ix2 r ⟨1024 + c.val, by omega⟩)) * o (ix2 r c) := by
  pointwise [k0_pay9]
  rfl

theorem pay10_at (z : FVec Ideal S32x3072 .f32) (r : Fin 32) (c : Fin 1024) : k0_pay10 z (ix2 r c) = z (ix2 r ⟨2048 + c.val, by omega⟩) := by
  pointwise [k0_pay10]

theorem pay1_at (x : Vec Ideal S32x1024 .f32) (u : FVec Ideal S32x512 .bf16) (t z : FVec Ideal S32x1024 .f32) (wg : Vec Ideal S512x1024 .bf16)
    (wo : Vec Ideal S1024x1024 .bf16) (g : Vec Ideal S1x1024 .f32) (r : Fin 32) (c : Fin 1024) :
    k0_pay1 (k0_pay3 x) u t z wg wo g (ix2 r c)
      = x (ix2 r c) + rms c1024 (fun k => g (ix2 0 k)) (dot (fun j => t (ix2 r j)
          + sigm (z (ix2 r j)) * dot (fun k => u (ix2 r k)) (fun k j => wg (ix2 k j)) j) (fun k j => wo (ix2 k j))) c := by
  pointwise [k0_pay1, k0_pay3]
  rfl

/-- The residual block, at an index. -/
theorem outx_at (x0 : Vec Ideal S32x1024 .f32) (x1 : Vec Ideal S32x512 .bf16) (x2 : Vec Ideal S1x1024 .f32) (x3 : Vec Ideal S1024x3072 .bf16)
    (x4 x5 x6 x7 : Vec Ideal S1x512 .f32) (x8 x9 : Vec Ideal S512x1024 .bf16)
    (x10 : Vec Ideal S1024x1024 .bf16) (x11 : Vec Ideal S1x1024 .f32) (ya : Fin 32) (yb : Fin 1024) :
    out0_12 x0 x1 x2 x3 x4 x5 x6 x7 x8 x9 x10 x11 (ix2 ya yb)
      = oneRes (fun k => x2 (ix2 0 k)) (fun k j => x3 (ix2 k j)) (fun k => x4 (ix2 0 k)) (fun k => x5 (ix2 0 k)) (fun k => x6 (ix2 0 k))
          (fun k => x7 (ix2 0 k)) (fun k j => x8 (ix2 k j)) (fun k j => x9 (ix2 k j)) (fun k j => x10 (ix2 k j)) (fun k => x11 (ix2 0 k))
          (fun k => x0 (ix2 ya k)) (fun k => x1 (ix2 ya k)) yb := by
  obtain ⟨y, hy⟩ : ∃ y, y = (ix2 ya yb : S32x1024.Idx) := ⟨_, rfl⟩
  have hya : (y 0).val = ya.val := by rw [hy]; rfl
  have hyb : (y 1).val = yb.val := by rw [hy]; rfl
  rw [← hy]
  unfold_out out0_12
  simp (disch := decide) only [View.ld_unit_lit]
  canon_tiles x h
  obtain ⟨a, b, rfl⟩ : ∃ a b, x = ix2 a b := ⟨x 0, x 1, eq_ix2 x⟩
  obtain rfl : ya = a := Fin.ext (hya.symm.trans h0)
  obtain rfl : yb = b := Fin.ext (hyb.symm.trans h1)
  refine (pay1_at _ _ _ _ _ _ _ ya yb).trans ?_
  simp only [pay2_at, pay4_at, pay5_at, pay6_at, pay7_at, pay8_at, pay9_at, pay10_at]
  rfl

/-- The gated unit's block, at an index. -/
theorem outv_at (x0 : Vec Ideal S32x1024 .f32) (x1 : Vec Ideal S32x512 .bf16) (x2 : Vec Ideal S1x1024 .f32) (x3 : Vec Ideal S1024x3072 .bf16)
    (x4 x5 x6 x7 : Vec Ideal S1x512 .f32) (x8 x9 : Vec Ideal S512x1024 .bf16)
    (x10 : Vec Ideal S1024x1024 .bf16) (x11 : Vec Ideal S1x1024 .f32) (ya : Fin 32) (yb : Fin 512) :
    out0_13 x0 x1 x2 x3 x4 x5 x6 x7 x8 x9 x10 x11 (ix2 ya yb)
      = gmV (fun k => x4 (ix2 0 k)) (fun k => x5 (ix2 0 k)) (dot (rms c1024 (fun k => x2 (ix2 0 k)) (fun k => x0 (ix2 ya k))) (fun k j => x3 (ix2 k j))) yb := by
  obtain ⟨y, hy⟩ : ∃ y, y = (ix2 ya yb : S32x512.Idx) := ⟨_, rfl⟩
  have hya : (y 0).val = ya.val := by rw [hy]; rfl
  have hyb : (y 1).val = yb.val := by rw [hy]; rfl
  rw [← hy]
  unfold_out out0_13
  simp (disch := decide) only [View.ld_unit_lit]
  canon_tiles x h
  obtain ⟨a, b, rfl⟩ : ∃ a b, x = ix2 a b := ⟨x 0, x 1, eq_ix2 x⟩
  obtain rfl : ya = a := Fin.ext (hya.symm.trans h0)
  obtain rfl : yb = b := Fin.ext (hyb.symm.trans h1)
  refine (pay7_at _ _ _ ya yb).trans ?_
  simp only [pay5_at]
  rfl

variable (m : (ℓ : Loc nD τ sig) → Buf (Elt Ideal) ℓ)

/-- The residual rows of a core's arguments. -/
def GXm (c : Dev nD) : Vec Ideal S32x1024 .f32 :=
  GX (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) (m ((c : Thread nD τ).loc main_arg7))
    (m ((c : Thread nD τ).loc main_arg8)) (m ((c : Thread nD τ).loc main_arg9)) (m ((c : Thread nD τ).loc main_arg10)) (m ((c : Thread nD τ).loc main_arg11))

/-- The gated unit's rows of a core's arguments. -/
def GVm (c : Dev nD) : Vec Ideal S32x512 .f32 :=
  GV (m ((c : Thread nD τ).loc main_arg0)) (m ((c : Thread nD τ).loc main_arg2)) (m ((c : Thread nD τ).loc main_arg3))
    (m ((c : Thread nD τ).loc main_arg4)) (m ((c : Thread nD τ).loc main_arg5))

theorem idx : ∀ t : Fin grid0.N, win0_0.index t = ![0, 0] ∧ win0_1.index t = ![0, 0] ∧ win0_12.index t = ![0, 0] ∧ win0_13.index t = ![0, 0] := by
  decide +kernel

theorem idxw : ∀ t : Fin grid0.N, win0_2.index t = ![0, 0] ∧ win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![0, 0] ∧ win0_10.index t = ![0, 0] ∧ win0_11.index t = ![0, 0] := by
  decide +kernel

theorem V0 (c : Dev nD) (a : Fin 32) (k : Fin 1024) : V m c main_v0 (ix2 a k) = m ((c : Thread nD τ).loc main_arg0) (ix3 a 0 k) := by
  simp only [V, hostOps0, List.flatten_cons, List.flatten_nil, List.append_nil, List.cons_append, List.nil_append,
    StableHlo.TRef.binary, StableHlo.TRef.nullary, StableHlo.TRef.unary, StableHlo.TRef.ternary, StableHlo.TRef.toBuf, StableHlo.TRef.ofBuf, cast_eq]
  after_results_simp
  pointwise

theorem blk0 (c : Dev nD) (t : Fin grid0.N) (a : Fin 32) (k : Fin 1024) : iblk m c 0 t (ix2 a k) = m ((c : Thread nD τ).loc main_arg0) (ix3 a 0 k) := by
  refine Eq.trans ?_ (V0 m c a k)
  blk_ext [iblk, (idx t).1]

theorem V33 (c : Dev nD) (a : Fin 32) (k : Fin 512) : V m c main_v33 (ix2 a k) = m ((c : Thread nD τ).loc main_arg1) (ix3 a ⟨k.val / 64, by omega⟩ ⟨k.val % 64, by omega⟩) := by
  simp only [V, hostOps0, List.flatten_cons, List.flatten_nil, List.append_nil, List.cons_append, List.nil_append,
    StableHlo.TRef.binary, StableHlo.TRef.nullary, StableHlo.TRef.unary, StableHlo.TRef.ternary, StableHlo.TRef.toBuf, StableHlo.TRef.ofBuf, cast_eq]
  after_results_simp
  pointwise

theorem blk1 (c : Dev nD) (t : Fin grid0.N) (a : Fin 32) (k : Fin 512) : iblk m c 1 t (ix2 a k) = m ((c : Thread nD τ).loc main_arg1) (ix3 a ⟨k.val / 64, by omega⟩ ⟨k.val % 64, by omega⟩) := by
  refine Eq.trans ?_ (V33 m c a k)
  blk_ext [iblk, (idx t).2.1]

theorem V5 (c : Dev nD) (k : Fin 1024) : V m c main_v5 (ix2 0 k) = m ((c : Thread nD τ).loc main_arg2) (ix2 0 k) := by
  simp only [V, hostOps0, List.flatten_cons, List.flatten_nil, List.append_nil, List.cons_append, List.nil_append,
    StableHlo.TRef.binary, StableHlo.TRef.nullary, StableHlo.TRef.unary, StableHlo.TRef.ternary, StableHlo.TRef.toBuf, StableHlo.TRef.ofBuf, cast_eq]
  after_results_simp
  pointwise

theorem blk2 (c : Dev nD) (t : Fin grid0.N) (k : Fin 1024) : iblk m c 2 t (ix2 0 k) = m ((c : Thread nD τ).loc main_arg2) (ix2 0 k) := by
  refine Eq.trans ?_ (V5 m c k)
  blk_ext [iblk, (idxw t).1]

theorem V3 (c : Dev nD) (a : Fin 1024) (k : Fin 3072) : V m c main_v3 (ix2 a k) = m ((c : Thread nD τ).loc main_arg3) (ix3 0 a ⟨1304 + k.val, by omega⟩) := by
  simp only [V, hostOps0, List.flatten_cons, List.flatten_nil, List.append_nil, List.cons_append, List.nil_append,
    StableHlo.TRef.binary, StableHlo.TRef.nullary, StableHlo.TRef.unary, StableHlo.TRef.ternary, StableHlo.TRef.toBuf, StableHlo.TRef.ofBuf, cast_eq]
  after_results_simp
  pointwise

theorem blk3 (c : Dev nD) (t : Fin grid0.N) (a : Fin 1024) (k : Fin 3072) : iblk m c 3 t (ix2 a k) = m ((c : Thread nD τ).loc main_arg3) (ix3 0 a ⟨1304 + k.val, by omega⟩) := by
  refine Eq.trans ?_ (V3 m c a k)
  blk_ext [iblk, (idxw t).2.1]

theorem V7 (c : Dev nD) (k : Fin 512) : V m c main_v7 (ix2 0 k) = m ((c : Thread nD τ).loc main_arg4) (ix2 0 k) := by
  simp only [V, hostOps0, List.flatten_cons, List.flatten_nil, List.append_nil, List.cons_append, List.nil_append,
    StableHlo.TRef.binary, StableHlo.TRef.nullary, StableHlo.TRef.unary, StableHlo.TRef.ternary, StableHlo.TRef.toBuf, StableHlo.TRef.ofBuf, cast_eq]
  after_results_simp
  pointwise

theorem blk4 (c : Dev nD) (t : Fin grid0.N) (k : Fin 512) : iblk m c 4 t (ix2 0 k) = m ((c : Thread nD τ).loc main_arg4) (ix2 0 k) := by
  refine Eq.trans ?_ (V7 m c k)
  blk_ext [iblk, (idxw t).2.2.1]

theorem V9 (c : Dev nD) (k : Fin 512) : V m c main_v9 (ix2 0 k) = m ((c : Thread nD τ).loc main_arg5) (ix2 0 k) := by
  simp only [V, hostOps0, List.flatten_cons, List.flatten_nil, List.append_nil, List.cons_append, List.nil_append,
    StableHlo.TRef.binary, StableHlo.TRef.nullary, StableHlo.TRef.unary, StableHlo.TRef.ternary, StableHlo.TRef.toBuf, StableHlo.TRef.ofBuf, cast_eq]
  after_results_simp
  pointwise

theorem blk5 (c : Dev nD) (t : Fin grid0.N) (k : Fin 512) : iblk m c 5 t (ix2 0 k) = m ((c : Thread nD τ).loc main_arg5) (ix2 0 k) := by
  refine Eq.trans ?_ (V9 m c k)
  blk_ext [iblk, (idxw t).2.2.2.1]

theorem V25 (c : Dev nD) (k : Fin 512) : V m c main_v25 (ix2 0 k) = m ((c : Thread nD τ).loc main_arg6) (ix4 0 ⟨k.val / 128, by omega⟩ 0 0) := by
  simp only [V, hostOps0, List.flatten_cons, List.flatten_nil, List.append_nil, List.cons_append, List.nil_append,
    StableHlo.TRef.binary, StableHlo.TRef.nullary, StableHlo.TRef.unary, StableHlo.TRef.ternary, StableHlo.TRef.toBuf, StableHlo.TRef.ofBuf, cast_eq]
  after_results_simp
  pointwise

theorem blk6 (c : Dev nD) (t : Fin grid0.N) (k : Fin 512) : iblk m c 6 t (ix2 0 k) = m ((c : Thread nD τ).loc main_arg6) (ix4 0 ⟨k.val / 128, by omega⟩ 0 0) := by
  refine Eq.trans ?_ (V25 m c k)
  blk_ext [iblk, (idxw t).2.2.2.2.1]

theorem V31 (c : Dev nD) (k : Fin 512) : V m c main_v31 (ix2 0 k) = m ((c : Thread nD τ).loc main_arg7) (ix3 0 ⟨k.val / 128, by omega⟩ 0) := by
  simp only [V, hostOps0, List.flatten_cons, List.flatten_nil, List.append_nil, List.cons_append, List.nil_append,
    StableHlo.TRef.binary, StableHlo.TRef.nullary, StableHlo.TRef.unary, StableHlo.TRef.ternary, StableHlo.TRef.toBuf, StableHlo.TRef.ofBuf, cast_eq]
  after_results_simp
  pointwise

theorem blk7 (c : Dev nD) (t : Fin grid0.N) (k : Fin 512) : iblk m c 7 t (ix2 0 k) = m ((c : Thread nD τ).loc main_arg7) (ix3 0 ⟨k.val / 128, by omega⟩ 0) := by
  refine Eq.trans ?_ (V31 m c k)
  blk_ext [iblk, (idxw t).2.2.2.2.2.1]

theorem V11 (c : Dev nD) (a : Fin 512) (k : Fin 1024) : V m c main_v11 (ix2 a k) = m ((c : Thread nD τ).loc main_arg8) (ix3 0 a k) := by
  simp only [V, hostOps0, List.flatten_cons, List.flatten_nil, List.append_nil, List.cons_append, List.nil_append,
    StableHlo.TRef.binary, StableHlo.TRef.nullary, StableHlo.TRef.unary, StableHlo.TRef.ternary, StableHlo.TRef.toBuf, StableHlo.TRef.ofBuf, cast_eq]
  after_results_simp
  pointwise

theorem blk8 (c : Dev nD) (t : Fin grid0.N) (a : Fin 512) (k : Fin 1024) : iblk m c 8 t (ix2 a k) = m ((c : Thread nD τ).loc main_arg8) (ix3 0 a k) := by
  refine Eq.trans ?_ (V11 m c a k)
  blk_ext [iblk, (idxw t).2.2.2.2.2.2.1]

theorem V13 (c : Dev nD) (a : Fin 512) (k : Fin 1024) : V m c main_v13 (ix2 a k) = m ((c : Thread nD τ).loc main_arg9) (ix3 0 a k) := by
  simp only [V, hostOps0, List.flatten_cons, List.flatten_nil, List.append_nil, List.cons_append, List.nil_append,
    StableHlo.TRef.binary, StableHlo.TRef.nullary, StableHlo.TRef.unary, StableHlo.TRef.ternary, StableHlo.TRef.toBuf, StableHlo.TRef.ofBuf, cast_eq]
  after_results_simp
  pointwise

theorem blk9 (c : Dev nD) (t : Fin grid0.N) (a : Fin 512) (k : Fin 1024) : iblk m c 9 t (ix2 a k) = m ((c : Thread nD τ).loc main_arg9) (ix3 0 a k) := by
  refine Eq.trans ?_ (V13 m c a k)
  blk_ext [iblk, (idxw t).2.2.2.2.2.2.2.1]

theorem V15 (c : Dev nD) (a : Fin 1024) (k : Fin 1024) : V m c main_v15 (ix2 a k) = m ((c : Thread nD τ).loc main_arg10) (ix3 0 a k) := by
  simp only [V, hostOps0, List.flatten_cons, List.flatten_nil, List.append_nil, List.cons_append, List.nil_append,
    StableHlo.TRef.binary, StableHlo.TRef.nullary, StableHlo.TRef.unary, StableHlo.TRef.ternary, StableHlo.TRef.toBuf, StableHlo.TRef.ofBuf, cast_eq]
  after_results_simp
  pointwise

theorem blk10 (c : Dev nD) (t : Fin grid0.N) (a : Fin 1024) (k : Fin 1024) : iblk m c 10 t (ix2 a k) = m ((c : Thread nD τ).loc main_arg10) (ix3 0 a k) := by
  refine Eq.trans ?_ (V15 m c a k)
  blk_ext [iblk, (idxw t).2.2.2.2.2.2.2.2.1]

theorem V17 (c : Dev nD) (k : Fin 1024) : V m c main_v17 (ix2 0 k) = m ((c : Thread nD τ).loc main_arg11) (ix2 0 k) := by
  simp only [V, hostOps0, List.flatten_cons, List.flatten_nil, List.append_nil, List.cons_append, List.nil_append,
    StableHlo.TRef.binary, StableHlo.TRef.nullary, StableHlo.TRef.unary, StableHlo.TRef.ternary, StableHlo.TRef.toBuf, StableHlo.TRef.ofBuf, cast_eq]
  after_results_simp
  pointwise

theorem blk11 (c : Dev nD) (t : Fin grid0.N) (k : Fin 1024) : iblk m c 11 t (ix2 0 k) = m ((c : Thread nD τ).loc main_arg11) (ix2 0 k) := by
  refine Eq.trans ?_ (V17 m c k)
  blk_ext [iblk, (idxw t).2.2.2.2.2.2.2.2.2]

/-- The residual rows after the run. -/
theorem arrx (c : Dev nD) : (dats m 0 c).arrAt 12 cfg0.N = GXm m c := by
  refine (dats m 0 c).arrAt_eq_of_covers 12 _ (by decide +kernel) fun t hf y => ?_
  blk_simp
  rw [after0_12]
  obtain ⟨a, b, rfl⟩ : ∃ (a : Fin 32) (b : Fin 1024), y = ix2 a b := ⟨y 0, y 1, eq_ix2 y⟩
  have e0 : (win0_12.blk t).view.emb (ix2 a b) = ix2 a b := by
    blk_ext [(idx t).2.2.1]
  refine (outx_at _ _ _ _ _ _ _ _ _ _ _ _ a b).trans (Eq.trans ?_ (congrArg (GXm m c) e0).symm)
  simp only [GXm, GX, rowX, blk0, blk1, blk2, blk3, blk4, blk5, blk6, blk7, blk8, blk9, blk10, blk11, ix2_0, ix2_1]

/-- The gated unit's rows after the run. -/
theorem arrv (c : Dev nD) : (dats m 0 c).arrAt 13 cfg0.N = GVm m c := by
  refine (dats m 0 c).arrAt_eq_of_covers 13 _ (by decide +kernel) fun t hf y => ?_
  blk_simp
  rw [after0_13]
  obtain ⟨a, b, rfl⟩ : ∃ (a : Fin 32) (b : Fin 512), y = ix2 a b := ⟨y 0, y 1, eq_ix2 y⟩
  have e0 : (win0_13.blk t).view.emb (ix2 a b) = ix2 a b := by
    blk_ext [(idx t).2.2.2]
  refine (outv_at _ _ _ _ _ _ _ _ _ _ _ _ a b).trans (Eq.trans ?_ (congrArg (GVm m c) e0).symm)
  simp only [GVm, GV, rowV, blk0, blk1, blk2, blk3, blk4, blk5, blk6, blk7, blk8, blk9, blk10, blk11, ix2_0, ix2_1]

end Cert.MixSVal

end
-- ==== Proof.MixSRefRead.lean ====
/- The sample rows' mixing reference, its two results read as the same row functions. -/
module

public import proofs.«01_k».proof.Proof.Gen.MixSRefIdeal.Read
public import proofs.«01_k».proof.Proof.MixSValue
public import proofs.«01_k».proof.Proof.MixMask
public import Idealize.ShloMosaic.Lib.Pointwise

@[expose] public section

set_option maxRecDepth 16384

noncomputable section

namespace Cert.MixSRef

open Cert.MixSRefIdeal Cert.MixSRefIdeal.Read Cert.Rows Idealize.ShloMosaic Idealize.ShloMosaic.TcCoe
open scoped BigOperators

variable (x0 : (⟨S32x1x1024, .f32⟩ : BufTy).Contents (Elt Ideal)) (x1 : (⟨S32x8x64, .f32⟩ : BufTy).Contents (Elt Ideal))
  (x2 : (⟨S1x1024, .f32⟩ : BufTy).Contents (Elt Ideal)) (x3 : (⟨S1x1024x4376, .f32⟩ : BufTy).Contents (Elt Ideal))
  (x4 x5 : (⟨S1x512, .f32⟩ : BufTy).Contents (Elt Ideal)) (x6 : (⟨S1x4x128x128, .f32⟩ : BufTy).Contents (Elt Ideal))
  (x7 : (⟨S1x4x128, .f32⟩ : BufTy).Contents (Elt Ideal)) (x8 x9 : (⟨S1x512x1024, .f32⟩ : BufTy).Contents (Elt Ideal))
  (x10 : (⟨S1x1024x1024, .f32⟩ : BufTy).Contents (Elt Ideal)) (x11 : (⟨S1x1024, .f32⟩ : BufTy).Contents (Elt Ideal))

theorem v13_at (r : Fin 32) (c : Fin 1024) : val_main_v13 (F := Ideal) x0 x2 (ix3 r 0 c)
    = rms c1024 (fun k => x2 (ix2 0 k)) (fun k => x0 (ix3 r 0 k)) c := by
  pointwise [val_main_v13, val_main_v10, val_main_v9, val_main_v8, val_main_v7, val_main_v5, val_main_v3, val_main_v2, val_main_v1, val_main_cst, val_main_v4, val_main_cst_0, val_main_v6, val_main_cst_1, val_main_v12, val_main_v11, val_main_v0]
  rfl

theorem v16_at (r : Fin 32) (c : Fin 3072) : val_main_v16 (F := Ideal) x0 x2 x3 (ix3 r 0 c)
    = dot (fun k => val_main_v13 (F := Ideal) x0 x2 (ix3 r 0 k)) (fun k j => x3 (ix3 0 k ⟨1304 + j.val, by omega⟩)) c := by
  pointwise [val_main_v16, val_main_v15, val_main_v14]
  rfl

theorem v31_at (r : Fin 32) (c : Fin 1024) : val_main_v31 (F := Ideal) x0 x2 x3 (ix3 r 0 c)
    = gelu (val_main_v16 (F := Ideal) x0 x2 x3 (ix3 r 0 ⟨c.val, by omega⟩)) := by
  pointwise [val_main_v31, val_main_v17, val_main_v30, val_main_v29, val_main_cst_5, val_main_v28, val_main_v27, val_main_cst_4, val_main_v26, val_main_v25, val_main_v24, val_main_cst_3, val_main_v23, val_main_v22, val_main_v21, val_main_cst_2, val_main_v20, val_main_v19]
  unfold gelu
  rw [mul_assoc (G := EReal)]

theorem v59_at (r : Fin 32) (d : Fin 512) : val_main_v59 (F := Ideal) x0 x2 x3 x4 x5 (ix3 r 0 d)
    = lnorm c512 (fun k => x4 (ix2 0 k)) (fun k => x5 (ix2 0 k)) (fun j => val_main_v31 (F := Ideal) x0 x2 x3 (ix3 r 0 ⟨512 + j.val, by omega⟩)) d := by
  pointwise [val_main_v59, val_main_v56, val_main_v53, val_main_v48, val_main_v33, val_main_v47, val_main_v39, val_main_v37, val_main_v36, val_main_cst_6, val_main_v38, val_main_cst_7, val_main_v52, val_main_v51, val_main_v50, val_main_v46, val_main_v44, val_main_v43, val_main_v42, val_main_v41, val_main_v40, val_main_cst_8, val_main_v45, val_main_cst_9, val_main_v49, val_main_cst_10, val_main_v55, val_main_v54, val_main_v34, val_main_v58, val_main_v57, val_main_v35]
  rfl

theorem v68_at (g : Fin 4) (a b : Fin 128) : val_main_v68 (F := Ideal) x6 (ix3 g a b)
    = (show EReal from x6 (ix4 0 g a b)) * MixMask.low a b := by
  pointwise [val_main_v68, val_main_v61, val_main_v67, val_main_v66, val_main_v65, val_main_call1_v4, val_main_call1_v2, val_main_call1_v0, val_main_call1_v1, val_main_call1_c, val_main_call1_v3, val_main_v64, val_main_cst_11, val_main_call1_v5, val_main_call1_cst]
  exact MixMask.low_sel _ a b

theorem v60_at (r : Fin 32) (d : Fin 512) : val_main_v60 (F := Ideal) x0 x2 x3 x4 x5 (ix3 r 0 d)
    = val_main_v59 (F := Ideal) x0 x2 x3 x4 x5 (ix3 r 0 d) := by
  pointwise [val_main_v60, val_main_call0_v0, val_main_c]

theorem v63_at (r : Fin 32) (t : Fin 128) (g : Fin 4) (e : Fin 128) : val_main_v63 (F := Ideal) x0 x2 x3 x4 x5 (ix5 r 0 t g e)
    = val_main_v60 (F := Ideal) x0 x2 x3 x4 x5 (ix3 r t ⟨g.val * 128 + e.val, by omega⟩) := by
  pointwise [val_main_v63]

theorem v74_at (r : Fin 32) (t : Fin 128) (g : Fin 4) (e : Fin 128) : val_main_v74 (F := Ideal) x0 x2 x3 x4 x5 x6 x7 (ix5 r 0 t g e)
    = (∑ k : Fin 128, (show EReal from val_main_v63 (F := Ideal) x0 x2 x3 x4 x5 (ix5 r 0 k g e)) * val_main_v68 (F := Ideal) x6 (ix3 g t k)) + x7 (ix3 0 g t) := by
  pointwise [val_main_v74, val_main_v70, val_main_v69, val_main_v73, val_main_v72, val_main_v71, val_main_v62]

theorem v75_at (r : Fin 32) (d : Fin 512) : val_main_v75 (F := Ideal) x0 x2 x3 x4 x5 x6 x7 (ix3 r 0 d)
    = val_main_v74 (F := Ideal) x0 x2 x3 x4 x5 x6 x7 (ix5 r 0 0 ⟨d.val / 128, by omega⟩ ⟨d.val % 128, by omega⟩) := by
  pointwise [val_main_v75]

theorem v77_at (r : Fin 32) (d : Fin 512) : val_main_v77 (F := Ideal) x0 x2 x3 x4 x5 x6 x7 (ix3 r 0 d)
    = val_main_v31 (F := Ideal) x0 x2 x3 (ix3 r 0 ⟨d.val, by omega⟩) * val_main_v75 (F := Ideal) x0 x2 x3 x4 x5 x6 x7 (ix3 r 0 d) := by
  pointwise [val_main_v77, val_main_v32, val_main_v76]

theorem v93_at (r : Fin 32) (c : Fin 1024) : val_main_v93 (F := Ideal) x0 x1 x2 x3 x4 x5 x6 x7 x8 x9 (ix3 r 0 c)
    = merge (fun k j => x8 (ix3 0 k j)) (fun k j => x9 (ix3 0 k j)) (fun k => x1 (ix3 r ⟨k.val / 64, by omega⟩ ⟨k.val % 64, by omega⟩)) (fun k => val_main_v77 (F := Ideal) x0 x2 x3 x4 x5 x6 x7 (ix3 r 0 k)) (fun k => val_main_v16 (F := Ideal) x0 x2 x3 (ix3 r 0 k)) c := by
  pointwise [val_main_v93, val_main_v89, val_main_v84, val_main_v83, val_main_v82, val_main_cst_13, val_main_v81, val_main_v80, val_main_cst_12, val_main_v79, val_main_v78, val_main_v18, val_main_v88, val_main_v86, val_main_v87, val_main_v92, val_main_v85, val_main_v91, val_main_v90]
  have e : (⟨1024 + (1024 + c.val), by omega⟩ : Fin 3072) = ⟨2048 + c.val, by omega⟩ := Fin.ext (by simp only []; omega)
  rw [e]
  rfl

theorem v95_at (r : Fin 32) (c : Fin 1024) : val_main_v95 (F := Ideal) x0 x1 x2 x3 x4 x5 x6 x7 x8 x9 x10 (ix3 r 0 c)
    = dot (fun k => val_main_v93 (F := Ideal) x0 x1 x2 x3 x4 x5 x6 x7 x8 x9 (ix3 r 0 k)) (fun k j => x10 (ix3 0 k j)) c := by
  pointwise [val_main_v95, val_main_v94]
  rfl

theorem v111_at (r : Fin 32) (c : Fin 1024) : val_main_v111 (F := Ideal) x0 x1 x2 x3 x4 x5 x6 x7 x8 x9 x10 x11 (ix2 r c)
    = x0 (ix3 r 0 c) + rms c1024 (fun k => x11 (ix2 0 k)) (fun k => val_main_v95 (F := Ideal) x0 x1 x2 x3 x4 x5 x6 x7 x8 x9 x10 (ix3 r 0 k)) c := by
  pointwise [val_main_v111, val_main_v110, val_main_v109, val_main_v106, val_main_v105, val_main_v104, val_main_v103, val_main_v101, val_main_v99, val_main_v98, val_main_v97, val_main_cst_14, val_main_v100, val_main_cst_15, val_main_v102, val_main_cst_16, val_main_v108, val_main_v107, val_main_v96]
  rfl

theorem v112_at (r : Fin 32) (d : Fin 512) : val_main_v112 (F := Ideal) x0 x2 x3 x4 x5 (ix2 r d)
    = val_main_v59 (F := Ideal) x0 x2 x3 x4 x5 (ix3 r 0 d) := by
  pointwise [val_main_v112]

/-- The mixed chunk's first row: only its own weight is left. -/
theorem s_at (r : Fin 32) (d : Fin 512) : val_main_v75 (F := Ideal) x0 x2 x3 x4 x5 x6 x7 (ix3 r 0 d)
    = val_main_v59 (F := Ideal) x0 x2 x3 x4 x5 (ix3 r 0 d) * x6 (ix4 0 ⟨d.val / 128, by omega⟩ 0 0) + x7 (ix3 0 ⟨d.val / 128, by omega⟩ 0) := by
  rw [v75_at, v74_at]
  have hd : (⟨d.val / 128 * 128 + d.val % 128, by omega⟩ : Fin 512) = d := Fin.ext (by simp only []; omega)
  refine congrArg (· + x7 (ix3 0 ⟨d.val / 128, by omega⟩ 0)) ?_
  refine (Finset.sum_eq_single (0 : Fin 128) (fun k _ hk => ?_) (fun h => absurd (Finset.mem_univ _) h)).trans ?_
  · have hl : MixMask.low 0 k = 0 := if_neg fun h => hk (Fin.ext (Nat.le_zero.mp h))
    rw [v68_at, hl]
    exact (congrArg _ (mul_zero (M₀ := EReal) _)).trans (mul_zero (M₀ := EReal) _)
  · have hl : MixMask.low 0 0 = 1 := if_pos (Nat.le_refl _)
    rw [v63_at, v60_at, v68_at, hl, hd]
    exact congrArg _ (mul_one (M := EReal) _)

/-- The reference's residual rows. -/
theorem refx : val_main_v111 (F := Ideal) x0 x1 x2 x3 x4 x5 x6 x7 x8 x9 x10 x11 = MixSVal.GX x0 x1 x2 x3 x4 x5 x6 x7 x8 x9 x10 x11 := by
  funext i
  obtain ⟨r, c, rfl⟩ : ∃ r c, i = ix2 r c := ⟨i 0, i 1, eq_ix2 i⟩
  rw [v111_at]
  simp only [v95_at, v93_at, v77_at, s_at, v59_at, v31_at, v16_at, v13_at]
  rfl

/-- The reference's gated-unit rows. -/
theorem refv : val_main_v112 (F := Ideal) x0 x2 x3 x4 x5 = MixSVal.GV x0 x2 x3 x4 x5 := by
  funext i
  obtain ⟨r, d, rfl⟩ : ∃ r d, i = ix2 r d := ⟨i 0, i 1, eq_ix2 i⟩
  rw [v112_at]
  simp only [v59_at, v31_at, v16_at, v13_at]
  rfl

end Cert.MixSRef

end
-- ==== Proof.MixSClaim.lean ====
/- The sample rows' mixing claim: the residual rows and the gated unit's rows are the reference's. -/
module

public import proofs.«01_k».proof.Defs
public import proofs.«01_k».proof.Proof.Gen.MixS
public import proofs.«01_k».proof.Proof.Gen.MixSRefIdeal
public import proofs.«01_k».proof.Proof.Gen.MixSRefIdeal.Run
public import proofs.«01_k».proof.Proof.MixSRefRead
public import Idealize.ShloMosaic.Adequacy

@[expose] public section

set_option maxRecDepth 16384

noncomputable section

namespace Cert.MixSClaim

open Idealize.ShloMosaic Idealize.ShloMosaic.TcCoe Idealize.SL.Sem Cert.MixSRefIdeal

theorem algebraic : algebraic_MixSIdeal_MixSRefIdeal (hMixSIdeal := Cert.MixSIdeal.Gen.facts) (hMixSRefIdeal := Cert.MixSRefIdeal.Gen.facts) := by
  intro m ρ m' ρ' _ hag
  refine ⟨fun c => MixSVal.GXm m c, fun c => MixSVal.GVm m c, ?_, ?_⟩
  · refine (θ_run _ _ _).mono (fun r h c => ?_) (Cert.MixSIdeal.Value.run_blocks m ρ)
    obtain ⟨r12, r13, rest⟩ := h c
    exact ⟨r12.trans (MixSVal.arrx m c), r13.trans (MixSVal.arrv m c), rest⟩
  · refine (θ_run _ _ _).mono (fun r h c => ?_) (Cert.MixSRefIdeal.Value.run m' ρ')
    obtain ⟨r0, r1, rest⟩ := h c
    obtain ⟨h0, h1, h2, h3, h4, h5, h6, h7, h8, h9, h10, h11⟩ := hag c
    refine ⟨r0.trans ?_, r1.trans ?_, rest⟩
    · rw [Read.val_main_v111_eq, MixSRef.refx]
      refine Eq.trans (b := MixSVal.GX (m' ((c : Thread nD τ).loc main_arg0)) (m' ((c : Thread nD τ).loc main_arg1)) (m' ((c : Thread nD τ).loc main_arg2)) (m' ((c : Thread nD τ).loc main_arg3)) (m' ((c : Thread nD τ).loc main_arg4)) (m' ((c : Thread nD τ).loc main_arg5)) (m' ((c : Thread nD τ).loc main_arg6)) (m' ((c : Thread nD τ).loc main_arg7)) (m' ((c : Thread nD τ).loc main_arg8)) (m' ((c : Thread nD τ).loc main_arg9)) (m' ((c : Thread nD τ).loc main_arg10)) (m' ((c : Thread nD τ).loc main_arg11))) rfl ?_
      rw [h0, h1, h2, h3, h4, h5, h6, h7, h8, h9, h10, h11]
      rfl
    · rw [Read.val_main_v112_eq, MixSRef.refv]
      refine Eq.trans (b := MixSVal.GV (m' ((c : Thread nD τ).loc main_arg0)) (m' ((c : Thread nD τ).loc main_arg2)) (m' ((c : Thread nD τ).loc main_arg3)) (m' ((c : Thread nD τ).loc main_arg4)) (m' ((c : Thread nD τ).loc main_arg5))) rfl ?_
      rw [h0, h2, h3, h4, h5]
      rfl

end Cert.MixSClaim

end
-- ==== Proof.FfnSValue.lean ====
/- The feed-forward kernel's sample rows as row functions of its arguments. -/
module

public import proofs.«01_k».proof.Proof.Gen.FfnSIdeal.Value
public import proofs.«01_k».proof.Proof.Rows
public import Idealize.ShloMosaic.Lib.Pipeline.ValueKit
public import Idealize.ShloMosaic.Lib.Pointwise
public import Idealize.ShloMosaic.Lib.Claim

@[expose] public section

set_option maxRecDepth 16384

noncomputable section

namespace Cert.FfnSVal

open Cert.FfnSIdeal Cert.FfnSIdeal.Gen Cert.Rows Idealize.ShloMosaic Idealize.ShloMosaic.TcCoe
open scoped BigOperators

/-- Row `r` of the result, from the argument arrays. -/
def rowG (x : Vec Ideal S32x1024 .f32) (p : Vec Ideal S1x32x1x256 .f32) (g1 : Vec Ideal S1x1024 .f32) (wg wu : Vec Ideal S1x1024x2816 .f32)
    (wd : Vec Ideal S1x2816x1024 .f32) (g2 : Vec Ideal S1x1024 .f32) (wp : Vec Ideal S1x256x1024 .f32) (wpg : Vec Ideal S1x1024x1024 .f32)
    (g3 : Vec Ideal S1x1024 .f32) (r : Fin 32) : Fin 1024 → EReal :=
  pleRes (fun k => g3 (ix2 0 k)) (fun k j => wp (ix3 0 k j)) (fun k j => wpg (ix3 0 k j))
    (fun k => p (ix4 0 r 0 k))
    (ffnRes (fun k => g1 (ix2 0 k)) (fun k => g2 (ix2 0 k)) (fun k j => wg (ix3 0 k j)) (fun k j => wu (ix3 0 k j)) (fun k j => wd (ix3 0 k j))
      (fun k => x (ix2 r k)))

/-- The result array. -/
def G (x : Vec Ideal S32x1024 .f32) (p : Vec Ideal S1x32x1x256 .f32) (g1 : Vec Ideal S1x1024 .f32) (wg wu : Vec Ideal S1x1024x2816 .f32)
    (wd : Vec Ideal S1x2816x1024 .f32) (g2 : Vec Ideal S1x1024 .f32) (wp : Vec Ideal S1x256x1024 .f32) (wpg : Vec Ideal S1x1024x1024 .f32)
    (g3 : Vec Ideal S1x1024 .f32) : Vec Ideal S32x1024 .f32 :=
  fun i => rowG x p g1 wg wu wd g2 wp wpg g3 (i 0) (i 1)

theorem pay2_at (v0 : Vec Ideal S32x256 .f32) (v3 : Vec Ideal S256x1024 .bf16) (r : Fin 32) (c : Fin 1024) :
    k0_pay2 v0 v3 (ix2 r c) = dot (fun k => v0 (ix2 r k)) (fun k j => v3 (ix2 k j)) c := by
  pointwise [k0_pay2]
  rfl

theorem pay3_at (x : Vec Ideal S32x1024 .f32) (g : Vec Ideal S1x1024 .f32) (wg wu : Vec Ideal S1024x2816 .bf16) (wd : Vec Ideal S2816x1024 .bf16) (r : Fin 32) (c : Fin 1024) :
    k0_pay3 x g wg wu wd (ix2 r c)
      = ffn (fun k j => wg (ix2 k j)) (fun k j => wu (ix2 k j)) (fun k j => wd (ix2 k j)) (rms c1024 (fun k => g (ix2 0 k)) (fun k => x (ix2 r k))) c := by
  pointwise [k0_pay3]
  rfl

theorem pay1_at (e x y : Vec Ideal S32x1024 .f32) (g2 : Vec Ideal S1x1024 .f32) (w : Vec Ideal S1024x1024 .bf16) (g3 : Vec Ideal S1x1024 .f32) (r : Fin 32) (c : Fin 1024) :
    k0_pay1 e x y g2 w g3 (ix2 r c)
      = (x (ix2 r c) + rms c1024 (fun k => g2 (ix2 0 k)) (fun k => y (ix2 r k)) c)
        + rms c1024 (fun k => g3 (ix2 0 k)) (fun j => sigm (dot (fun k => x (ix2 r k) + rms c1024 (fun k => g2 (ix2 0 k)) (fun k => y (ix2 r k)) k) (fun k j => w (ix2 k j)) j) * e (ix2 r j)) c := by
  pointwise [k0_pay1]
  rfl

/-- The block the call leaves, at an index: the row functions of the input blocks. -/
theorem out_at (x0 : Vec Ideal S32x1024 .f32) (x1 : Vec Ideal S32x256 .f32) (x2 : Vec Ideal S1x1024 .f32) (x3 x4 : Vec Ideal S1024x2816 .bf16)
    (x5 : Vec Ideal S2816x1024 .bf16) (x6 : Vec Ideal S1x1024 .f32) (x7 : Vec Ideal S256x1024 .bf16) (x8 : Vec Ideal S1024x1024 .bf16)
    (x9 : Vec Ideal S1x1024 .f32) (ya : Fin 32) (yb : Fin 1024) :
    out0_10 x0 x1 x2 x3 x4 x5 x6 x7 x8 x9 (ix2 ya yb)
      = pleRes (fun k => x9 (ix2 0 k)) (fun k j => x7 (ix2 k j)) (fun k j => x8 (ix2 k j)) (fun k => x1 (ix2 ya k))
          (ffnRes (fun k => x2 (ix2 0 k)) (fun k => x6 (ix2 0 k)) (fun k j => x3 (ix2 k j)) (fun k j => x4 (ix2 k j)) (fun k j => x5 (ix2 k j))
            (fun k => x0 (ix2 ya k))) yb := by
  obtain ⟨y, hy⟩ : ∃ y, y = (ix2 ya yb : S32x1024.Idx) := ⟨_, rfl⟩
  have hya : (y 0).val = ya.val := by rw [hy]; rfl
  have hyb : (y 1).val = yb.val := by rw [hy]; rfl
  rw [← hy]
  unfold out0_10
  simp (disch := decide) only [View.ld_unit_lit]
  canon_tiles x h
  obtain ⟨a, b, rfl⟩ : ∃ a b, x = ix2 a b := ⟨x 0, x 1, eq_ix2 x⟩
  obtain rfl : ya = a := Fin.ext (hya.symm.trans h0)
  obtain rfl : yb = b := Fin.ext (hyb.symm.trans h1)
  refine (pay1_at _ _ _ _ _ _ ya yb).trans ?_
  simp only [pay2_at, pay3_at]
  rfl

variable (m : (ℓ : Loc nD τ sig) → Buf (Elt Ideal) ℓ)

/-- The result array of a core's arguments. -/
def Gm (c : Dev nD) : Vec Ideal S32x1024 .f32 :=
  G (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9))

theorem idx : ∀ t : Fin grid0.N, win0_0.index t = ![0, 0] ∧ win0_1.index t = ![0, 0] ∧ win0_10.index t = ![0, 0] := by
  decide +kernel

theorem idxw : ∀ t : Fin grid0.N, win0_2.index t = ![0, 0] ∧ win0_3.index t = ![0, 0] ∧ win0_4.index t = ![0, 0] ∧ win0_5.index t = ![0, 0]
    ∧ win0_6.index t = ![0, 0] ∧ win0_7.index t = ![0, 0] ∧ win0_8.index t = ![0, 0] ∧ win0_9.index t = ![0, 0] := by
  decide +kernel

theorem blk0 (c : Dev nD) (t : Fin grid0.N) (a : Fin 32) (k : Fin 1024) :
    iblk m c 0 t (ix2 a k) = m ((c : Thread nD τ).loc main_arg0) (ix2 a k) := by
  blk_ext! [iblk, V, (idx t).1]

theorem blk1 (c : Dev nD) (t : Fin grid0.N) (a : Fin 32) (k : Fin 256) :
    iblk m c 1 t (ix2 a k) = m ((c : Thread nD τ).loc main_arg1) (ix4 0 a 0 k) := by
  blk_ext! [iblk, V, (idx t).2.1]

theorem blk2 (c : Dev nD) (t : Fin grid0.N) (k : Fin 1024) : iblk m c 2 t (ix2 0 k) = m ((c : Thread nD τ).loc main_arg2) (ix2 0 k) := by
  blk_ext! [iblk, V, (idxw t).1]

theorem blk3 (c : Dev nD) (t : Fin grid0.N) (a : Fin 1024) (k : Fin 2816) : iblk m c 3 t (ix2 a k) = m ((c : Thread nD τ).loc main_arg3) (ix3 0 a k) := by
  blk_ext! [iblk, V, (idxw t).2.1]

theorem blk4 (c : Dev nD) (t : Fin grid0.N) (a : Fin 1024) (k : Fin 2816) : iblk m c 4 t (ix2 a k) = m ((c : Thread nD τ).loc main_arg4) (ix3 0 a k) := by
  blk_ext! [iblk, V, (idxw t).2.2.1]

theorem blk5 (c : Dev nD) (t : Fin grid0.N) (a : Fin 2816) (k : Fin 1024) : iblk m c 5 t (ix2 a k) = m ((c : Thread nD τ).loc main_arg5) (ix3 0 a k) := by
  blk_ext! [iblk, V, (idxw t).2.2.2.1]

theorem blk6 (c : Dev nD) (t : Fin grid0.N) (k : Fin 1024) : iblk m c 6 t (ix2 0 k) = m ((c : Thread nD τ).loc main_arg6) (ix2 0 k) := by
  blk_ext! [iblk, V, (idxw t).2.2.2.2.1]

theorem blk7 (c : Dev nD) (t : Fin grid0.N) (a : Fin 256) (k : Fin 1024) : iblk m c 7 t (ix2 a k) = m ((c : Thread nD τ).loc main_arg7) (ix3 0 a k) := by
  blk_ext! [iblk, V, (idxw t).2.2.2.2.2.1]

theorem blk8 (c : Dev nD) (t : Fin grid0.N) (a k : Fin 1024) : iblk m c 8 t (ix2 a k) = m ((c : Thread nD τ).loc main_arg8) (ix3 0 a k) := by
  blk_ext! [iblk, V, (idxw t).2.2.2.2.2.2.1]

theorem blk9 (c : Dev nD) (t : Fin grid0.N) (k : Fin 1024) : iblk m c 9 t (ix2 0 k) = m ((c : Thread nD τ).loc main_arg9) (ix2 0 k) := by
  blk_ext! [iblk, V, (idxw t).2.2.2.2.2.2.2]

/-- The kernel's result array after the run. -/
theorem arr (c : Dev nD) : (dats m 0 c).arrAt 10 cfg0.N = Gm m c := by
  refine (dats m 0 c).arrAt_eq_of_covers 10 _ (by decide +kernel) fun t hf y => ?_
  blk_simp
  rw [after0_10]
  obtain ⟨a, b, rfl⟩ : ∃ (a : Fin 32) (b : Fin 1024), y = ix2 a b := ⟨y 0, y 1, eq_ix2 y⟩
  have e0 : (win0_10.blk t).view.emb (ix2 a b) = ix2 a b := by
    blk_ext [(idx t).2.2]
  refine (out_at _ _ _ _ _ _ _ _ _ _ a b).trans (Eq.trans ?_ (congrArg (Gm m c) e0).symm)
  simp only [Gm, G, rowG, blk2, blk3, blk4, blk5, blk6, blk7, blk8, blk9, blk0, blk1, ix2_0, ix2_1]

end Cert.FfnSVal

end
-- ==== Proof.FfnSRefRead.lean ====
/- The sample rows' feed-forward reference's result read as the same row functions. -/
module

public import proofs.«01_k».proof.Proof.Gen.FfnSRefIdeal.Read
public import proofs.«01_k».proof.Proof.FfnSValue
public import Idealize.ShloMosaic.Lib.Pointwise

@[expose] public section

set_option maxRecDepth 16384

noncomputable section

namespace Cert.FfnSRef

open Cert.FfnSRefIdeal Cert.FfnSRefIdeal.Read Cert.Rows Idealize.ShloMosaic Idealize.ShloMosaic.TcCoe
open scoped BigOperators

variable (x0 : (⟨S32x1024, .f32⟩ : BufTy).Contents (Elt Ideal)) (x1 : (⟨S1x32x1x256, .f32⟩ : BufTy).Contents (Elt Ideal))
  (x2 : (⟨S1x1024, .f32⟩ : BufTy).Contents (Elt Ideal)) (x3 x4 : (⟨S1x1024x2816, .f32⟩ : BufTy).Contents (Elt Ideal))
  (x5 : (⟨S1x2816x1024, .f32⟩ : BufTy).Contents (Elt Ideal)) (x6 : (⟨S1x1024, .f32⟩ : BufTy).Contents (Elt Ideal))
  (x7 : (⟨S1x256x1024, .f32⟩ : BufTy).Contents (Elt Ideal)) (x8 : (⟨S1x1024x1024, .f32⟩ : BufTy).Contents (Elt Ideal))
  (x9 : (⟨S1x1024, .f32⟩ : BufTy).Contents (Elt Ideal))

theorem v15_at (r : Fin 32) (c : Fin 1024) : val_main_v15 (F := Ideal) x0 x2 (ix3 r 0 c) = rms c1024 (fun k => x2 (ix2 0 k)) (fun k => x0 (ix2 r k)) c := by
  pointwise [val_main_v15, val_main_v14, val_main_v13, val_main_v12, val_main_v11, val_main_v10, val_main_v9, val_main_v8, val_main_cst_1, val_main_v7, val_main_v6, val_main_cst_0, val_main_v5, val_main_v4, val_main_cst, val_main_v3, val_main_v2, val_main_v0]
  rfl

theorem v17_at (r : Fin 32) (c : Fin 2816) : val_main_v17 (F := Ideal) x0 x2 x3 (ix3 r 0 c)
    = dot (fun k => val_main_v15 (F := Ideal) x0 x2 (ix3 r 0 k)) (fun k j => x3 (ix3 0 k j)) c := by
  pointwise [val_main_v17, val_main_v16]
  rfl

theorem v20_at (r : Fin 32) (c : Fin 2816) : val_main_v20 (F := Ideal) x0 x2 x4 (ix3 r 0 c)
    = dot (fun k => val_main_v15 (F := Ideal) x0 x2 (ix3 r 0 k)) (fun k j => x4 (ix3 0 k j)) c := by
  pointwise [val_main_v20, val_main_v19]
  rfl

theorem v18_at (r : Fin 32) (c : Fin 2816) : val_main_v18 (F := Ideal) x0 x2 x3 (ix3 r 0 c)
    = val_main_v17 (F := Ideal) x0 x2 x3 (ix3 r 0 c) * sigm (val_main_v17 (F := Ideal) x0 x2 x3 (ix3 r 0 c)) := by
  pointwise [val_main_v18, val_main_call0_v5, val_main_call0_v4, val_main_call0_cst_0, val_main_call0_v3, val_main_call0_v2, val_main_call0_cst, val_main_call0_v1, val_main_call0_v0]
  rfl

theorem v23_at (r : Fin 32) (c : Fin 1024) : val_main_v23 (F := Ideal) x0 x2 x3 x4 x5 (ix3 r 0 c)
    = dot (fun k => val_main_v18 (F := Ideal) x0 x2 x3 (ix3 r 0 k) * val_main_v20 (F := Ideal) x0 x2 x4 (ix3 r 0 k)) (fun k j => x5 (ix3 0 k j)) c := by
  pointwise [val_main_v23, val_main_v22, val_main_v21]
  rfl

theorem v38_at (r : Fin 32) (c : Fin 1024) : val_main_v38 (F := Ideal) x0 x2 x3 x4 x5 x6 (ix3 r 0 c)
    = x0 (ix2 r c) + rms c1024 (fun k => x6 (ix2 0 k)) (fun k => val_main_v23 (F := Ideal) x0 x2 x3 x4 x5 (ix3 r 0 k)) c := by
  pointwise [val_main_v38, val_main_v37, val_main_v36, val_main_v35, val_main_v34, val_main_v33, val_main_v32, val_main_v31, val_main_v30, val_main_cst_4, val_main_v29, val_main_v28, val_main_cst_3, val_main_v27, val_main_v26, val_main_cst_2, val_main_v25, val_main_v24, val_main_v0]
  rfl

theorem v49_at (r : Fin 32) (c : Fin 1024) : val_main_v49 (F := Ideal) x0 x1 x2 x3 x4 x5 x6 x7 x8 (ix3 r 0 c)
    = sigm (dot (fun k => val_main_v38 (F := Ideal) x0 x2 x3 x4 x5 x6 (ix3 r 0 k)) (fun k j => x8 (ix3 0 k j)) c)
      * dot (fun k => x1 (ix4 0 r 0 k)) (fun k j => x7 (ix3 0 k j)) c := by
  pointwise [val_main_v49, val_main_v48, val_main_v47, val_main_cst_6, val_main_v46, val_main_v45, val_main_cst_5, val_main_v44, val_main_v43, val_main_v42, val_main_v41, val_main_v40, val_main_v39, val_main_v1]
  rfl

theorem v64_at (r : Fin 32) (c : Fin 1024) : val_main_v64 (F := Ideal) x0 x1 x2 x3 x4 x5 x6 x7 x8 x9 (ix3 r 0 c)
    = val_main_v38 (F := Ideal) x0 x2 x3 x4 x5 x6 (ix3 r 0 c)
      + rms c1024 (fun k => x9 (ix2 0 k)) (fun k => val_main_v49 (F := Ideal) x0 x1 x2 x3 x4 x5 x6 x7 x8 (ix3 r 0 k)) c := by
  pointwise [val_main_v64, val_main_v63, val_main_v62, val_main_v61, val_main_v60, val_main_v59, val_main_v58, val_main_v57, val_main_v56, val_main_cst_9, val_main_v55, val_main_v54, val_main_cst_8, val_main_v53, val_main_v52, val_main_cst_7, val_main_v51, val_main_v50]
  rfl

/-- The reference's result array. -/
theorem ref_eq : val_main_v65 (F := Ideal) x0 x1 x2 x3 x4 x5 x6 x7 x8 x9 = FfnSVal.G x0 x1 x2 x3 x4 x5 x6 x7 x8 x9 := by
  funext i
  obtain ⟨r, c, rfl⟩ : ∃ r c, i = ix2 r c := ⟨i 0, i 1, eq_ix2 i⟩
  refine Eq.trans (b := val_main_v64 (F := Ideal) x0 x1 x2 x3 x4 x5 x6 x7 x8 x9 (ix3 r 0 c)) (by pointwise [val_main_v65]) ?_
  rw [v64_at]
  simp only [v49_at, v38_at, v23_at, v18_at, v20_at, v17_at, v15_at]
  rfl

end Cert.FfnSRef

end
-- ==== Proof.FfnSClaim.lean ====
/- The feed-forward claim: the kernel's result is the reference's. -/
module

public import proofs.«01_k».proof.Defs
public import proofs.«01_k».proof.Proof.Gen.FfnS
public import proofs.«01_k».proof.Proof.Gen.FfnSRefIdeal
public import proofs.«01_k».proof.Proof.Gen.FfnSRefIdeal.Run
public import proofs.«01_k».proof.Proof.FfnSRefRead
public import Idealize.ShloMosaic.Adequacy

@[expose] public section

set_option maxRecDepth 16384

noncomputable section

namespace Cert.FfnSClaim

open Idealize.ShloMosaic Idealize.SL.Sem Cert.FfnSRefIdeal

theorem algebraic : algebraic_FfnSIdeal_FfnSRefIdeal (hFfnSIdeal := Cert.FfnSIdeal.Gen.facts) (hFfnSRefIdeal := Cert.FfnSRefIdeal.Gen.facts) := by
  intro m ρ m' ρ' _ hag
  refine ⟨fun c => FfnSVal.Gm m c, ?_, ?_⟩
  · exact (θ_run _ _ _).mono (fun r h c => ⟨(h c).1.trans (FfnSVal.arr m c), (h c).2⟩) (Cert.FfnSIdeal.Value.run_blocks m ρ)
  · refine (θ_run _ _ _).mono (fun r h c => ⟨(h c).1.trans ?_, (h c).2⟩) (Cert.FfnSRefIdeal.Value.run m' ρ')
    obtain ⟨h0, h1, h2, h3, h4, h5, h6, h7, h8, h9⟩ := hag c
    rw [Read.val_main_v65_eq, FfnSRef.ref_eq, h0, h1, h2, h3, h4, h5, h6, h7, h8, h9]
    rfl

end Cert.FfnSClaim

end
-- ==== Proof.CmpSoft.lean ====
/- The masked softmax of one head's scores, over the reals: both spellings give the same weights. -/
module

public import Idealize.ShloMosaic.PureOps.Ideal

@[expose] public section

noncomputable section

namespace Cert.CmpSoft

open Idealize.ShloMosaic
open scoped BigOperators

/-- The weight of one score among finitely many. -/
def wt {n : Nat} (x : Fin n → ℝ) (i : Fin n) : ℝ := Real.exp (x i) / ∑ j, Real.exp (x j)

theorem coe_sum {n : Nat} (f : Fin n → ℝ) : (∑ i, (f i : EReal)) = ((∑ i, f i : ℝ) : EReal) := by
  induction n with
  | zero => simp
  | succ k ih => rw [Fin.sum_univ_succ, Fin.sum_univ_succ, ih, EReal.coe_add]

theorem sum_pos {n : Nat} (x : Fin (n + 1) → ℝ) (m : ℝ) : 0 < ∑ j, Real.exp (x j - m) :=
  Finset.sum_pos (fun _ _ => Real.exp_pos _) ⟨0, Finset.mem_univ _⟩

/-- Taking a number off every score changes no weight. -/
theorem wt_shift {n : Nat} (x : Fin (n + 1) → ℝ) (m : ℝ) (i : Fin (n + 1)) :
    Real.exp (x i - m) / ∑ j, Real.exp (x j - m) = wt x i := by
  unfold wt
  have h : ∀ j, Real.exp (x j - m) = Real.exp (x j) * Real.exp (-m) := fun j => by rw [sub_eq_add_neg, Real.exp_add]
  simp only [h, ← Finset.sum_mul]
  exact mul_div_mul_right _ _ (Real.exp_pos _).ne'

theorem exp_sub (x m : ℝ) : Ideal.exp ((x : EReal) - (m : EReal)) = ((Real.exp (x - m) : ℝ) : EReal) := by
  rw [← EReal.coe_sub]; rfl

theorem sum_exp {n : Nat} (x : Fin n → ℝ) (m : ℝ) :
    (∑ j, Ideal.exp ((x j : EReal) - (m : EReal))) = ((∑ j, Real.exp (x j - m) : ℝ) : EReal) := by
  rw [← coe_sum]; exact Finset.sum_congr rfl fun j _ => exp_sub (x j) m

/-- The quotient form. -/
theorem quot {n : Nat} (x : Fin (n + 1) → ℝ) (m : ℝ) (i : Fin (n + 1)) :
    Ideal.div (Ideal.exp ((x i : EReal) - (m : EReal))) (∑ j, Ideal.exp ((x j : EReal) - (m : EReal))) = (wt x i : EReal) := by
  rw [sum_exp, exp_sub, Ideal.div_coe (sum_pos x m).ne', ← EReal.coe_mul, mul_one_div, wt_shift]

/-- The form that multiplies with the reciprocal of a sum that is not zero. -/
theorem recip {n : Nat} (x : Fin (n + 1) → ℝ) (m : ℝ) (i : Fin (n + 1)) (l : EReal)
    (hl : l = ∑ j, Ideal.exp ((x j : EReal) - (m : EReal))) :
    Ideal.exp ((x i : EReal) - (m : EReal)) * Ideal.div 1 (if l = 0 then 1 else l) = (wt x i : EReal) := by
  have h0 : l ≠ 0 := by
    rw [hl, sum_exp]
    exact fun h => (sum_pos x m).ne' (EReal.coe_eq_zero.mp h)
  rw [if_neg h0, hl, sum_exp, exp_sub, Ideal.div_coe (sum_pos x m).ne', one_mul, ← EReal.coe_mul, mul_one_div, wt_shift]

/-- The greatest of finitely many reals, from anything below the top, is a real. -/
theorem fold_real {n : Nat} (b : EReal) (hb : b ≠ ⊤) (f : Fin n → EReal) (hf : ∀ i, f i ≠ ⊤) (i₀ : Fin n) (h₀ : f i₀ ≠ ⊥) :
    ∃ r : ℝ, Finset.fold max b f Finset.univ = (r : EReal) := by
  have lt : Finset.fold max b f Finset.univ < ⊤ :=
    (Finset.fold_max_lt _).mpr ⟨lt_top_iff_ne_top.mpr hb, fun i _ => lt_top_iff_ne_top.mpr (hf i)⟩
  have le : f i₀ ≤ Finset.fold max b f Finset.univ := (Finset.le_fold_max _).mpr (Or.inr ⟨i₀, Finset.mem_univ _, le_rfl⟩)
  have gt : ⊥ < Finset.fold max b f Finset.univ := lt_of_lt_of_le (bot_lt_iff_ne_bot.mpr h₀) le
  exact ⟨_, (EReal.coe_toReal lt.ne gt.ne').symm⟩

end Cert.CmpSoft

end
-- ==== Proof.CmpSPay.lean ====
/- What the compressed attention's block computes, over the extended reals. -/
module

public import proofs.«01_k».proof.Proof.Gen.CmpSIdeal.Frame
public import proofs.«01_k».proof.Proof.CmpSoft
public import Idealize.ShloMosaic.Lib.Pipeline.ValueKit
public import Idealize.ShloMosaic.Lib.Pointwise
public import Idealize.ShloMosaic.Lib.Claim

@[expose] public section

set_option maxRecDepth 16384

noncomputable section

namespace Cert.CmpSPay

open Cert.CmpSIdeal Cert.CmpSIdeal.Gen Cert.CmpSoft Idealize.ShloMosaic Idealize.ShloMosaic.TcCoe
open scoped BigOperators

theorem pay1 (p : FVec Ideal S8x1024 .bf16) (v : FVec Ideal S1024x128 .bf16) (a : Fin 8) (j : Fin 128) :
    k0_pay1 p v (ix3 0 a j) = ∑ r : Fin 1024, p (ix2 a r) * v (ix2 r j) := by
  pointwise [k0_pay1]

/-- The weights of one group's heads added up, at one compressed row; nothing for the rows past the groups. -/
def psum (p : FVec Ideal S8x1024 .f32) (a : Fin 8) (r : Fin 1024) : EReal :=
  Scalar.select (IntOp.cmpi CmpIPredicate.eq (BitVec.ofNat 32 a.val) 1#32) (∑ h : Fin 4, p (ix2 ⟨4 + h.val, by omega⟩ r))
    (Scalar.select (IntOp.cmpi CmpIPredicate.eq (BitVec.ofNat 32 a.val) 0#32) (∑ h : Fin 4, p (ix2 ⟨h.val, by omega⟩ r)) 0)

theorem pay2 (p : FVec Ideal S8x1024 .f32) (v : Vec Ideal S1024x384 .bf16) (a : Fin 8) (j : Fin 384) :
    k0_pay2 p v v (ix3 0 a j) = ∑ r : Fin 1024, psum p a r * v (ix2 r j) + ∑ r : Fin 1024, (psum p a r - psum p a r) * v (ix2 r j) := by
  pointwise [k0_pay2]
  rfl

/-- Where a compressed row counts: from the second on, and not past the new token. -/
def ok (j : Fin 1024) : BitVec 1 :=
  IntOp.andi (IntOp.cmpi CmpIPredicate.sge (BitVec.ofNat 32 j.val) 1#32)
    (IntOp.cmpi CmpIPredicate.sle (IntOp.addi (IntOp.muli (16#32) (BitVec.ofNat 32 j.val)) 15#32) 16384#32)

theorem ok_zero : ok 0 = 0#1 := by decide +kernel

theorem ok_succ (n : Fin 1023) : ok n.succ = 1#1 := by
  revert n; decide +kernel

/-- The literal of the rows that do not count. -/
def low : EReal := Ideal.ofBits .f32 0xF149F2CA#32

theorem low_ne_top : low ≠ ⊤ := by
  unfold low Ideal.ofBits Ideal.ieee
  simp only []
  rw [if_neg (by decide), if_neg (by decide)]
  exact EReal.coe_ne_top _

/-- The kept scores. -/
def sm (s : Fin 1024 → EReal) (j : Fin 1024) : EReal := Scalar.select (ok j) (s j) low

/-- The greatest kept score. -/
def mx (s : Fin 1024 → EReal) : EReal := Finset.fold max (Ideal.ofBits .f32 0xFF800000#32) (fun x => sm s x) Finset.univ

/-- The exponentials of the kept scores. -/
def ex (s : Fin 1024 → EReal) (j : Fin 1024) : EReal := Scalar.select (ok j) (Ideal.exp (sm s j - mx s)) 0

/-- The weights of a row of scores as the block computes them. -/
def kw (s : Fin 1024 → EReal) (j : Fin 1024) : EReal :=
  Scalar.select (ok j) (Ideal.exp (sm s j - mx s) * Ideal.div 1 (if ∑ x, ex s x = 0 then 1 else ∑ x, ex s x)) 0

theorem pay4 (q : Vec Ideal S1x8x128 .bf16) (k : Vec Ideal S1x1024x256 .bf16) (b : Vec Ideal S8x1024 .f32) (a : Fin 8) (j : Fin 1024) :
    k0_pay4 q k b (ix2 a j) = kw (fun r => ∑ x : Fin 128, q (ix3 0 a x) * k (ix3 0 r ⟨x.val, by omega⟩) + b (ix2 a r)) j := by
  pointwise [k0_pay4, k0_pay3]
  unfold kw ex mx sm ok low
  congr!

theorem pay5 (q : Vec Ideal S1x8x128 .bf16) (k : Vec Ideal S1x1024x256 .bf16) (b : Vec Ideal S8x1024 .f32) (a : Fin 8) (j : Fin 1024) :
    k0_pay5 q k b (ix2 a j) = k0_pay4 q k b (ix2 a j) := by
  pointwise [k0_pay5]

theorem pay6 (k : Vec Ideal S1x1024x256 .bf16) (r : Fin 1024) (j : Fin 128) :
    k0_pay6 k (ix2 r j) = k (ix3 0 r ⟨128 + j.val, by omega⟩) := by
  pointwise [k0_pay6, k0_pay3]

theorem sm_zero (s : Fin 1024 → EReal) : sm s 0 = low := by
  unfold sm; rw [ok_zero]; rfl

theorem sm_succ (s : Fin 1024 → EReal) (n : Fin 1023) : sm s n.succ = s n.succ := by
  unfold sm; rw [ok_succ]; rfl

theorem mx_real (s : Fin 1024 → EReal) (x : Fin 1023 → ℝ) (h : ∀ n : Fin 1023, s n.succ = (x n : EReal)) : ∃ r : ℝ, mx s = (r : EReal) := by
  refine fold_real _ ?_ _ (fun i => ?_) (Fin.succ (0 : Fin 1023)) ?_
  · simp [Ideal.ofBits, Ideal.ieee]
  · refine Fin.cases ?_ (fun n => ?_) i
    · rw [sm_zero]; exact low_ne_top
    · rw [sm_succ, h]; exact EReal.coe_ne_top _
  · rw [sm_succ, h]; exact EReal.coe_ne_bot _

theorem ex_zero (s : Fin 1024 → EReal) : ex s 0 = 0 := by
  unfold ex; rw [ok_zero]; rfl

theorem ex_succ (s : Fin 1024 → EReal) (n : Fin 1023) : ex s n.succ = Ideal.exp (s n.succ - mx s) := by
  unfold ex; rw [ok_succ, sm_succ]; rfl

theorem kw_zero (s : Fin 1024 → EReal) : kw s 0 = 0 := by
  unfold kw; rw [ok_zero]; rfl

theorem kw_succ (s : Fin 1024 → EReal) (x : Fin 1023 → ℝ) (h : ∀ n : Fin 1023, s n.succ = (x n : EReal)) (n : Fin 1023) :
    kw s n.succ = (wt x n : EReal) := by
  obtain ⟨m, hm⟩ := mx_real s x h
  have hl : ∑ j, ex s j = ∑ j : Fin 1023, Ideal.exp ((x j : EReal) - (m : EReal)) := by
    rw [Fin.sum_univ_succ, ex_zero, zero_add]
    exact Finset.sum_congr rfl fun j _ => by rw [ex_succ, h, hm]
  unfold kw
  rw [ok_succ, sm_succ, h, hm]
  exact recip x m n _ hl

end Cert.CmpSPay

end
-- ==== Proof.CmpSValue.lean ====
/- The new tokens' compressed attention as a function of the arguments. -/
module

public import proofs.«01_k».proof.Proof.CmpSPay

@[expose] public section

set_option maxRecDepth 16384

noncomputable section

namespace Cert.CmpSVal

open Cert.CmpSIdeal Cert.CmpSIdeal.Gen Cert.CmpSPay Idealize.ShloMosaic Idealize.ShloMosaic.TcCoe
open scoped BigOperators

/-- The score of head `a` of token `s` at compressed row `r`. -/
def sc (x : Vec Ideal S32x8x64 .f32) (k : Vec Ideal S32x1024x256 .bf16) (b : Vec Ideal S8x1024 .f32) (s : Fin 32) (a : Fin 8) (r : Fin 1024) : EReal :=
  ∑ d : Fin 64, x (ix3 s a d) * k (ix3 s r ⟨a.val / 4 * 64 + d.val, by omega⟩) + b (ix2 a r)

/-- Whether compressed row `n + 1` meets selection block `j`. -/
def ovb (n : Fin 1023) (j : Fin 257) : BitVec 1 :=
  IntOp.andi
    (IntOp.cmpi CmpIPredicate.sle (IntOp.muli (BitVec.ofNat 32 n.val) 16#32)
      (IntOp.subi (IntOp.addi (IntOp.muli (BitVec.ofNat 32 j.val) 64#32) 64#32) 1#32))
    (IntOp.cmpi CmpIPredicate.sge
      (IntOp.subi (IntOp.addi (IntOp.muli (BitVec.ofNat 32 n.val) 16#32) 32#32) 1#32)
      (IntOp.muli (BitVec.ofNat 32 j.val) 64#32))

/-- The same as a number. -/
def ov (n : Fin 1023) (j : Fin 257) : EReal := (FloatOps.uitofp .f32 (ovb n j) : Ideal .f32)

/-- The attention's output, each head over its own group's values. -/
def O (x : Vec Ideal S32x8x64 .f32) (k : Vec Ideal S32x1024x256 .bf16) (b : Vec Ideal S8x1024 .f32) : Vec Ideal S32x8x64 .f32 := fun i =>
  ∑ r : Fin 1023, kw (sc x k b (i 0) (i 1)) r.succ * k (ix3 (i 0) r.succ ⟨128 + ((i 1).val / 4 * 64 + (i 2).val), by
    have h1 : (i 1).val < 8 := (i 1).isLt
    have h2 : (i 2).val < 64 := (i 2).isLt
    omega⟩)

/-- The weights of group `g`'s heads added up. -/
def gs (x : Vec Ideal S32x8x64 .f32) (k : Vec Ideal S32x1024x256 .bf16) (b : Vec Ideal S8x1024 .f32) (s : Fin 32) (g : Fin 2) (r : Fin 1024) : EReal :=
  ∑ h : Fin 4, kw (sc x k b s ⟨g.val * 4 + h.val, by omega⟩) r

/-- The importance of the selection blocks, the sum taken in two parts. -/
def I (x : Vec Ideal S32x8x64 .f32) (k : Vec Ideal S32x1024x256 .bf16) (b : Vec Ideal S8x1024 .f32) : Vec Ideal S32x2x257 .f32 := fun i =>
  ∑ r : Fin 1023, gs x k b (i 0) (i 1) r.succ * ov r (i 2)
    + ∑ r : Fin 1023, (gs x k b (i 0) (i 1) r.succ - gs x k b (i 0) (i 1) r.succ) * ov r (i 2)

variable (m : (ℓ : Loc nD τ sig) → Buf (Elt Ideal) ℓ)

theorem slot_eq (w : BitVec 32) (hw : w = 4#32) (a : Fin 8) (g : Fin 2) :
    IntOp.cmpi CmpIPredicate.eq
          (Scalar.select
            (IntOp.andi
              (IntOp.cmpi CmpIPredicate.ne
                (if BitVec.ofNat 32 a.val = 0 then (0 : BitVec 32) else if (BitVec.ofNat 32 a.val).msb = true then -1 else 1)
                (if w = 0 then (0 : BitVec 32)
                else if BitVec.msb w = true then -1 else 1))
              (IntOp.cmpi CmpIPredicate.ne
                (IntOp.remsi ArithUnit.host (BitVec.ofNat 32 a.val) w) 0#32))
            (IntOp.subi (IntOp.divsi ArithUnit.host (BitVec.ofNat 32 a.val) w) 1#32)
            (IntOp.divsi ArithUnit.host (BitVec.ofNat 32 a.val) w))
          (BitVec.ofNat 32 g.val) = if g.val = a.val / 4 then 1#1 else 0#1 := by
  subst hw
  revert a g; decide +kernel

theorem uone : (FloatOps.uitofp FTy.f32 1#1 : Ideal .f32) = (1 : EReal) := by
  show (((1#1 : BitVec 1).toNat : ℝ) : EReal) = 1
  simp

theorem uzero : (FloatOps.uitofp FTy.f32 0#1 : Ideal .f32) = (0 : EReal) := by
  show (((0#1 : BitVec 1).toNat : ℝ) : EReal) = 0
  simp

/-- The padded queries: a head's lanes stand in its own group's half. -/
theorem V48 (c : Dev nD) (s : Fin 32) (a : Fin 8) (g : Fin 2) (d : Fin 64) :
    (V m c main_v48 : Vec Ideal S32x8x128 .bf16) (ix3 s a ⟨g.val * 64 + d.val, by omega⟩)
      = if g.val = a.val / 4 then (m ((c : Thread nD τ).loc main_arg0) : Vec Ideal S32x8x64 .f32) (ix3 s a d) else (0 : EReal) := by
  simp only [V, V0, hostOps0, hostOps0_1, hostOps0_2, hostOps0_3, hostOps0_4, List.flatten_cons, List.flatten_nil, List.append_nil, List.cons_append, List.nil_append,
    StableHlo.TRef.binary, StableHlo.TRef.nullary, StableHlo.TRef.unary, StableHlo.TRef.ternary, StableHlo.TRef.toBuf, StableHlo.TRef.ofBuf, cast_eq]
  after_results_simp
  pointwise
  have e1 : (g.val * 64 + d.val) / 64 = g.val := by omega
  have e2 : (⟨(g.val * 64 + d.val) % 64, Nat.mod_lt _ (by omega)⟩ : Fin 64) = d := Fin.ext (by simp only []; omega)
  rw [e1]
  refine (congrArg₂ (fun y z : EReal => y * z) (congrArg (fun z => (m ((c : Thread nD τ).loc main_arg0) : Vec Ideal S32x8x64 .f32) (ix3 s a z)) e2)
    (congrArg (fun f : BitVec 1 => (FloatOps.uitofp FTy.f32 f : Ideal .f32)) (slot_eq (id (constantI S_ 32 4#32) ix0) rfl a g))).trans ?_
  by_cases h : g.val = a.val / 4
  · rw [if_pos h, if_pos h]
    exact (congrArg (fun z : EReal => _ * z) uone).trans (mul_one _)
  · rw [if_neg h, if_neg h]
    exact (congrArg (fun z : EReal => _ * z) uzero).trans (mul_zero _)

/-- The overlap table. -/
theorem V40 (c : Dev nD) (n : Fin 1023) (j : Fin 257) :
    (V m c main_v40 : Vec Ideal S1024x384 .bf16) (ix2 n.succ ⟨j.val, by omega⟩) = ov n j := by
  simp only [V, V0, hostOps0, hostOps0_1, hostOps0_2, hostOps0_3, hostOps0_4, List.flatten_cons, List.flatten_nil, List.append_nil, List.cons_append, List.nil_append,
    StableHlo.TRef.binary, StableHlo.TRef.nullary, StableHlo.TRef.unary, StableHlo.TRef.ternary, StableHlo.TRef.toBuf, StableHlo.TRef.ofBuf, cast_eq]
  after_results_simp
  pointwise
  have e1 : IntOp.subi (BitVec.ofNat 32 n.succ.val) 1#32 = BitVec.ofNat 32 n.val := by revert n; decide +kernel
  have e2 : IntOp.cmpi CmpIPredicate.sge (BitVec.ofNat 32 n.succ.val) 1#32 = 1#1 := by revert n; decide +kernel
  have e3 : ∀ b : BitVec 1, IntOp.andi b 1#1 = b := by decide
  simp only [e1, e2, e3]
  rfl

/-- A score over the padded queries. -/
def sp (q : Vec Ideal S32x8x128 .bf16) (k : Vec Ideal S32x1024x256 .bf16) (b : Vec Ideal S8x1024 .f32) (s : Fin 32) (a : Fin 8) (r : Fin 1024) : EReal :=
  ∑ x : Fin 128, q (ix3 s a x) * k (ix3 s r ⟨x.val, by omega⟩) + b (ix2 a r)

/-- What the block computes into the first output, over what the call finds. -/
def A4 (q : Vec Ideal S32x8x128 .bf16) (k : Vec Ideal S32x1024x256 .bf16) (b : Vec Ideal S8x1024 .f32) : Vec Ideal S32x8x128 .f32 := fun i =>
  ∑ r : Fin 1024, kw (sp q k b (i 0) (i 1)) r * k (ix3 (i 0) r ⟨128 + (i 2).val, by
      have h2 : (i 2).val < 128 := (i 2).isLt
      omega⟩)

/-- The weights, over what the call finds. -/
def P5 (q : Vec Ideal S32x8x128 .bf16) (k : Vec Ideal S32x1024x256 .bf16) (b : Vec Ideal S8x1024 .f32) (s : Fin 32) : FVec Ideal S8x1024 .f32 := fun i =>
  kw (sp q k b s (i 0)) (i 1)

/-- And into the second. -/
def A5 (q : Vec Ideal S32x8x128 .bf16) (k : Vec Ideal S32x1024x256 .bf16) (b : Vec Ideal S8x1024 .f32) (v : Vec Ideal S1024x384 .bf16) : Vec Ideal S32x8x384 .f32 := fun i =>
  ∑ r : Fin 1024, psum (P5 q k b (i 0)) (i 1) r * v (ix2 r (i 2))
    + ∑ r : Fin 1024, (psum (P5 q k b (i 0)) (i 1) r - psum (P5 q k b (i 0)) (i 1) r) * v (ix2 r (i 2))

theorem idx : ∀ t : Fin grid0.N, win0_0.index t = ![t.val, 0, 0] ∧ win0_1.index t = ![t.val, 0, 0] ∧ win0_2.index t = ![0, 0] ∧ win0_3.index t = ![0, 0]
    ∧ win0_4.index t = ![t.val, 0, 0] ∧ win0_5.index t = ![t.val, 0, 0] := by
  decide +kernel

/-- A score over one token's blocks. -/
def sb (q : Vec Ideal S1x8x128 .bf16) (k : Vec Ideal S1x1024x256 .bf16) (b : Vec Ideal S8x1024 .f32) (a : Fin 8) (r : Fin 1024) : EReal :=
  ∑ x : Fin 128, q (ix3 0 a x) * k (ix3 0 r ⟨x.val, by omega⟩) + b (ix2 a r)

theorem out4_at (q : Vec Ideal S1x8x128 .bf16) (k : Vec Ideal S1x1024x256 .bf16) (b : Vec Ideal S8x1024 .f32) (v : Vec Ideal S1024x384 .bf16) (u : Fin 1) (a : Fin 8) (d : Fin 128) :
    out0_4 q k b v (ix3 u a d) = ∑ r : Fin 1024, kw (sb q k b a) r * k (ix3 0 r ⟨128 + d.val, by omega⟩) := by
  obtain ⟨y, hy⟩ : ∃ y, y = (ix3 u a d : S1x8x128.Idx) := ⟨_, rfl⟩
  have hya : (y 1).val = a.val := by rw [hy]; rfl
  have hyb : (y 2).val = d.val := by rw [hy]; rfl
  rw [← hy]
  unfold out0_4
  simp (disch := decide) only [View.ld_unit_lit]
  canon_tiles x h
  obtain ⟨w, p, q, rfl⟩ : ∃ w p q, x = ix3 w p q := ⟨x 0, x 1, x 2, eq_ix3 x⟩
  obtain rfl : w = 0 := Subsingleton.elim _ _
  obtain rfl : a = p := Fin.ext (hya.symm.trans h1)
  obtain rfl : d = q := Fin.ext (hyb.symm.trans h2)
  refine (pay1 _ _ a d).trans (Finset.sum_congr rfl fun r _ => congrArg₂ (· * ·) ?_ (pay6 _ r d))
  exact (pay5 _ _ _ a r).trans (pay4 _ _ _ a r)

theorem out5_at (q : Vec Ideal S1x8x128 .bf16) (k : Vec Ideal S1x1024x256 .bf16) (b : Vec Ideal S8x1024 .f32) (v : Vec Ideal S1024x384 .bf16) (u : Fin 1) (a : Fin 8) (d : Fin 384) :
    out0_5 q k b v (ix3 u a d) = ∑ r : Fin 1024, psum (k0_pay4 q k b) a r * v (ix2 r d) + ∑ r : Fin 1024, (psum (k0_pay4 q k b) a r - psum (k0_pay4 q k b) a r) * v (ix2 r d) := by
  obtain ⟨y, hy⟩ : ∃ y, y = (ix3 u a d : S1x8x384.Idx) := ⟨_, rfl⟩
  have hya : (y 1).val = a.val := by rw [hy]; rfl
  have hyb : (y 2).val = d.val := by rw [hy]; rfl
  rw [← hy]
  unfold out0_5
  simp (disch := decide) only [View.ld_unit_lit]
  canon_tiles x h
  obtain ⟨w, p, q, rfl⟩ : ∃ w p q, x = ix3 w p q := ⟨x 0, x 1, x 2, eq_ix3 x⟩
  obtain rfl : w = 0 := Subsingleton.elim _ _
  obtain rfl : a = p := Fin.ext (hya.symm.trans h1)
  obtain rfl : d = q := Fin.ext (hyb.symm.trans h2)
  exact pay2 _ _ a d

theorem b0 (c : Dev nD) (t : Fin cfg0.N) (ht : t.val < 32) (a : Fin 8) (x : Fin 128) :
    (iblk m c 0 t : Vec Ideal S1x8x128 .bf16) (ix3 0 a x) = (V m c main_v48 : Vec Ideal S32x8x128 .bf16) (ix3 (⟨t.val, ht⟩ : Fin 32) a x) := by
  blk_ext [iblk, (idx t).1]

theorem b1 (c : Dev nD) (t : Fin cfg0.N) (ht : t.val < 32) (a : Fin 1024) (x : Fin 256) :
    (iblk m c 1 t : Vec Ideal S1x1024x256 .bf16) (ix3 0 a x) = (V m c main_arg1 : Vec Ideal S32x1024x256 .bf16) (ix3 (⟨t.val, ht⟩ : Fin 32) a x) := by
  blk_ext [iblk, (idx t).2.1]

theorem b2 (c : Dev nD) (t : Fin cfg0.N) (a : Fin 8) (x : Fin 1024) :
    (iblk m c 2 t : Vec Ideal S8x1024 .f32) (ix2 a x) = (V m c main_arg2 : Vec Ideal S8x1024 .f32) (ix2 a x) := by
  blk_ext [iblk, (idx t).2.2.1]

theorem b3 (c : Dev nD) (t : Fin cfg0.N) (a : Fin 1024) (x : Fin 384) :
    (iblk m c 3 t : Vec Ideal S1024x384 .bf16) (ix2 a x) = (V m c main_v40 : Vec Ideal S1024x384 .bf16) (ix2 a x) := by
  blk_ext [iblk, (idx t).2.2.2.1]

theorem s_at (c : Dev nD) (t : Fin cfg0.N) (ht : t.val < 32) (a : Fin 8) :
    sb (iblk m c 0 t) (iblk m c 1 t) (iblk m c 2 t) a = sp (V m c main_v48) (V m c main_arg1) (V m c main_arg2) ⟨t.val, ht⟩ a := by
  funext r
  exact congrArg₂ (fun y z : EReal => y + z) (Finset.sum_congr rfl fun x _ => congrArg₂ (fun y z : EReal => y * z) (b0 m c t ht a x) (b1 m c t ht r _)) (b2 m c t a r)

theorem arr4 (c : Dev nD) : (dats m 0 c).arrAt 4 cfg0.N = A4 (V m c main_v48) (V m c main_arg1) (V m c main_arg2) := by
  refine (dats m 0 c).arrAt_eq_of_covers 4 _ (by decide +kernel) fun t hf y => ?_
  blk_simp
  rw [after0_4]
  have ht : t.val < 32 := t.isLt
  obtain ⟨u, a, d, rfl⟩ : ∃ (u : Fin 1) (a : Fin 8) (d : Fin 128), y = ix3 u a d := ⟨y 0, y 1, y 2, eq_ix3 y⟩
  have e0 : ((cfg0.win 4).blk t).view.emb (ix3 u a d) = ix3 (⟨t.val, ht⟩ : Fin 32) a d := by blk_ext [(idx t).2.2.2.2.1]
  refine (out4_at _ _ _ (iblk m c 3 t) u a d).trans (Eq.trans ?_ (congrArg (A4 (V m c main_v48) (V m c main_arg1) (V m c main_arg2)) e0).symm)
  rw [s_at m c t ht a]
  exact Finset.sum_congr rfl fun r _ => congrArg (fun z : EReal => kw (sp (V m c main_v48) (V m c main_arg1) (V m c main_arg2) ⟨t.val, ht⟩ a) r * z) (b1 m c t ht r _)

theorem p_at (c : Dev nD) (t : Fin cfg0.N) (ht : t.val < 32) :
    k0_pay4 (iblk m c 0 t : Vec Ideal S1x8x128 .bf16) (iblk m c 1 t : Vec Ideal S1x1024x256 .bf16) (iblk m c 2 t : Vec Ideal S8x1024 .f32)
      = P5 (V m c main_v48) (V m c main_arg1) (V m c main_arg2) ⟨t.val, ht⟩ := by
  refine funext fun (i : S8x1024.Idx) => ?_
  obtain ⟨a, j, rfl⟩ : ∃ a j, i = ix2 a j := ⟨i 0, i 1, eq_ix2 i⟩
  refine (pay4 _ _ _ a j).trans ?_
  exact congrArg (fun f => kw f j) (s_at m c t ht a)

theorem arr5 (c : Dev nD) : (dats m 0 c).arrAt 5 cfg0.N = A5 (V m c main_v48) (V m c main_arg1) (V m c main_arg2) (V m c main_v40) := by
  refine (dats m 0 c).arrAt_eq_of_covers 5 _ (by decide +kernel) fun t hf y => ?_
  blk_simp
  rw [after0_5]
  have ht : t.val < 32 := t.isLt
  obtain ⟨u, a, d, rfl⟩ : ∃ (u : Fin 1) (a : Fin 8) (d : Fin 384), y = ix3 u a d := ⟨y 0, y 1, y 2, eq_ix3 y⟩
  have e0 : ((cfg0.win 5).blk t).view.emb (ix3 u a d) = ix3 (⟨t.val, ht⟩ : Fin 32) a d := by blk_ext [(idx t).2.2.2.2.2]
  refine (out5_at _ _ _ _ u a d).trans (Eq.trans ?_ (congrArg (A5 (V m c main_v48) (V m c main_arg1) (V m c main_arg2) (V m c main_v40)) e0).symm)
  rw [p_at m c t ht]
  exact congrArg₂ (fun y z : EReal => y + z) (Finset.sum_congr rfl fun r _ => congrArg (fun z : EReal => psum (P5 (V m c main_v48) (V m c main_arg1) (V m c main_arg2) ⟨t.val, ht⟩) a r * z) (b3 m c t r d))
    (Finset.sum_congr rfl fun r _ => congrArg (fun z : EReal => (psum (P5 (V m c main_v48) (V m c main_arg1) (V m c main_arg2) ⟨t.val, ht⟩) a r - psum (P5 (V m c main_v48) (V m c main_arg1) (V m c main_arg2) ⟨t.val, ht⟩) a r) * z) (b3 m c t r d))

/-- A padded score is the plain one: the other group's lanes are zero. -/
theorem sp_of (q : Vec Ideal S32x8x128 .bf16) (x : Vec Ideal S32x8x64 .f32) (k : Vec Ideal S32x1024x256 .bf16) (b : Vec Ideal S8x1024 .f32) (s : Fin 32) (a : Fin 8)
    (hq : ∀ (g : Fin 2) (d : Fin 64), q (ix3 s a ⟨g.val * 64 + d.val, by omega⟩) = if g.val = a.val / 4 then x (ix3 s a d) else (0 : EReal)) :
    sp q k b s a = sc x k b s a := by
  funext r
  unfold sp sc
  refine congrArg (fun z : EReal => z + _) ?_
  have key : ∀ (g : Fin 2) (d : Fin 64), q (ix3 s a ⟨g.val * 64 + d.val, by omega⟩) * k (ix3 s r ⟨g.val * 64 + d.val, by omega⟩)
      = if g.val = a.val / 4 then x (ix3 s a d) * k (ix3 s r ⟨a.val / 4 * 64 + d.val, by omega⟩) else (0 : EReal) := by
    intro g d
    refine (congrArg (fun z : EReal => z * _) (hq g d)).trans ?_
    by_cases h : g.val = a.val / 4
    · rw [if_pos h, if_pos h]
      exact congrArg (fun z : EReal => _ * z) (congrArg k (congrArg (ix3 s r) (Fin.ext (by simp only [h]))))
    · rw [if_neg h, if_neg h]
      exact zero_mul _
  refine (Fin.sum_univ_add (a := 64) (b := 64) (M := EReal) _).trans ?_
  have k0 := fun d => key 0 d
  have k1 := fun d => key 1 d
  refine (congrArg₂ (fun y z : EReal => y + z) (Finset.sum_congr rfl fun d _ => Eq.trans ?_ (k0 d)) (Finset.sum_congr rfl fun d _ => Eq.trans ?_ (k1 d))).trans ?_
  · exact congrArg₂ (fun (y : Fin 128) (z : Fin 256) => q (ix3 s a y) * k (ix3 s r z)) (Fin.ext (by simp)) (Fin.ext (by simp))
  · exact congrArg₂ (fun (y : Fin 128) (z : Fin 256) => q (ix3 s a y) * k (ix3 s r z)) (Fin.ext (by simp [add_comm])) (Fin.ext (by simp [add_comm]))
  · by_cases h : a.val / 4 = 0
    · have h0 : ((0 : Fin 2).val = a.val / 4) := h.symm
      have h1 : ¬ ((1 : Fin 2).val = a.val / 4) := by rw [h]; decide
      simp only [if_pos h0, if_neg h1]
      exact (congrArg (fun z : EReal => _ + z) Finset.sum_const_zero).trans (add_zero _)
    · have h1 : ((1 : Fin 2).val = a.val / 4) := by show 1 = a.val / 4; omega
      have h0 : ¬ ((0 : Fin 2).val = a.val / 4) := fun e => h e.symm
      simp only [if_pos h1, if_neg h0]
      exact (congrArg (fun z : EReal => z + _) Finset.sum_const_zero).trans (zero_add _)

theorem sp_eq (c : Dev nD) (s : Fin 32) (a : Fin 8) :
    sp (V m c main_v48) (V m c main_arg1) (V m c main_arg2) s a
      = sc (m ((c : Thread nD τ).loc main_arg0)) (m ((c : Thread nD τ).loc main_arg1)) (m ((c : Thread nD τ).loc main_arg2)) s a := by
  rw [V_main_arg1 m c, V_main_arg2 m c]
  exact sp_of _ _ _ _ s a (V48 m c s a)

theorem psum_of (p : FVec Ideal S8x1024 .f32) (g : Fin 2) (r : Fin 1024) :
    psum p ⟨g.val, by omega⟩ r = ∑ h : Fin 4, p (ix2 ⟨g.val * 4 + h.val, by omega⟩ r) := by
  have e0 : IntOp.cmpi CmpIPredicate.eq (BitVec.ofNat 32 0) 1#32 = 0#1 := by decide
  have e1 : IntOp.cmpi CmpIPredicate.eq (BitVec.ofNat 32 0) 0#32 = 1#1 := by decide
  have e2 : IntOp.cmpi CmpIPredicate.eq (BitVec.ofNat 32 1) 1#32 = 1#1 := by decide
  unfold psum
  obtain h | h : g = 0 ∨ g = 1 := by omega
  · subst h
    show Scalar.select (IntOp.cmpi CmpIPredicate.eq (BitVec.ofNat 32 0) 1#32) _ (Scalar.select (IntOp.cmpi CmpIPredicate.eq (BitVec.ofNat 32 0) 0#32) _ _) = _
    rw [e0, e1]
    show (∑ h : Fin 4, p (ix2 ⟨h.val, by omega⟩ r)) = _
    exact Finset.sum_congr rfl fun (h : Fin 4) _ => congrArg (fun a => p (ix2 a r)) (Fin.ext (by show h.val = 0 * 4 + h.val; omega))
  · subst h
    show Scalar.select (IntOp.cmpi CmpIPredicate.eq (BitVec.ofNat 32 1) 1#32) _ _ = _
    rw [e2]
    show (∑ h : Fin 4, p (ix2 ⟨4 + h.val, by omega⟩ r)) = _
    exact Finset.sum_congr rfl fun (h : Fin 4) _ => congrArg (fun a => p (ix2 a r)) (Fin.ext (by show 4 + h.val = 1 * 4 + h.val; omega))

/-- A first row of no weight drops out of the two sums. -/
theorem two (P w : Fin 1024 → EReal) (o : Fin 1023 → EReal) (h : P 0 = 0) (hw : ∀ n : Fin 1023, w n.succ = o n) :
    ∑ r : Fin 1024, P r * w r + ∑ r : Fin 1024, (P r - P r) * w r = ∑ n : Fin 1023, P n.succ * o n + ∑ n : Fin 1023, (P n.succ - P n.succ) * o n := by
  rw [Fin.sum_univ_succ (n := 1023), Fin.sum_univ_succ (n := 1023) (f := fun r => (P r - P r) * w r), h, sub_zero, zero_mul, zero_add, zero_add]
  simp only [hw]

/-- What the lines after the call leave in the first result. -/
theorem tail56 (U : Valuation τ sig (Elt Ideal)) (s : Fin 32) (a : Fin 8) (d : Fin 64) :
    (StableHlo.after (List.flatten [hostOps1, hostOps1_1, hostOps1_2]) U (Proc.devRef .tc main_v56) : Vec Ideal S32x8x64 .f32) (ix3 s a d)
      = (U (Proc.devRef .tc main_v49_0) : Vec Ideal S32x8x128 .f32) (ix3 s a ⟨a.val / 4 * 64 + d.val, by omega⟩) := by
  simp only [hostOps1, hostOps1_1, hostOps1_2, List.flatten_cons, List.flatten_nil, List.append_nil, List.cons_append, List.nil_append,
    StableHlo.TRef.binary, StableHlo.TRef.nullary, StableHlo.TRef.unary, StableHlo.TRef.ternary, StableHlo.TRef.toBuf, StableHlo.TRef.ofBuf, cast_eq]
  after_results_simp
  pointwise
  have hb : ∀ a : Fin 8, IntOp.cmpi CmpIPredicate.slt (BitVec.ofNat 32 a.val) 4#32 = if a.val / 4 = 0 then 1#1 else 0#1 := by decide +kernel
  rw [hb a]
  by_cases h : a.val / 4 = 0
  · rw [if_pos h]
    exact congrArg (U (Proc.devRef .tc main_v49_0) : Vec Ideal S32x8x128 .f32) (congrArg (ix3 s a) (Fin.ext (by simp only []; omega)))
  · rw [if_neg h]
    exact congrArg (U (Proc.devRef .tc main_v49_0) : Vec Ideal S32x8x128 .f32) (congrArg (ix3 s a) (Fin.ext (by simp only []; omega)))

/-- And in the second. -/
theorem tail57 (U : Valuation τ sig (Elt Ideal)) (s : Fin 32) (a : Fin 2) (d : Fin 257) :
    (StableHlo.after (List.flatten [hostOps1, hostOps1_1, hostOps1_2]) U (Proc.devRef .tc main_v57) : Vec Ideal S32x2x257 .f32) (ix3 s a d)
      = (U (Proc.devRef .tc main_v49_1) : Vec Ideal S32x8x384 .f32) (ix3 s ⟨a.val, by omega⟩ ⟨d.val, by omega⟩) := by
  simp only [hostOps1, hostOps1_1, hostOps1_2, List.flatten_cons, List.flatten_nil, List.append_nil, List.cons_append, List.nil_append,
    StableHlo.TRef.binary, StableHlo.TRef.nullary, StableHlo.TRef.unary, StableHlo.TRef.ternary, StableHlo.TRef.toBuf, StableHlo.TRef.ofBuf, cast_eq]
  after_results_simp
  pointwise

/-- The device's buffers when the call is over. -/
abbrev U (c : Dev nD) : Valuation τ sig (Elt Ideal) := Pipeline.withArrays (cfgs 0).spec c (V0 m c) fun w => (dats m 0 c).arrAt w (cfgs 0).N

theorem U0 (c : Dev nD) : (U m c (Proc.devRef .tc main_v49_0) : Vec Ideal S32x8x128 .f32) = A4 (V m c main_v48) (V m c main_arg1) (V m c main_arg2) := by
  have h : U m c (Proc.devRef .tc main_v49_0) = (dats m 0 c).arrAt 4 cfg0.N := Pipeline.withArrays_arr (cfgs 0).spec (by decide) c _ _ 4
  exact h.trans (arr4 m c)

theorem U1 (c : Dev nD) : (U m c (Proc.devRef .tc main_v49_1) : Vec Ideal S32x8x384 .f32) = A5 (V m c main_v48) (V m c main_arg1) (V m c main_arg2) (V m c main_v40) := by
  have h : U m c (Proc.devRef .tc main_v49_1) = (dats m 0 c).arrAt 5 cfg0.N := Pipeline.withArrays_arr (cfgs 0).spec (by decide) c _ _ 5
  exact h.trans (arr5 m c)

theorem out56 (c : Dev nD) : Pipeline.afterTail₀ cfgs (dats m) 0 (V0 m) [hostOps1, hostOps1_1, hostOps1_2] c main_v56
    = O (m ((c : Thread nD τ).loc main_arg0)) (m ((c : Thread nD τ).loc main_arg1)) (m ((c : Thread nD τ).loc main_arg2)) := by
  refine funext fun (i : S32x8x64.Idx) => ?_
  obtain ⟨s, a, d, rfl⟩ : ∃ a b c, i = ix3 a b c := ⟨i 0, i 1, i 2, eq_ix3 i⟩
  refine (tail56 (U m c) s a d).trans ((congrFun (U0 m c) _).trans ?_)
  show ∑ r : Fin 1024, kw (sp (V m c main_v48) (V m c main_arg1) (V m c main_arg2) s a) r * (V m c main_arg1 : Vec Ideal S32x1024x256 .bf16) (ix3 s r ⟨128 + (a.val / 4 * 64 + d.val), by omega⟩) = _
  rw [sp_eq m c s a, V_main_arg1 m c]
  refine (Fin.sum_univ_succ (n := 1023) (M := EReal) _).trans ?_
  rw [kw_zero]
  exact (congrArg (fun z : EReal => z + _) (zero_mul _)).trans (zero_add _)

theorem psum_eq (c : Dev nD) (s : Fin 32) (g : Fin 2) (r : Fin 1024) :
    psum (P5 (V m c main_v48) (V m c main_arg1) (V m c main_arg2) s) ⟨g.val, by omega⟩ r
      = gs (m ((c : Thread nD τ).loc main_arg0)) (m ((c : Thread nD τ).loc main_arg1)) (m ((c : Thread nD τ).loc main_arg2)) s g r :=
  (psum_of _ g r).trans (Finset.sum_congr rfl fun h _ => congrArg (fun f => kw f r) (sp_eq m c s ⟨g.val * 4 + h.val, by omega⟩))

theorem gs_zero (x : Vec Ideal S32x8x64 .f32) (k : Vec Ideal S32x1024x256 .bf16) (b : Vec Ideal S8x1024 .f32) (s : Fin 32) (g : Fin 2) : gs x k b s g 0 = 0 := by
  unfold gs
  simp only [kw_zero]
  exact Finset.sum_const_zero

theorem out57 (c : Dev nD) : Pipeline.afterTail₀ cfgs (dats m) 0 (V0 m) [hostOps1, hostOps1_1, hostOps1_2] c main_v57
    = I (m ((c : Thread nD τ).loc main_arg0)) (m ((c : Thread nD τ).loc main_arg1)) (m ((c : Thread nD τ).loc main_arg2)) := by
  refine funext fun (i : S32x2x257.Idx) => ?_
  obtain ⟨s, g, j, rfl⟩ : ∃ a b c, i = ix3 a b c := ⟨i 0, i 1, i 2, eq_ix3 i⟩
  refine (tail57 (U m c) s g j).trans ((congrFun (U1 m c) _).trans ?_)
  refine (two (fun r => psum (P5 (V m c main_v48) (V m c main_arg1) (V m c main_arg2) s) ⟨g.val, by omega⟩ r)
    (fun r => (V m c main_v40 : Vec Ideal S1024x384 .bf16) (ix2 r ⟨j.val, by omega⟩)) (fun n => ov n j)
    ((psum_eq m c s g 0).trans (gs_zero _ _ _ s g)) (fun n => V40 m c n j)).trans ?_
  simp only [psum_eq m c s g]
  rfl

end Cert.CmpSVal

end
-- ==== Proof.CmpSRefRead.lean ====
/- The reference's compressed attention, read off its stages. -/
module

public import proofs.«01_k».proof.Proof.CmpSValue
public import proofs.«01_k».proof.Proof.Gen.CmpSRefIdeal.Read

@[expose] public section

set_option maxRecDepth 16384

noncomputable section

namespace Cert.CmpSRef

open Cert.CmpSRefIdeal Cert.CmpSRefIdeal.Read Cert.CmpSVal Cert.CmpSPay Cert.CmpSoft Idealize.ShloMosaic Idealize.ShloMosaic.TcCoe
open scoped BigOperators

variable (x0 : Vec Ideal S32x8x64 .f32) (x1 : Vec Ideal S32x1024x256 .bf16) (x2 : Vec Ideal S8x1024 .f32)

/-- Every compressed row lies before the new token. -/
theorem seen (n : Fin 1023) : IntOp.cmpi CmpIPredicate.sle (IntOp.subi (IntOp.addi (IntOp.muli (BitVec.ofNat 32 n.val) 16#32) 32#32) 1#32) 16384#32 = 1#1 := by
  revert n; decide +kernel

theorem v22 (s : Fin 32) (g : Fin 2) (h : Fin 4) (n : Fin 1023) :
    val_main_v22 (F := Ideal) x0 x1 x2 (ix4 s g h n) = sc x0 x1 x2 s ⟨g.val * 4 + h.val, by omega⟩ n.succ := by
  pointwise [val_main_v22, val_main_call0_v2, val_main_call0_v1, val_main_call0_v0, val_main_cst, val_main_v21, val_main_v20, val_main_v19, val_main_c_2, val_main_v18, val_main_v17,
    val_main_v16, val_main_v15, val_main_v14, val_main_v13, val_main_v12, val_main_c_1, val_main_v11, val_main_v10, val_main_c_0, val_main_v9, val_main_v8, val_main_c, val_main_v7, val_main_v4, val_main_v3, val_main_v2, val_main_v1, val_main_v0]
  rw [seen n]
  unfold sc
  refine congrArg₂ (fun y z : EReal => y + z) (Finset.sum_congr rfl fun d _ => congrArg₂ (fun y z : EReal => y * z) rfl ?_) ?_
  · exact congrArg₂ (fun y z => x1 (ix3 s y z)) (Fin.ext (by show 1 + n.val = n.val + 1; omega)) (Fin.ext (by simp only []; omega))
  · exact congrArg (fun y => x2 (ix2 _ y)) (Fin.ext (by show 1 + n.val = n.val + 1; omega))

theorem max_real (b : EReal) (hb : b ≠ ⊤) (r : ℝ) : ∃ t : ℝ, max b (r : EReal) = t := by
  rcases le_total b (r : EReal) with h | h
  · exact ⟨r, max_eq_right h⟩
  · refine ⟨b.toReal, ?_⟩
    rw [max_eq_left h]
    refine (EReal.coe_toReal hb ?_).symm
    rintro rfl
    exact absurd h (by simp)

variable (y : Fin 32 → Fin 8 → Fin 1023 → ℝ) (hy : ∀ s a n, sc x0 x1 x2 s a n.succ = (y s a n : EReal))

theorem red (s : Fin 32) (g : Fin 2) (h : Fin 4) (e : S32x2x4x1023.Reduces [3] S32x2x4) (n : Fin 1023) :
    (val_main_v22 (F := Ideal) x0 x1 x2 ∘ e.lift (ix3 s g h)) n = val_main_v22 (F := Ideal) x0 x1 x2 (ix4 s g h n) :=
  congrArg (val_main_v22 (F := Ideal) x0 x1 x2) (funext fun a => Fin.ext (by match a with | ⟨0, _⟩ => rfl | ⟨1, _⟩ => rfl | ⟨2, _⟩ => rfl | ⟨3, _⟩ => rfl))

include hy in
theorem v23 (s : Fin 32) (g : Fin 2) (h : Fin 4) : ∃ t : ℝ, val_main_v23 (F := Ideal) x0 x1 x2 (ix3 s g h) = (t : EReal) := by
  unfold val_main_v23
  have e := Host.reduce_eq_fold_single (FloatOps.maximumf : Ideal .f32 → Ideal .f32 → Ideal .f32) (val_main_v22 (F := Ideal) x0 x1 x2) (val_main_cst_3 (F := Ideal)) Gen.reducesTo_S32x2x4x1023_S32x2x4_d3 (by decide) Gen.h_S_ (ix3 s g h)
  rw [e]
  refine fold_real _ (by show Ideal.ofBits .f32 0xFF800000#32 ≠ ⊤; simp [Ideal.ofBits, Ideal.ieee]) _ (fun n => ?_) (0 : Fin 1023) ?_
  · have f := ((red x0 x1 x2 s g h (by decide) n).trans (v22 x0 x1 x2 s g h n)).trans (hy s _ n)
    exact fun q => EReal.coe_ne_top _ (f.symm.trans q)
  · have f := ((red x0 x1 x2 s g h (by decide) 0).trans (v22 x0 x1 x2 s g h 0)).trans (hy s _ 0)
    exact fun q => EReal.coe_ne_bot _ (f.symm.trans q)

include hy in
theorem v25 (s : Fin 32) (g : Fin 2) (h : Fin 4) : ∃ t : ℝ, val_main_v25 (F := Ideal) x0 x1 x2 (ix3 s g h) = (t : EReal) := by
  obtain ⟨t, ht⟩ := v23 x0 x1 x2 y hy s g h
  pointwise [val_main_v25, val_main_v24, val_main_cst_4]
  rw [ht]
  exact max_real _ (by simp [Ideal.ofBits, Ideal.ieee]) t

include hy in
theorem v34 (s : Fin 32) (g : Fin 2) (h : Fin 4) (n : Fin 1023) :
    val_main_v34 (F := Ideal) x0 x1 x2 (ix4 s g h n) = (wt (y s ⟨g.val * 4 + h.val, by omega⟩) n : EReal) := by
  obtain ⟨t, ht⟩ := v25 x0 x1 x2 y hy s g h
  pointwise [val_main_v34, val_main_call1_v2, val_main_call1_v1, val_main_call1_v0, val_main_cst_6, val_main_v21, val_main_v20, val_main_v19, val_main_c_2, val_main_v13, val_main_v12, val_main_c_1, val_main_v11, val_main_v10, val_main_c_0, val_main_v9, val_main_v8, val_main_c, val_main_v7,
    val_main_v33, val_main_v32, val_main_v31, val_main_v30, val_main_cst_5, val_main_v29, val_main_v28, val_main_v27, val_main_v26]
  rw [seen n]
  simp only [v22, ht, hy]
  exact quot _ t n

include hy in
theorem ref62 : val_main_v62 (F := Ideal) x0 x1 x2 = O x0 x1 x2 := by
  refine funext fun (i : S32x8x64.Idx) => ?_
  obtain ⟨s, a, d, rfl⟩ : ∃ a b c, i = ix3 a b c := ⟨i 0, i 1, i 2, eq_ix3 i⟩
  obtain ⟨g, h, rfl⟩ : ∃ (g : Fin 2) (h : Fin 4), a = ⟨g.val * 4 + h.val, by omega⟩ := ⟨⟨a.val / 4, by omega⟩, ⟨a.val % 4, by omega⟩, Fin.ext (by simp only []; omega)⟩
  have e : idx_main_v62 (ix3 s (⟨g.val * 4 + h.val, by omega⟩ : Fin 8) d) = ix4 s g h d :=
    funext fun a => Fin.ext (by match a with
      | ⟨0, _⟩ => show ((s.val * 8 + (g.val * 4 + h.val)) * 64 + d.val) / 512 = s.val; omega
      | ⟨1, _⟩ => show ((s.val * 8 + (g.val * 4 + h.val)) * 64 + d.val) / 256 % 2 = g.val; omega
      | ⟨2, _⟩ => show ((s.val * 8 + (g.val * 4 + h.val)) * 64 + d.val) / 64 % 4 = h.val; omega
      | ⟨3, _⟩ => show ((s.val * 8 + (g.val * 4 + h.val)) * 64 + d.val) % 64 = d.val; omega)
  rw [val_main_v62_apply, e]
  pointwise [val_main_v35, val_main_v6, val_main_v5, val_main_v2, val_main_v1]
  simp only [v34 x0 x1 x2 y hy]
  refine Finset.sum_congr rfl fun n _ => congrArg₂ (fun y z : EReal => y * z) (kw_succ _ _ (hy s _) n).symm ?_
  exact congrArg₂ (fun y z => x1 (ix3 s y z)) (Fin.ext (by show 1 + n.val = n.val + 1; omega)) (Fin.ext (by show 128 + (g.val * 64 + d.val) = 128 + ((g.val * 4 + h.val) / 4 * 64 + d.val); omega))

theorem v59 (n : Fin 1023) (j : Fin 257) : val_main_v59 (F := Ideal) (ix2 n j) = ov n j := by
  pointwise [val_main_v59, val_main_v58, val_main_v57, val_main_v56, val_main_v55, val_main_v54, val_main_v53, val_main_v52, val_main_v51, val_main_v50, val_main_v49, val_main_v48, val_main_v47, val_main_v46, val_main_v45,
    val_main_v44, val_main_v43, val_main_v42, val_main_v41, val_main_v40, val_main_v39, val_main_v38, val_main_v37, val_main_v36, val_main_c_7, val_main_c_8, val_main_c_9, val_main_c_10, val_main_c_11, val_main_c_12]
  rfl

include hy in
theorem gs_eq (s : Fin 32) (g : Fin 2) (n : Fin 1023) : gs x0 x1 x2 s g n.succ = ((∑ h : Fin 4, wt (y s ⟨g.val * 4 + h.val, by omega⟩) n : ℝ) : EReal) := by
  unfold gs
  exact (Finset.sum_congr rfl fun h _ => kw_succ _ _ (hy s _) n).trans (coe_sum _)

include hy in
theorem ref61 : val_main_v61 (F := Ideal) x0 x1 x2 = I x0 x1 x2 := by
  refine funext fun (i : S32x2x257.Idx) => ?_
  obtain ⟨s, g, j, rfl⟩ : ∃ a b c, i = ix3 a b c := ⟨i 0, i 1, i 2, eq_ix3 i⟩
  pointwise [val_main_v61, val_main_v60, val_main_cst_13]
  simp only [v34 x0 x1 x2 y hy, v59]
  show _ = ∑ r : Fin 1023, gs x0 x1 x2 s g r.succ * ov r j + ∑ r : Fin 1023, (gs x0 x1 x2 s g r.succ - gs x0 x1 x2 s g r.succ) * ov r j
  simp only [gs_eq x0 x1 x2 y hy]
  have z : ∀ r : ℝ, (r : EReal) - (r : EReal) = 0 := fun r => by rw [← EReal.coe_sub, sub_self, EReal.coe_zero]
  simp only [z, zero_mul, Finset.sum_const_zero, add_zero, coe_sum]

end Cert.CmpSRef

end
-- ==== Proof.CmpSClaim.lean ====
/- The new tokens' compressed attention's claim: the outputs and the blocks' importance are the reference's. -/
module

public import proofs.«01_k».proof.Defs
public import proofs.«01_k».proof.Proof.Gen.CmpS
public import proofs.«01_k».proof.Proof.Gen.Pre_finite_scores
public import proofs.«01_k».proof.Proof.Gen.CmpSRefIdeal
public import proofs.«01_k».proof.Proof.Gen.CmpSRefIdeal.Run
public import proofs.«01_k».proof.Proof.CmpSRefRead
public import Idealize.ShloMosaic.Adequacy

@[expose] public section

set_option maxRecDepth 16384

noncomputable section

namespace Cert.CmpSClaim

open Idealize.ShloMosaic Idealize.ShloMosaic.TcCoe Idealize.SL.Sem Cert.CmpSRefIdeal Cert.CmpSVal
open scoped BigOperators

/-- Whether a number's magnitude is below infinity. -/
def below (x : Ideal .f32) : BitVec 1 := FloatOps.cmpf .olt (FloatOps.absf x) (FloatOps.ofBits .f32 0x7F800000#32)

/-- A number of magnitude below infinity is a real. -/
theorem real_of (x : Ideal .f32) (h : below x = 1#1) : (x : EReal) = (EReal.toReal x : EReal) := by
  have t : (FloatOps.ofBits .f32 0x7F800000#32 : Ideal .f32) = (⊤ : EReal) := by
    show Ideal.ofBits .f32 0x7F800000#32 = ⊤
    simp [Ideal.ofBits, Ideal.ieee]
  unfold below at h
  rw [t] at h
  have a : max (x : EReal) (-x) < ⊤ := by
    by_contra hn
    have q : FloatOps.cmpf .olt (FloatOps.absf x) ((⊤ : EReal) : Ideal .f32) = 0#1 := by
      show BitVec.ofBool (decide (max (x : EReal) (-x) < ⊤)) = 0#1
      rw [decide_eq_false hn]
      rfl
    exact absurd (q.symm.trans h) (by decide)
  refine (EReal.coe_toReal ?_ ?_).symm
  · intro e
    rw [e] at a
    simp at a
  · intro e
    rw [e] at a
    simp at a

section
variable (x0 : Vec Ideal CmpSIdeal.S32x8x64 .f32) (x1 : Vec Ideal CmpSIdeal.S32x1024x256 .bf16) (x2 : Vec Ideal CmpSIdeal.S8x1024 .f32)

/-- A score as a real. -/
def ry (s : Fin 32) (a : Fin 8) (n : Fin 1023) : ℝ :=
  ∑ d : Fin 64, EReal.toReal (x0 (ix3 s a d)) * EReal.toReal (x1 (ix3 s n.succ ⟨a.val / 4 * 64 + d.val, by omega⟩)) + EReal.toReal (x2 (ix2 a n.succ))

theorem ry_eq (h0 : ∀ s a d, x0 (ix3 s a d) = (EReal.toReal (x0 (ix3 s a d)) : EReal))
    (h1 : ∀ (s : Fin 32) (n : Fin 1023) (j : Fin 128), x1 (ix3 s n.succ ⟨j.val, by omega⟩) = (EReal.toReal (x1 (ix3 s n.succ ⟨j.val, by omega⟩)) : EReal))
    (h2 : ∀ (a : Fin 8) (n : Fin 1023), x2 (ix2 a n.succ) = (EReal.toReal (x2 (ix2 a n.succ)) : EReal))
    (s : Fin 32) (a : Fin 8) (n : Fin 1023) : sc x0 x1 x2 s a n.succ = (ry x0 x1 x2 s a n : EReal) := by
  unfold sc ry
  rw [EReal.coe_add, ← CmpSoft.coe_sum]
  refine congrArg₂ (fun y z : EReal => y + z) (Finset.sum_congr rfl fun d _ => ?_) (h2 a n)
  rw [EReal.coe_mul]
  exact congrArg₂ (fun y z : EReal => y * z) (h0 s a d) (h1 s n ⟨a.val / 4 * 64 + d.val, by omega⟩)

variable [hf : Cert.Pre_finite_scores.Facts]

theorem fin0 (h : (Cert.Pre_finite_scores.fn (F := Ideal) x0 x1 x2).1 = fun _ => 1#1) (s : Fin 32) (a : Fin 8) (d : Fin 64) :
    x0 (ix3 s a d) = (EReal.toReal (x0 (ix3 s a d)) : EReal) := by
  refine real_of _ (Eq.trans (Eq.symm ?_) (congrFun h (ix3 s a d)))
  pointwise [Cert.Pre_finite_scores.fn]
  rfl

theorem fin1 (h : (Cert.Pre_finite_scores.fn (F := Ideal) x0 x1 x2).2.1 = fun _ => 1#1) (s : Fin 32) (n : Fin 1023) (j : Fin 128) :
    x1 (ix3 s n.succ ⟨j.val, by omega⟩) = (EReal.toReal (x1 (ix3 s n.succ ⟨j.val, by omega⟩)) : EReal) := by
  refine real_of _ (Eq.trans (Eq.symm ?_) (congrFun h (ix3 s n j)))
  pointwise [Cert.Pre_finite_scores.fn]
  exact congrArg (fun k => below (x1 (ix3 s k ⟨j.val, by omega⟩))) (Fin.ext (by show 1 + n.val = n.val + 1; omega))

theorem fin2 (h : (Cert.Pre_finite_scores.fn (F := Ideal) x0 x1 x2).2.2 = fun _ => 1#1) (a : Fin 8) (n : Fin 1023) :
    x2 (ix2 a n.succ) = (EReal.toReal (x2 (ix2 a n.succ)) : EReal) := by
  refine real_of _ (Eq.trans (Eq.symm ?_) (congrFun h (ix2 a n)))
  pointwise [Cert.Pre_finite_scores.fn]
  exact congrArg (fun k => below (x2 (ix2 a k))) (Fin.ext (by show 1 + n.val = n.val + 1; omega))

end

theorem algebraic : algebraic_CmpSIdeal_CmpSRefIdeal_pre_finite_scores (hCmpSIdeal := Cert.CmpSIdeal.Gen.facts) (hCmpSRefIdeal := Cert.CmpSRefIdeal.Gen.facts) (hPre_finite_scores := Cert.Pre_finite_scores.Gen.facts) := by
  intro m ρ m' ρ' hp hag
  refine ⟨fun c => CmpSVal.O (m ((c : Thread CmpSIdeal.nD CmpSIdeal.τ).loc CmpSIdeal.main_arg0)) (m ((c : Thread CmpSIdeal.nD CmpSIdeal.τ).loc CmpSIdeal.main_arg1)) (m ((c : Thread CmpSIdeal.nD CmpSIdeal.τ).loc CmpSIdeal.main_arg2)),
    fun c => CmpSVal.I (m ((c : Thread CmpSIdeal.nD CmpSIdeal.τ).loc CmpSIdeal.main_arg0)) (m ((c : Thread CmpSIdeal.nD CmpSIdeal.τ).loc CmpSIdeal.main_arg1)) (m ((c : Thread CmpSIdeal.nD CmpSIdeal.τ).loc CmpSIdeal.main_arg2)), ?_, ?_⟩
  · refine (θ_run _ _ _).mono (fun r h c => ?_) (θ_run_and (Cert.CmpSIdeal.Gen.run_main m ρ) (Cert.CmpSIdeal.Gen.unchanged m ρ))
    exact ⟨((h.1 c).2 _ (by decide)).trans (CmpSVal.out56 m c), ((h.1 c).2 _ (by decide)).trans (CmpSVal.out57 m c), h.2 c⟩
  · refine (θ_run _ _ _).mono (fun r h c => ?_) (Cert.CmpSRefIdeal.Value.run m' ρ')
    obtain ⟨r0, r1, rest⟩ := h c
    obtain ⟨h0, h1, h2⟩ := hag c
    have hf := Cert.Pre_finite_scores.Gen.facts
    obtain ⟨p0, p1, p2⟩ := hp c
    refine ⟨r0.trans ?_, r1.trans ?_, rest⟩
    · rw [Read.val_main_v62_eq, h0, h1, h2]
      exact CmpSRef.ref62 _ _ _ _ (ry_eq _ _ _ (fin0 _ _ _ p0) (fin1 _ _ _ p1) (fin2 _ _ _ p2))
    · rw [Read.val_main_v61_eq, h0, h1, h2]
      exact CmpSRef.ref61 _ _ _ _ (ry_eq _ _ _ (fin0 _ _ _ p0) (fin1 _ _ _ p1) (fin2 _ _ _ p2))

end Cert.CmpSClaim

end
-- ==== Proof.lean ====
module

public import proofs.«01_k».proof.Defs
public import proofs.«01_k».proof.Proof.Gen.Ffn
public import proofs.«01_k».proof.Proof.Gen.Ffn.Frame
public import proofs.«01_k».proof.Proof.Gen.FfnIdeal
public import proofs.«01_k».proof.Proof.Gen.FfnIdeal.Frame
public import proofs.«01_k».proof.Proof.Gen.FfnRefIdeal
public import proofs.«01_k».proof.Proof.Gen.FfnRefIdeal.Run
public import proofs.«01_k».proof.Proof.FfnClaim
public import proofs.«01_k».proof.Proof.Gen.InProj
public import proofs.«01_k».proof.Proof.Gen.InProj.Frame
public import proofs.«01_k».proof.Proof.Gen.InProjIdeal
public import proofs.«01_k».proof.Proof.Gen.InProjIdeal.Frame
public import proofs.«01_k».proof.Proof.Gen.InProjRefIdeal
public import proofs.«01_k».proof.Proof.Gen.InProjRefIdeal.Run
public import proofs.«01_k».proof.Proof.InProjClaim
public import proofs.«01_k».proof.Proof.Gen.Mix
public import proofs.«01_k».proof.Proof.Gen.Mix.Frame
public import proofs.«01_k».proof.Proof.Gen.MixIdeal
public import proofs.«01_k».proof.Proof.Gen.MixIdeal.Frame
public import proofs.«01_k».proof.Proof.Gen.MixRefIdeal
public import proofs.«01_k».proof.Proof.Gen.MixRefIdeal.Run
public import proofs.«01_k».proof.Proof.MixClaim
public import proofs.«01_k».proof.Proof.Gen.InRows
public import proofs.«01_k».proof.Proof.Gen.InRows.Frame
public import proofs.«01_k».proof.Proof.Gen.InRowsIdeal
public import proofs.«01_k».proof.Proof.Gen.InRowsIdeal.Frame
public import proofs.«01_k».proof.Proof.Gen.InRowsRefIdeal
public import proofs.«01_k».proof.Proof.Gen.InRowsRefIdeal.Run
public import proofs.«01_k».proof.Proof.InRowsClaim
public import proofs.«01_k».proof.Proof.Gen.MixS
public import proofs.«01_k».proof.Proof.Gen.MixS.Frame
public import proofs.«01_k».proof.Proof.Gen.MixSIdeal
public import proofs.«01_k».proof.Proof.Gen.MixSIdeal.Frame
public import proofs.«01_k».proof.Proof.Gen.MixSRefIdeal
public import proofs.«01_k».proof.Proof.Gen.MixSRefIdeal.Run
public import proofs.«01_k».proof.Proof.MixSClaim
public import proofs.«01_k».proof.Proof.Gen.FfnS
public import proofs.«01_k».proof.Proof.Gen.FfnS.Frame
public import proofs.«01_k».proof.Proof.Gen.FfnSIdeal
public import proofs.«01_k».proof.Proof.Gen.FfnSIdeal.Frame
public import proofs.«01_k».proof.Proof.Gen.FfnSRefIdeal
public import proofs.«01_k».proof.Proof.Gen.FfnSRefIdeal.Run
public import proofs.«01_k».proof.Proof.FfnSClaim
public import proofs.«01_k».proof.Proof.Gen.CmpS
public import proofs.«01_k».proof.Proof.Gen.CmpS.Frame
public import proofs.«01_k».proof.Proof.Gen.CmpSIdeal
public import proofs.«01_k».proof.Proof.Gen.CmpSIdeal.Frame
public import proofs.«01_k».proof.Proof.Gen.CmpSRefIdeal
public import proofs.«01_k».proof.Proof.Gen.CmpSRefIdeal.Run
public import proofs.«01_k».proof.Proof.CmpSClaim
public import proofs.«01_k».proof.Proof.Gen.Pre_finite_scores
public import Idealize.ShloMosaic.Adequacy
public import Idealize.ShloMosaic.Lib.Quiescent

@[expose] public section

namespace Cert.Proof

open Idealize.ShloMosaic Idealize.SL.Sem

theorem quietFfnRefIdeal : quiescent_FfnRefIdeal (hFfnRefIdeal := Cert.FfnRefIdeal.Gen.facts) :=
  fun m ρ _ => (θ_run _ _ _).mono (fun _ h => ⟨fun c => (h c).2, sem_eq_zero_of_no_sems rfl _⟩) (Cert.FfnRefIdeal.Value.run m ρ)

theorem quietInProjRefIdeal : quiescent_InProjRefIdeal (hInProjRefIdeal := Cert.InProjRefIdeal.Gen.facts) :=
  fun m ρ _ => (θ_run _ _ _).mono (fun _ h => ⟨fun c => (h c).2.2.2, sem_eq_zero_of_no_sems rfl _⟩) (Cert.InProjRefIdeal.Value.run m ρ)

theorem quietMixRefIdeal : quiescent_MixRefIdeal (hMixRefIdeal := Cert.MixRefIdeal.Gen.facts) :=
  fun m ρ _ => (θ_run _ _ _).mono (fun _ h => ⟨fun c => (h c).2, sem_eq_zero_of_no_sems rfl _⟩) (Cert.MixRefIdeal.Value.run m ρ)

theorem quietInRowsRefIdeal : quiescent_InRowsRefIdeal (hInRowsRefIdeal := Cert.InRowsRefIdeal.Gen.facts) :=
  fun m ρ _ => (θ_run _ _ _).mono (fun _ h => ⟨fun c => (h c).2.2.2, sem_eq_zero_of_no_sems rfl _⟩) (Cert.InRowsRefIdeal.Value.run m ρ)

theorem quietMixSRefIdeal : quiescent_MixSRefIdeal (hMixSRefIdeal := Cert.MixSRefIdeal.Gen.facts) :=
  fun m ρ _ => (θ_run _ _ _).mono (fun _ h => ⟨fun c => (h c).2.2, sem_eq_zero_of_no_sems rfl _⟩) (Cert.MixSRefIdeal.Value.run m ρ)

theorem quietFfnSRefIdeal : quiescent_FfnSRefIdeal (hFfnSRefIdeal := Cert.FfnSRefIdeal.Gen.facts) :=
  fun m ρ _ => (θ_run _ _ _).mono (fun _ h => ⟨fun c => (h c).2, sem_eq_zero_of_no_sems rfl _⟩) (Cert.FfnSRefIdeal.Value.run m ρ)

theorem quietCmpSRefIdeal : quiescent_CmpSRefIdeal (hCmpSRefIdeal := Cert.CmpSRefIdeal.Gen.facts) :=
  fun m ρ _ => (θ_run _ _ _).mono (fun _ h => ⟨fun c => (h c).2.2, sem_eq_zero_of_no_sems rfl _⟩) (Cert.CmpSRefIdeal.Value.run m ρ)

/-- The claims of the certificate, each from the module of its name. -/
theorem claim : Cert.Claim :=
  ⟨Cert.Ffn.Gen.facts, Cert.FfnIdeal.Gen.facts, Cert.FfnRefIdeal.Gen.facts, Cert.InProj.Gen.facts, Cert.InProjIdeal.Gen.facts, Cert.InProjRefIdeal.Gen.facts, Cert.Mix.Gen.facts, Cert.MixIdeal.Gen.facts, Cert.MixRefIdeal.Gen.facts, Cert.InRows.Gen.facts, Cert.InRowsIdeal.Gen.facts, Cert.InRowsRefIdeal.Gen.facts, Cert.MixS.Gen.facts, Cert.MixSIdeal.Gen.facts, Cert.MixSRefIdeal.Gen.facts, Cert.FfnS.Gen.facts, Cert.FfnSIdeal.Gen.facts, Cert.FfnSRefIdeal.Gen.facts, Cert.CmpS.Gen.facts, Cert.CmpSIdeal.Gen.facts, Cert.CmpSRefIdeal.Gen.facts, Cert.Pre_finite_scores.Gen.facts,
    fun m ρ _ => Cert.Ffn.Gen.frame m ρ,
    fun m ρ _ => Cert.FfnIdeal.Gen.frame m ρ,
    quietFfnRefIdeal,
    fun m ρ _ => Cert.InProj.Gen.frame m ρ,
    fun m ρ _ => Cert.InProjIdeal.Gen.frame m ρ,
    quietInProjRefIdeal,
    fun m ρ _ => Cert.Mix.Gen.frame m ρ,
    fun m ρ _ => Cert.MixIdeal.Gen.frame m ρ,
    quietMixRefIdeal,
    fun m ρ _ => Cert.InRows.Gen.frame m ρ,
    fun m ρ _ => Cert.InRowsIdeal.Gen.frame m ρ,
    quietInRowsRefIdeal,
    fun m ρ _ => Cert.MixS.Gen.frame m ρ,
    fun m ρ _ => Cert.MixSIdeal.Gen.frame m ρ,
    quietMixSRefIdeal,
    fun m ρ _ => Cert.FfnS.Gen.frame m ρ,
    fun m ρ _ => Cert.FfnSIdeal.Gen.frame m ρ,
    quietFfnSRefIdeal,
    fun m ρ _ => Cert.CmpS.Gen.frame m ρ,
    fun m ρ _ => Cert.CmpSIdeal.Gen.frame m ρ,
    fun m ρ _ => Cert.CmpSIdeal.Gen.frame m ρ,
    quietCmpSRefIdeal,
    fun m ρ _ => quietCmpSRefIdeal m ρ trivial,
    trivial,
    Cert.FfnClaim.algebraic,
    trivial,
    Cert.InProjClaim.algebraic,
    trivial,
    Cert.MixClaim.algebraic,
    trivial,
    Cert.InRowsClaim.algebraic,
    trivial,
    Cert.MixSClaim.algebraic,
    trivial,
    Cert.FfnSClaim.algebraic,
    trivial,
    Cert.CmpSClaim.algebraic⟩

end Cert.Proof
